-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S1 : Shape := ⟨1, ![1]⟩
abbrev S32 : Shape := ⟨1, ![32]⟩
abbrev S_ : Shape := ⟨0, ![]⟩
abbrev S32x1 : Shape := ⟨2, ![32, 1]⟩
abbrev S2x128x512 : Shape := ⟨3, ![2, 128, 512]⟩
abbrev S2 : Shape := ⟨1, ![2]⟩
abbrev S128x1024 : Shape := ⟨2, ![128, 1024]⟩
abbrev S128x128 : Shape := ⟨2, ![128, 128]⟩
abbrev S128x512 : Shape := ⟨2, ![128, 512]⟩
abbrev S1x128x512 : Shape := ⟨3, ![1, 128, 512]⟩

abbrev nBuf : Space → Nat
  | .hbm => 145
  | .vmem => 13
  | .smem => 4
  | _ => 0

abbrev hbmTy0_0 (i : Nat) : BufTy := match i % 128 with
  | 0 => ⟨S4096x128, .fp8e5m2⟩
  | 1 => ⟨S128x2048, .fp8e5m2⟩
  | 2 => ⟨S1, .f32⟩
  | 3 => ⟨S1, .f32⟩
  | 4 => ⟨S32, .i32⟩
  | 5 => ⟨S32, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S1, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i1⟩
  | 32 => ⟨S_, .i32⟩
  | 33 => ⟨S_, .i1⟩
  | 34 => ⟨S_, .i1⟩
  | 35 => ⟨S_, .i1⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S1, .i32⟩
  | 44 => ⟨S_, .i32⟩
  | 45 => ⟨S1, .i32⟩
  | 46 => ⟨S_, .i32⟩
  | 47 => ⟨S_, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i1⟩
  | 59 => ⟨S_, .i32⟩
  | 60 => ⟨S_, .i1⟩
  | 61 => ⟨S_, .i1⟩
  | 62 => ⟨S_, .i1⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S1, .i32⟩
  | 71 => ⟨S_, .i32⟩
  | 72 => ⟨S1, .i32⟩
  | 73 => ⟨S32, .i32⟩
  | 74 => ⟨S_, .i32⟩
  | 75 => ⟨S_, .i32⟩
  | 76 => ⟨S32, .i32⟩
  | 77 => ⟨S32, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S32, .i32⟩
  | 85 => ⟨S32, .i32⟩
  | 86 => ⟨S_, .i32⟩
  | 87 => ⟨S32, .i32⟩
  | 88 => ⟨S32, .i1⟩
  | 89 => ⟨S_, .i32⟩
  | 90 => ⟨S32, .i32⟩
  | 91 => ⟨S32, .i1⟩
  | 92 => ⟨S_, .i32⟩
  | 93 => ⟨S_, .i1⟩
  | 94 => ⟨S32, .i1⟩
  | 95 => ⟨S32, .i1⟩
  | 96 => ⟨S32, .i1⟩
  | 97 => ⟨S32, .i32⟩
  | 98 => ⟨S32, .i32⟩
  | 99 => ⟨S32, .i32⟩
  | 100 => ⟨S_, .i32⟩
  | 101 => ⟨S32, .i32⟩
  | 102 => ⟨S32, .i1⟩
  | 103 => ⟨S_, .i32⟩
  | 104 => ⟨S32, .i32⟩
  | 105 => ⟨S32, .i32⟩
  | 106 => ⟨S32, .i32⟩
  | 107 => ⟨S32x1, .i32⟩
  | 108 => ⟨S32, .i32⟩
  | 109 => ⟨S_, .i32⟩
  | 110 => ⟨S_, .i32⟩
  | 111 => ⟨S32, .i32⟩
  | 112 => ⟨S32, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S32, .i32⟩
  | 120 => ⟨S32, .i32⟩
  | 121 => ⟨S_, .i32⟩
  | 122 => ⟨S32, .i32⟩
  | 123 => ⟨S32, .i1⟩
  | 124 => ⟨S_, .i32⟩
  | 125 => ⟨S32, .i32⟩
  | 126 => ⟨S32, .i1⟩
  | 127 => ⟨S_, .i32⟩
  | _ => ⟨S4096x128, .fp8e5m2⟩

abbrev hbmTy0_1 (i : Nat) : BufTy := match i % 128 with
  | 0 => ⟨S_, .i1⟩
  | 1 => ⟨S32, .i1⟩
  | 2 => ⟨S32, .i1⟩
  | 3 => ⟨S32, .i1⟩
  | 4 => ⟨S32, .i32⟩
  | 5 => ⟨S32, .i32⟩
  | 6 => ⟨S32, .i32⟩
  | 7 => ⟨S_, .i32⟩
  | 8 => ⟨S32, .i32⟩
  | 9 => ⟨S32, .i1⟩
  | 10 => ⟨S_, .i32⟩
  | 11 => ⟨S32, .i32⟩
  | 12 => ⟨S32, .i32⟩
  | 13 => ⟨S32, .i32⟩
  | 14 => ⟨S32x1, .i32⟩
  | 15 => ⟨S32, .i32⟩
  | 16 => ⟨S128x2048, .f32⟩
  | _ => ⟨S4096x128, .fp8e5m2⟩

abbrev hbmTy (i : Nat) : BufTy := match i / 128 with
  | 0 => hbmTy0_0 i
  | 1 => hbmTy0_1 i
  | _ => ⟨S4096x128, .fp8e5m2⟩

abbrev bufTy : (tb : Table) → Fin (tcTables nBuf tb) → BufTy
  | .hbm, ⟨i, _⟩ => hbmTy i
  | .local _ .vmem, ⟨0, _⟩ => ⟨S4096x128, .fp8e5m2⟩
  | .local _ .vmem, ⟨1, _⟩ => ⟨S128x2048, .fp8e5m2⟩
  | .local _ .vmem, ⟨2, _⟩ => ⟨S1, .f32⟩
  | .local _ .vmem, ⟨3, _⟩ => ⟨S1, .f32⟩
  | .local _ .vmem, ⟨4, _⟩ => ⟨S128x2048, .f32⟩
  | .local _ .vmem, ⟨5, _⟩ => ⟨S2x128x512, .bf16⟩
  | .local _ .vmem, ⟨6, _⟩ => ⟨S2x128x512, .bf16⟩
  | .local _ .vmem, ⟨7, _⟩ => ⟨S2x128x512, .bf16⟩
  | .local _ .vmem, ⟨8, _⟩ => ⟨S2x128x512, .bf16⟩
  | .local _ .vmem, ⟨9, _⟩ => ⟨S2x128x512, .bf16⟩
  | .local _ .vmem, ⟨10, _⟩ => ⟨S2x128x512, .bf16⟩
  | .local _ .vmem, ⟨11, _⟩ => ⟨S2x128x512, .bf16⟩
  | .local _ .vmem, ⟨12, _⟩ => ⟨S2x128x512, .bf16⟩
  | .local _ .smem, ⟨0, _⟩ => ⟨S1, .i32⟩
  | .local _ .smem, ⟨1, _⟩ => ⟨S1, .i32⟩
  | .local _ .smem, ⟨2, _⟩ => ⟨S32, .i32⟩
  | .local _ .smem, ⟨3, _⟩ => ⟨S32, .i32⟩
  | _, _ => ⟨S4096x128, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | .smem, ⟨3, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 5 25 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_3 : Ref sig .tc := ⟨.hbm, 12, rfl⟩
abbrev main_v5 : Ref sig .tc := ⟨.hbm, 13, rfl⟩
abbrev main_c_4 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_5 : Ref sig .tc := ⟨.hbm, 19, rfl⟩
abbrev main_v10 : Ref sig .tc := ⟨.hbm, 20, rfl⟩
abbrev main_c_6 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_c_1 : Ref sig .tc := ⟨.hbm, 28, rfl⟩
abbrev main_call0_v4 : Ref sig .tc := ⟨.hbm, 29, rfl⟩
abbrev main_call0_c_2 : Ref sig .tc := ⟨.hbm, 30, rfl⟩
abbrev main_call0_v5 : Ref sig .tc := ⟨.hbm, 31, rfl⟩
abbrev main_call0_c_3 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_v11 : Ref sig .tc := ⟨.hbm, 37, rfl⟩
abbrev main_c_7 : Ref sig .tc := ⟨.hbm, 38, rfl⟩
abbrev main_v12 : Ref sig .tc := ⟨.hbm, 39, rfl⟩
abbrev main_c_8 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_9 : Ref sig .tc := ⟨.hbm, 46, rfl⟩
abbrev main_v18 : Ref sig .tc := ⟨.hbm, 47, rfl⟩
abbrev main_c_10 : Ref sig .tc := ⟨.hbm, 48, rfl⟩
abbrev main_call1_v0 : Ref sig .tc := ⟨.hbm, 49, rfl⟩
abbrev main_call1_c : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_c_1 : Ref sig .tc := ⟨.hbm, 55, rfl⟩
abbrev main_call1_v4 : Ref sig .tc := ⟨.hbm, 56, rfl⟩
abbrev main_call1_c_2 : Ref sig .tc := ⟨.hbm, 57, rfl⟩
abbrev main_call1_v5 : Ref sig .tc := ⟨.hbm, 58, rfl⟩
abbrev main_call1_c_3 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_v19 : Ref sig .tc := ⟨.hbm, 64, rfl⟩
abbrev main_c_11 : Ref sig .tc := ⟨.hbm, 65, rfl⟩
abbrev main_v20 : Ref sig .tc := ⟨.hbm, 66, rfl⟩
abbrev main_c_12 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_c_13 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_c_14 : Ref sig .tc := ⟨.hbm, 78, rfl⟩
abbrev main_call2_v0 : Ref sig .tc := ⟨.hbm, 79, rfl⟩
abbrev main_call2_c : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_c_1 : Ref sig .tc := ⟨.hbm, 86, rfl⟩
abbrev main_call2_v5 : Ref sig .tc := ⟨.hbm, 87, rfl⟩
abbrev main_call2_v6 : Ref sig .tc := ⟨.hbm, 88, rfl⟩
abbrev main_call2_c_2 : Ref sig .tc := ⟨.hbm, 89, rfl⟩
abbrev main_call2_v7 : Ref sig .tc := ⟨.hbm, 90, rfl⟩
abbrev main_call2_v8 : Ref sig .tc := ⟨.hbm, 91, rfl⟩
abbrev main_call2_c_3 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_v30 : Ref sig .tc := ⟨.hbm, 99, rfl⟩
abbrev main_c_15 : Ref sig .tc := ⟨.hbm, 100, rfl⟩
abbrev main_v31 : Ref sig .tc := ⟨.hbm, 101, rfl⟩
abbrev main_v32 : Ref sig .tc := ⟨.hbm, 102, rfl⟩
abbrev main_c_16 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_c_17 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_c_18 : Ref sig .tc := ⟨.hbm, 113, rfl⟩
abbrev main_call3_v0 : Ref sig .tc := ⟨.hbm, 114, rfl⟩
abbrev main_call3_c : Ref sig .tc := ⟨.hbm, 115, rfl⟩
abbrev main_call3_v1 : Ref sig .tc := ⟨.hbm, 116, rfl⟩
abbrev main_call3_c_0 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_c_1 : Ref sig .tc := ⟨.hbm, 121, rfl⟩
abbrev main_call3_v5 : Ref sig .tc := ⟨.hbm, 122, rfl⟩
abbrev main_call3_v6 : Ref sig .tc := ⟨.hbm, 123, rfl⟩
abbrev main_call3_c_2 : Ref sig .tc := ⟨.hbm, 124, rfl⟩
abbrev main_call3_v7 : Ref sig .tc := ⟨.hbm, 125, rfl⟩
abbrev main_call3_v8 : Ref sig .tc := ⟨.hbm, 126, rfl⟩
abbrev main_call3_c_3 : Ref sig .tc := ⟨.hbm, 127, rfl⟩
abbrev main_call3_v9 : Ref sig .tc := ⟨.hbm, 128, rfl⟩
abbrev main_call3_v10 : Ref sig .tc := ⟨.hbm, 129, rfl⟩
abbrev main_call3_v11 : Ref sig .tc := ⟨.hbm, 130, rfl⟩
abbrev main_call3_v12 : Ref sig .tc := ⟨.hbm, 131, rfl⟩
abbrev main_call3_v13 : Ref sig .tc := ⟨.hbm, 132, rfl⟩
abbrev main_call3_v14 : Ref sig .tc := ⟨.hbm, 133, rfl⟩
abbrev main_v41 : Ref sig .tc := ⟨.hbm, 134, rfl⟩
abbrev main_c_19 : Ref sig .tc := ⟨.hbm, 135, rfl⟩
abbrev main_v42 : Ref sig .tc := ⟨.hbm, 136, rfl⟩
abbrev main_v43 : Ref sig .tc := ⟨.hbm, 137, rfl⟩
abbrev main_c_20 : Ref sig .tc := ⟨.hbm, 138, rfl⟩
abbrev main_v44 : Ref sig .tc := ⟨.hbm, 139, rfl⟩
abbrev main_v45 : Ref sig .tc := ⟨.hbm, 140, rfl⟩
abbrev main_v46 : Ref sig .tc := ⟨.hbm, 141, rfl⟩
abbrev main_v47 : Ref sig .tc := ⟨.hbm, 142, rfl⟩
abbrev main_v48 : Ref sig .tc := ⟨.hbm, 143, rfl⟩
abbrev main_v49 : Ref sig .tc := ⟨.hbm, 144, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg8_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch10 : Ref sig .tc := ⟨.vmem, 9, rfl⟩
abbrev cc0_scratch11 : Ref sig .tc := ⟨.vmem, 10, rfl⟩
abbrev cc0_scratch15 : Ref sig .tc := ⟨.vmem, 11, rfl⟩
abbrev cc0_scratch16 : Ref sig .tc := ⟨.vmem, 12, rfl⟩
abbrev cc0_stg4_0 : Ref sig .tc := ⟨.smem, 0, rfl⟩
abbrev cc0_stg5_0 : Ref sig .tc := ⟨.smem, 1, rfl⟩
abbrev cc0_stg6_0 : Ref sig .tc := ⟨.smem, 2, rfl⟩
abbrev cc0_stg7_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 4

abbrev nD : Nat := 32
abbrev τ : Topo := Topo.v7x

variable {F : FTy → Type} [FloatOps F]

abbrev grid0 : Pipeline.Grid := .none

def k0_dev1 (v0 : BitVec 32) : Nat :=
  let c0_i32 : BitVec 32 := 0#32
  let c1_i32_1 : BitVec 32 := 1#32
  let v3 : BitVec 32 := Scalar.muli v0 c1_i32_1
  let v4 : BitVec 32 := Scalar.addi c0_i32 v3
  v4.toNat

def k0_dev2 (v1 : BitVec 32) : Nat :=
  let c0_i32_4 : BitVec 32 := 0#32
  let c1_i32_3 : BitVec 32 := 1#32
  let v5 : BitVec 32 := Scalar.muli v1 c1_i32_3
  let v6 : BitVec 32 := Scalar.addi c0_i32_4 v5
  v6.toNat

def k0_off1 (v18 : BitVec 32) : Fin 2 → Nat :=
  let c128_i32 : BitVec 32 := 128#32
  let v20 : BitVec 32 := Scalar.muli v18 c128_i32
  let v21 : Index := Scalar.indexCast v20
  let c0_12 : Index := 0#32
  ![v21.toNat, 0]

def k0_chk3 (v18 : BitVec 32) : Prop :=
  (∀ a, (k0_off1 v18) a + S128x128.size a ≤ S4096x128.size a)
theorem k0_off1_inb : ∀ (v18 : BitVec 32) (k0_hw3 : k0_chk3 v18), ∀ a, (k0_off1 v18) a + S128x128.size a ≤ S4096x128.size a := fun v18 k0_hw3 => k0_hw3

def k0_off2 (v19 : BitVec 32) : Fin 2 → Nat :=
  let c128_i32_13 : BitVec 32 := 128#32
  let v25 : BitVec 32 := Scalar.muli v19 c128_i32_13
  let v26 : Index := Scalar.indexCast v25
  let c0_14 : Index := 0#32
  ![v26.toNat, 0]

def k0_chk4 (v19 : BitVec 32) : Prop :=
  (∀ a, (k0_off2 v19) a + S128x128.size a ≤ S4096x128.size a)
theorem k0_off2_inb : ∀ (v19 : BitVec 32) (k0_hw4 : k0_chk4 v19), ∀ a, (k0_off2 v19) a + S128x128.size a ≤ S4096x128.size a := fun v19 k0_hw4 => k0_hw4

def k0_dev3 (v1 : BitVec 32) : Nat :=
  let c0_i32_24 : BitVec 32 := 0#32
  let c1_i32_23 : BitVec 32 := 1#32
  let v43 : BitVec 32 := Scalar.muli v1 c1_i32_23
  let v44 : BitVec 32 := Scalar.addi c0_i32_24 v43
  v44.toNat
def k0_dev4 (v1 : BitVec 32) : Nat :=
  let c0_i32_37 : BitVec 32 := 0#32
  let c1_i32_36 : BitVec 32 := 1#32
  let v56 : BitVec 32 := Scalar.muli v1 c1_i32_36
  let v57 : BitVec 32 := Scalar.addi c0_i32_37 v56
  v57.toNat
def k0_dev5 (v0 : BitVec 32) : Nat :=
  let c0_i32_50 : BitVec 32 := 0#32
  let c1_i32_49 : BitVec 32 := 1#32
  let v69 : BitVec 32 := Scalar.muli v0 c1_i32_49
  let v70 : BitVec 32 := Scalar.addi c0_i32_50 v69
  v70.toNat
def k0_dev6 (v0 : BitVec 32) : Nat :=
  let c0_i32_63 : BitVec 32 := 0#32
  let c1_i32_62 : BitVec 32 := 1#32
  let v82 : BitVec 32 := Scalar.muli v0 c1_i32_62
  let v83 : BitVec 32 := Scalar.addi c0_i32_63 v82
  v83.toNat
def k0_off3 (v92 : BitVec 32) : Fin 2 → Nat :=
  let c128_i32_69 : BitVec 32 := 128#32
  let v94 : BitVec 32 := Scalar.muli v92 c128_i32_69
  let v95 : Index := Scalar.indexCast v94
  let c0_70 : Index := 0#32
  ![v95.toNat, 0]

def k0_chk5 (v92 : BitVec 32) : Prop :=
  (∀ a, (k0_off3 v92) a + S128x128.size a ≤ S4096x128.size a)
theorem k0_off3_inb : ∀ (v92 : BitVec 32) (k0_hw5 : k0_chk5 v92), ∀ a, (k0_off3 v92) a + S128x128.size a ≤ S4096x128.size a := fun v92 k0_hw5 => k0_hw5

def k0_off4 (v93 : BitVec 32) : Fin 2 → Nat :=
  let c128_i32_71 : BitVec 32 := 128#32
  let v99 : BitVec 32 := Scalar.muli v93 c128_i32_71
  let v100 : Index := Scalar.indexCast v99
  let c0_72 : Index := 0#32
  ![v100.toNat, 0]

def k0_chk6 (v93 : BitVec 32) : Prop :=
  (∀ a, (k0_off4 v93) a + S128x128.size a ≤ S4096x128.size a)
theorem k0_off4_inb : ∀ (v93 : BitVec 32) (k0_hw6 : k0_chk6 v93), ∀ a, (k0_off4 v93) a + S128x128.size a ≤ S4096x128.size a := fun v93 k0_hw6 => k0_hw6

def k0_dev7 (v0 : BitVec 32) : Nat :=
  let c0_i32_90 : BitVec 32 := 0#32
  let c1_i32_89 : BitVec 32 := 1#32
  let v125 : BitVec 32 := Scalar.muli v0 c1_i32_89
  let v126 : BitVec 32 := Scalar.addi c0_i32_90 v125
  v126.toNat
def k0_dev8 (v1 : BitVec 32) : Nat :=
  let c0_i32_99 : BitVec 32 := 0#32
  let c1_i32_98 : BitVec 32 := 1#32
  let v130 : BitVec 32 := Scalar.muli v1 c1_i32_98
  let v131 : BitVec 32 := Scalar.addi c0_i32_99 v130
  v131.toNat
def k0_dev9 (v0 : BitVec 32) : Nat :=
  let c0_i32_119 : BitVec 32 := 0#32
  let c1_i32_118 : BitVec 32 := 1#32
  let v151 : BitVec 32 := Scalar.muli v0 c1_i32_118
  let v152 : BitVec 32 := Scalar.addi c0_i32_119 v151
  v152.toNat
def k0_dev10 (v1 : BitVec 32) : Nat :=
  let c0_i32_128 : BitVec 32 := 0#32
  let c1_i32_127 : BitVec 32 := 1#32
  let v156 : BitVec 32 := Scalar.muli v1 c1_i32_127
  let v157 : BitVec 32 := Scalar.addi c0_i32_128 v156
  v157.toNat
def k0_dev11 (v1 : BitVec 32) : Nat :=
  let c0_i32_148 : BitVec 32 := 0#32
  let c1_i32_147 : BitVec 32 := 1#32
  let v177 : BitVec 32 := Scalar.muli v1 c1_i32_147
  let v178 : BitVec 32 := Scalar.addi c0_i32_148 v177
  v178.toNat
def k0_dev12 (v0 : BitVec 32) : Nat :=
  let c0_i32_157 : BitVec 32 := 0#32
  let c1_i32_156 : BitVec 32 := 1#32
  let v182 : BitVec 32 := Scalar.muli v0 c1_i32_156
  let v183 : BitVec 32 := Scalar.addi c0_i32_157 v182
  v183.toNat
def k0_dev13 (v1 : BitVec 32) : Nat :=
  let c0_i32_177 : BitVec 32 := 0#32
  let c1_i32_176 : BitVec 32 := 1#32
  let v203 : BitVec 32 := Scalar.muli v1 c1_i32_176
  let v204 : BitVec 32 := Scalar.addi c0_i32_177 v203
  v204.toNat
def k0_dev14 (v0 : BitVec 32) : Nat :=
  let c0_i32_186 : BitVec 32 := 0#32
  let c1_i32_185 : BitVec 32 := 1#32
  let v208 : BitVec 32 := Scalar.muli v0 c1_i32_185
  let v209 : BitVec 32 := Scalar.addi c0_i32_186 v208
  v209.toNat
def k0_off5 (v218 : BitVec 32) : Fin 2 → Nat :=
  let c128_i32_192 : BitVec 32 := 128#32
  let v220 : BitVec 32 := Scalar.muli v218 c128_i32_192
  let v221 : Index := Scalar.indexCast v220
  let c0_193 : Index := 0#32
  ![v221.toNat, 0]

def k0_chk7 (v218 : BitVec 32) : Prop :=
  (∀ a, (k0_off5 v218) a + S128x128.size a ≤ S4096x128.size a)
theorem k0_off5_inb : ∀ (v218 : BitVec 32) (k0_hw7 : k0_chk7 v218), ∀ a, (k0_off5 v218) a + S128x128.size a ≤ S4096x128.size a := fun v218 k0_hw7 => k0_hw7

def k0_off6 (v219 : BitVec 32) : Fin 2 → Nat :=
  let c128_i32_194 : BitVec 32 := 128#32
  let v225 : BitVec 32 := Scalar.muli v219 c128_i32_194
  let v226 : Index := Scalar.indexCast v225
  let c0_195 : Index := 0#32
  ![v226.toNat, 0]

def k0_chk8 (v219 : BitVec 32) : Prop :=
  (∀ a, (k0_off6 v219) a + S128x128.size a ≤ S4096x128.size a)
theorem k0_off6_inb : ∀ (v219 : BitVec 32) (k0_hw8 : k0_chk8 v219), ∀ a, (k0_off6 v219) a + S128x128.size a ≤ S4096x128.size a := fun v219 k0_hw8 => k0_hw8

def k0_dev15 (v0 : BitVec 32) : Nat :=
  let c0_i32_213 : BitVec 32 := 0#32
  let c1_i32_212 : BitVec 32 := 1#32
  let v251 : BitVec 32 := Scalar.muli v0 c1_i32_212
  let v252 : BitVec 32 := Scalar.addi c0_i32_213 v251
  v252.toNat
def k0_dev16 (v1 : BitVec 32) : Nat :=
  let c0_i32_233 : BitVec 32 := 0#32
  let c1_i32_232 : BitVec 32 := 1#32
  let v262 : BitVec 32 := Scalar.muli v1 c1_i32_232
  let v263 : BitVec 32 := Scalar.addi c0_i32_233 v262
  v263.toNat
def k0_dev17 (v0 : BitVec 32) : Nat :=
  let c0_i32_253 : BitVec 32 := 0#32
  let c1_i32_252 : BitVec 32 := 1#32
  let v283 : BitVec 32 := Scalar.muli v0 c1_i32_252
  let v284 : BitVec 32 := Scalar.addi c0_i32_253 v283
  v284.toNat
def k0_dev18 (v1 : BitVec 32) : Nat :=
  let c0_i32_273 : BitVec 32 := 0#32
  let c1_i32_272 : BitVec 32 := 1#32
  let v294 : BitVec 32 := Scalar.muli v1 c1_i32_272
  let v295 : BitVec 32 := Scalar.addi c0_i32_273 v294
  v295.toNat
def k0_dev19 (v1 : BitVec 32) : Nat :=
  let c0_i32_293 : BitVec 32 := 0#32
  let c1_i32_292 : BitVec 32 := 1#32
  let v315 : BitVec 32 := Scalar.muli v1 c1_i32_292
  let v316 : BitVec 32 := Scalar.addi c0_i32_293 v315
  v316.toNat
def k0_dev20 (v0 : BitVec 32) : Nat :=
  let c0_i32_313 : BitVec 32 := 0#32
  let c1_i32_312 : BitVec 32 := 1#32
  let v326 : BitVec 32 := Scalar.muli v0 c1_i32_312
  let v327 : BitVec 32 := Scalar.addi c0_i32_313 v326
  v327.toNat
def k0_dev21 (v1 : BitVec 32) : Nat :=
  let c0_i32_333 : BitVec 32 := 0#32
  let c1_i32_332 : BitVec 32 := 1#32
  let v347 : BitVec 32 := Scalar.muli v1 c1_i32_332
  let v348 : BitVec 32 := Scalar.addi c0_i32_333 v347
  v348.toNat
def k0_dev22 (v0 : BitVec 32) : Nat :=
  let c0_i32_353 : BitVec 32 := 0#32
  let c1_i32_352 : BitVec 32 := 1#32
  let v358 : BitVec 32 := Scalar.muli v0 c1_i32_352
  let v359 : BitVec 32 := Scalar.addi c0_i32_353 v358
  v359.toNat
def k0_off7 (v368 : BitVec 32) : Fin 2 → Nat :=
  let c128_i32_359 : BitVec 32 := 128#32
  let v370 : BitVec 32 := Scalar.muli v368 c128_i32_359
  let v371 : Index := Scalar.indexCast v370
  let c0_360 : Index := 0#32
  ![v371.toNat, 0]

def k0_chk9 (v368 : BitVec 32) : Prop :=
  (∀ a, (k0_off7 v368) a + S128x128.size a ≤ S4096x128.size a)
theorem k0_off7_inb : ∀ (v368 : BitVec 32) (k0_hw9 : k0_chk9 v368), ∀ a, (k0_off7 v368) a + S128x128.size a ≤ S4096x128.size a := fun v368 k0_hw9 => k0_hw9

def k0_off8 (v369 : BitVec 32) : Fin 2 → Nat :=
  let c128_i32_361 : BitVec 32 := 128#32
  let v375 : BitVec 32 := Scalar.muli v369 c128_i32_361
  let v376 : Index := Scalar.indexCast v375
  let c0_362 : Index := 0#32
  ![v376.toNat, 0]

def k0_chk10 (v369 : BitVec 32) : Prop :=
  (∀ a, (k0_off8 v369) a + S128x128.size a ≤ S4096x128.size a)
theorem k0_off8_inb : ∀ (v369 : BitVec 32) (k0_hw10 : k0_chk10 v369), ∀ a, (k0_off8 v369) a + S128x128.size a ≤ S4096x128.size a := fun v369 k0_hw10 => k0_hw10

def k0_dev23 (v0 : BitVec 32) : Nat :=
  let c0_i32_380 : BitVec 32 := 0#32
  let c1_i32_379 : BitVec 32 := 1#32
  let v401 : BitVec 32 := Scalar.muli v0 c1_i32_379
  let v402 : BitVec 32 := Scalar.addi c0_i32_380 v401
  v402.toNat
def k0_dev24 (v1 : BitVec 32) : Nat :=
  let c0_i32_400 : BitVec 32 := 0#32
  let c1_i32_399 : BitVec 32 := 1#32
  let v412 : BitVec 32 := Scalar.muli v1 c1_i32_399
  let v413 : BitVec 32 := Scalar.addi c0_i32_400 v412
  v413.toNat
def k0_dev25 (v0 : BitVec 32) : Nat :=
  let c0_i32_420 : BitVec 32 := 0#32
  let c1_i32_419 : BitVec 32 := 1#32
  let v433 : BitVec 32 := Scalar.muli v0 c1_i32_419
  let v434 : BitVec 32 := Scalar.addi c0_i32_420 v433
  v434.toNat
def k0_dev26 (v1 : BitVec 32) : Nat :=
  let c0_i32_440 : BitVec 32 := 0#32
  let c1_i32_439 : BitVec 32 := 1#32
  let v444 : BitVec 32 := Scalar.muli v1 c1_i32_439
  let v445 : BitVec 32 := Scalar.addi c0_i32_440 v444
  v445.toNat
def k0_dev27 (v1 : BitVec 32) : Nat :=
  let c0_i32_460 : BitVec 32 := 0#32
  let c1_i32_459 : BitVec 32 := 1#32
  let v465 : BitVec 32 := Scalar.muli v1 c1_i32_459
  let v466 : BitVec 32 := Scalar.addi c0_i32_460 v465
  v466.toNat
def k0_dev28 (v0 : BitVec 32) : Nat :=
  let c0_i32_480 : BitVec 32 := 0#32
  let c1_i32_479 : BitVec 32 := 1#32
  let v476 : BitVec 32 := Scalar.muli v0 c1_i32_479
  let v477 : BitVec 32 := Scalar.addi c0_i32_480 v476
  v477.toNat
def k0_dev29 (v1 : BitVec 32) : Nat :=
  let c0_i32_500 : BitVec 32 := 0#32
  let c1_i32_499 : BitVec 32 := 1#32
  let v497 : BitVec 32 := Scalar.muli v1 c1_i32_499
  let v498 : BitVec 32 := Scalar.addi c0_i32_500 v497
  v498.toNat
def k0_dev30 (v0 : BitVec 32) : Nat :=
  let c0_i32_520 : BitVec 32 := 0#32
  let c1_i32_519 : BitVec 32 := 1#32
  let v508 : BitVec 32 := Scalar.muli v0 c1_i32_519
  let v509 : BitVec 32 := Scalar.addi c0_i32_520 v508
  v509.toNat
def k0_off9 (v518 : BitVec 32) : Fin 2 → Nat :=
  let c128_i32_526 : BitVec 32 := 128#32
  let v520 : BitVec 32 := Scalar.muli v518 c128_i32_526
  let v521 : Index := Scalar.indexCast v520
  let c0_527 : Index := 0#32
  ![v521.toNat, 0]

def k0_chk11 (v518 : BitVec 32) : Prop :=
  (∀ a, (k0_off9 v518) a + S128x128.size a ≤ S4096x128.size a)
theorem k0_off9_inb : ∀ (v518 : BitVec 32) (k0_hw11 : k0_chk11 v518), ∀ a, (k0_off9 v518) a + S128x128.size a ≤ S4096x128.size a := fun v518 k0_hw11 => k0_hw11

def k0_off10 (v519 : BitVec 32) : Fin 2 → Nat :=
  let c128_i32_528 : BitVec 32 := 128#32
  let v525 : BitVec 32 := Scalar.muli v519 c128_i32_528
  let v526 : Index := Scalar.indexCast v525
  let c0_529 : Index := 0#32
  ![v526.toNat, 0]

def k0_chk12 (v519 : BitVec 32) : Prop :=
  (∀ a, (k0_off10 v519) a + S128x128.size a ≤ S4096x128.size a)
theorem k0_off10_inb : ∀ (v519 : BitVec 32) (k0_hw12 : k0_chk12 v519), ∀ a, (k0_off10 v519) a + S128x128.size a ≤ S4096x128.size a := fun v519 k0_hw12 => k0_hw12

def k0_dev31 (v0 : BitVec 32) : Nat :=
  let c0_i32_547 : BitVec 32 := 0#32
  let c1_i32_546 : BitVec 32 := 1#32
  let v551 : BitVec 32 := Scalar.muli v0 c1_i32_546
  let v552 : BitVec 32 := Scalar.addi c0_i32_547 v551
  v552.toNat
def k0_dev32 (v1 : BitVec 32) : Nat :=
  let c0_i32_567 : BitVec 32 := 0#32
  let c1_i32_566 : BitVec 32 := 1#32
  let v562 : BitVec 32 := Scalar.muli v1 c1_i32_566
  let v563 : BitVec 32 := Scalar.addi c0_i32_567 v562
  v563.toNat
def k0_dev33 (v0 : BitVec 32) : Nat :=
  let c0_i32_587 : BitVec 32 := 0#32
  let c1_i32_586 : BitVec 32 := 1#32
  let v583 : BitVec 32 := Scalar.muli v0 c1_i32_586
  let v584 : BitVec 32 := Scalar.addi c0_i32_587 v583
  v584.toNat
def k0_dev34 (v1 : BitVec 32) : Nat :=
  let c0_i32_607 : BitVec 32 := 0#32
  let c1_i32_606 : BitVec 32 := 1#32
  let v594 : BitVec 32 := Scalar.muli v1 c1_i32_606
  let v595 : BitVec 32 := Scalar.addi c0_i32_607 v594
  v595.toNat
def k0_dev35 (v1 : BitVec 32) : Nat :=
  let c0_i32_627 : BitVec 32 := 0#32
  let c1_i32_626 : BitVec 32 := 1#32
  let v615 : BitVec 32 := Scalar.muli v1 c1_i32_626
  let v616 : BitVec 32 := Scalar.addi c0_i32_627 v615
  v616.toNat
def k0_dev36 (v0 : BitVec 32) : Nat :=
  let c0_i32_647 : BitVec 32 := 0#32
  let c1_i32_646 : BitVec 32 := 1#32
  let v626 : BitVec 32 := Scalar.muli v0 c1_i32_646
  let v627 : BitVec 32 := Scalar.addi c0_i32_647 v626
  v627.toNat
def k0_dev37 (v1 : BitVec 32) : Nat :=
  let c0_i32_667 : BitVec 32 := 0#32
  let c1_i32_666 : BitVec 32 := 1#32
  let v647 : BitVec 32 := Scalar.muli v1 c1_i32_666
  let v648 : BitVec 32 := Scalar.addi c0_i32_667 v647
  v648.toNat
def k0_dev38 (v0 : BitVec 32) : Nat :=
  let c0_i32_687 : BitVec 32 := 0#32
  let c1_i32_686 : BitVec 32 := 1#32
  let v658 : BitVec 32 := Scalar.muli v0 c1_i32_686
  let v659 : BitVec 32 := Scalar.addi c0_i32_687 v658
  v659.toNat
def k0_off11 (v668 : BitVec 32) : Fin 2 → Nat :=
  let c128_i32_693 : BitVec 32 := 128#32
  let v670 : BitVec 32 := Scalar.muli v668 c128_i32_693
  let v671 : Index := Scalar.indexCast v670
  let c0_694 : Index := 0#32
  ![v671.toNat, 0]

def k0_chk13 (v668 : BitVec 32) : Prop :=
  (∀ a, (k0_off11 v668) a + S128x128.size a ≤ S4096x128.size a)
theorem k0_off11_inb : ∀ (v668 : BitVec 32) (k0_hw13 : k0_chk13 v668), ∀ a, (k0_off11 v668) a + S128x128.size a ≤ S4096x128.size a := fun v668 k0_hw13 => k0_hw13

def k0_off12 (v669 : BitVec 32) : Fin 2 → Nat :=
  let c128_i32_695 : BitVec 32 := 128#32
  let v675 : BitVec 32 := Scalar.muli v669 c128_i32_695
  let v676 : Index := Scalar.indexCast v675
  let c0_696 : Index := 0#32
  ![v676.toNat, 0]

def k0_chk14 (v669 : BitVec 32) : Prop :=
  (∀ a, (k0_off12 v669) a + S128x128.size a ≤ S4096x128.size a)
theorem k0_off12_inb : ∀ (v669 : BitVec 32) (k0_hw14 : k0_chk14 v669), ∀ a, (k0_off12 v669) a + S128x128.size a ≤ S4096x128.size a := fun v669 k0_hw14 => k0_hw14

def k0_dev39 (v0 : BitVec 32) : Nat :=
  let c0_i32_714 : BitVec 32 := 0#32
  let c1_i32_713 : BitVec 32 := 1#32
  let v701 : BitVec 32 := Scalar.muli v0 c1_i32_713
  let v702 : BitVec 32 := Scalar.addi c0_i32_714 v701
  v702.toNat
def k0_dev40 (v1 : BitVec 32) : Nat :=
  let c0_i32_734 : BitVec 32 := 0#32
  let c1_i32_733 : BitVec 32 := 1#32
  let v712 : BitVec 32 := Scalar.muli v1 c1_i32_733
  let v713 : BitVec 32 := Scalar.addi c0_i32_734 v712
  v713.toNat
def k0_dev41 (v0 : BitVec 32) : Nat :=
  let c0_i32_754 : BitVec 32 := 0#32
  let c1_i32_753 : BitVec 32 := 1#32
  let v733 : BitVec 32 := Scalar.muli v0 c1_i32_753
  let v734 : BitVec 32 := Scalar.addi c0_i32_754 v733
  v734.toNat
def k0_dev42 (v1 : BitVec 32) : Nat :=
  let c0_i32_774 : BitVec 32 := 0#32
  let c1_i32_773 : BitVec 32 := 1#32
  let v744 : BitVec 32 := Scalar.muli v1 c1_i32_773
  let v745 : BitVec 32 := Scalar.addi c0_i32_774 v744
  v745.toNat
def k0_dev43 (v1 : BitVec 32) : Nat :=
  let c0_i32_794 : BitVec 32 := 0#32
  let c1_i32_793 : BitVec 32 := 1#32
  let v765 : BitVec 32 := Scalar.muli v1 c1_i32_793
  let v766 : BitVec 32 := Scalar.addi c0_i32_794 v765
  v766.toNat
def k0_dev44 (v0 : BitVec 32) : Nat :=
  let c0_i32_814 : BitVec 32 := 0#32
  let c1_i32_813 : BitVec 32 := 1#32
  let v776 : BitVec 32 := Scalar.muli v0 c1_i32_813
  let v777 : BitVec 32 := Scalar.addi c0_i32_814 v776
  v777.toNat
def k0_dev45 (v1 : BitVec 32) : Nat :=
  let c0_i32_834 : BitVec 32 := 0#32
  let c1_i32_833 : BitVec 32 := 1#32
  let v797 : BitVec 32 := Scalar.muli v1 c1_i32_833
  let v798 : BitVec 32 := Scalar.addi c0_i32_834 v797
  v798.toNat
def k0_dev46 (v0 : BitVec 32) : Nat :=
  let c0_i32_854 : BitVec 32 := 0#32
  let c1_i32_853 : BitVec 32 := 1#32
  let v808 : BitVec 32 := Scalar.muli v0 c1_i32_853
  let v809 : BitVec 32 := Scalar.addi c0_i32_854 v808
  v809.toNat
def k0_off13 (v818 : BitVec 32) : Fin 2 → Nat :=
  let c128_i32_860 : BitVec 32 := 128#32
  let v820 : BitVec 32 := Scalar.muli v818 c128_i32_860
  let v821 : Index := Scalar.indexCast v820
  let c0_861 : Index := 0#32
  ![v821.toNat, 0]

def k0_chk15 (v818 : BitVec 32) : Prop :=
  (∀ a, (k0_off13 v818) a + S128x128.size a ≤ S4096x128.size a)
theorem k0_off13_inb : ∀ (v818 : BitVec 32) (k0_hw15 : k0_chk15 v818), ∀ a, (k0_off13 v818) a + S128x128.size a ≤ S4096x128.size a := fun v818 k0_hw15 => k0_hw15

def k0_off14 (v819 : BitVec 32) : Fin 2 → Nat :=
  let c128_i32_862 : BitVec 32 := 128#32
  let v825 : BitVec 32 := Scalar.muli v819 c128_i32_862
  let v826 : Index := Scalar.indexCast v825
  let c0_863 : Index := 0#32
  ![v826.toNat, 0]

def k0_chk16 (v819 : BitVec 32) : Prop :=
  (∀ a, (k0_off14 v819) a + S128x128.size a ≤ S4096x128.size a)
theorem k0_off14_inb : ∀ (v819 : BitVec 32) (k0_hw16 : k0_chk16 v819), ∀ a, (k0_off14 v819) a + S128x128.size a ≤ S4096x128.size a := fun v819 k0_hw16 => k0_hw16

def k0_dev47 (v0 : BitVec 32) : Nat :=
  let c0_i32_881 : BitVec 32 := 0#32
  let c1_i32_880 : BitVec 32 := 1#32
  let v851 : BitVec 32 := Scalar.muli v0 c1_i32_880
  let v852 : BitVec 32 := Scalar.addi c0_i32_881 v851
  v852.toNat
def k0_dev48 (v1 : BitVec 32) : Nat :=
  let c0_i32_901 : BitVec 32 := 0#32
  let c1_i32_900 : BitVec 32 := 1#32
  let v862 : BitVec 32 := Scalar.muli v1 c1_i32_900
  let v863 : BitVec 32 := Scalar.addi c0_i32_901 v862
  v863.toNat
def k0_dev49 (v0 : BitVec 32) : Nat :=
  let c0_i32_921 : BitVec 32 := 0#32
  let c1_i32_920 : BitVec 32 := 1#32
  let v883 : BitVec 32 := Scalar.muli v0 c1_i32_920
  let v884 : BitVec 32 := Scalar.addi c0_i32_921 v883
  v884.toNat
def k0_dev50 (v1 : BitVec 32) : Nat :=
  let c0_i32_941 : BitVec 32 := 0#32
  let c1_i32_940 : BitVec 32 := 1#32
  let v894 : BitVec 32 := Scalar.muli v1 c1_i32_940
  let v895 : BitVec 32 := Scalar.addi c0_i32_941 v894
  v895.toNat
def k0_dev51 (v1 : BitVec 32) : Nat :=
  let c0_i32_961 : BitVec 32 := 0#32
  let c1_i32_960 : BitVec 32 := 1#32
  let v915 : BitVec 32 := Scalar.muli v1 c1_i32_960
  let v916 : BitVec 32 := Scalar.addi c0_i32_961 v915
  v916.toNat
def k0_dev52 (v0 : BitVec 32) : Nat :=
  let c0_i32_981 : BitVec 32 := 0#32
  let c1_i32_980 : BitVec 32 := 1#32
  let v926 : BitVec 32 := Scalar.muli v0 c1_i32_980
  let v927 : BitVec 32 := Scalar.addi c0_i32_981 v926
  v927.toNat
def k0_dev53 (v1 : BitVec 32) : Nat :=
  let c0_i32_1001 : BitVec 32 := 0#32
  let c1_i32_1000 : BitVec 32 := 1#32
  let v947 : BitVec 32 := Scalar.muli v1 c1_i32_1000
  let v948 : BitVec 32 := Scalar.addi c0_i32_1001 v947
  v948.toNat
def k0_dev54 (v0 : BitVec 32) : Nat :=
  let c0_i32_1021 : BitVec 32 := 0#32
  let c1_i32_1020 : BitVec 32 := 1#32
  let v958 : BitVec 32 := Scalar.muli v0 c1_i32_1020
  let v959 : BitVec 32 := Scalar.addi c0_i32_1021 v958
  v959.toNat
def k0_off15 (v968 : BitVec 32) : Fin 2 → Nat :=
  let c128_i32_1027 : BitVec 32 := 128#32
  let v970 : BitVec 32 := Scalar.muli v968 c128_i32_1027
  let v971 : Index := Scalar.indexCast v970
  let c0_1028 : Index := 0#32
  ![v971.toNat, 0]

def k0_chk17 (v968 : BitVec 32) : Prop :=
  (∀ a, (k0_off15 v968) a + S128x128.size a ≤ S4096x128.size a)
theorem k0_off15_inb : ∀ (v968 : BitVec 32) (k0_hw17 : k0_chk17 v968), ∀ a, (k0_off15 v968) a + S128x128.size a ≤ S4096x128.size a := fun v968 k0_hw17 => k0_hw17

def k0_off16 (v969 : BitVec 32) : Fin 2 → Nat :=
  let c128_i32_1029 : BitVec 32 := 128#32
  let v975 : BitVec 32 := Scalar.muli v969 c128_i32_1029
  let v976 : Index := Scalar.indexCast v975
  let c0_1030 : Index := 0#32
  ![v976.toNat, 0]

def k0_chk18 (v969 : BitVec 32) : Prop :=
  (∀ a, (k0_off16 v969) a + S128x128.size a ≤ S4096x128.size a)
theorem k0_off16_inb : ∀ (v969 : BitVec 32) (k0_hw18 : k0_chk18 v969), ∀ a, (k0_off16 v969) a + S128x128.size a ≤ S4096x128.size a := fun v969 k0_hw18 => k0_hw18

def k0_dev55 (v0 : BitVec 32) : Nat :=
  let c0_i32_1048 : BitVec 32 := 0#32
  let c1_i32_1047 : BitVec 32 := 1#32
  let v1001 : BitVec 32 := Scalar.muli v0 c1_i32_1047
  let v1002 : BitVec 32 := Scalar.addi c0_i32_1048 v1001
  v1002.toNat
def k0_dev56 (v1 : BitVec 32) : Nat :=
  let c0_i32_1068 : BitVec 32 := 0#32
  let c1_i32_1067 : BitVec 32 := 1#32
  let v1012 : BitVec 32 := Scalar.muli v1 c1_i32_1067
  let v1013 : BitVec 32 := Scalar.addi c0_i32_1068 v1012
  v1013.toNat
def k0_dev57 (v0 : BitVec 32) : Nat :=
  let c0_i32_1088 : BitVec 32 := 0#32
  let c1_i32_1087 : BitVec 32 := 1#32
  let v1033 : BitVec 32 := Scalar.muli v0 c1_i32_1087
  let v1034 : BitVec 32 := Scalar.addi c0_i32_1088 v1033
  v1034.toNat
def k0_dev58 (v1 : BitVec 32) : Nat :=
  let c0_i32_1108 : BitVec 32 := 0#32
  let c1_i32_1107 : BitVec 32 := 1#32
  let v1044 : BitVec 32 := Scalar.muli v1 c1_i32_1107
  let v1045 : BitVec 32 := Scalar.addi c0_i32_1108 v1044
  v1045.toNat
def k0_dev59 (v1 : BitVec 32) : Nat :=
  let c0_i32_1128 : BitVec 32 := 0#32
  let c1_i32_1127 : BitVec 32 := 1#32
  let v1065 : BitVec 32 := Scalar.muli v1 c1_i32_1127
  let v1066 : BitVec 32 := Scalar.addi c0_i32_1128 v1065
  v1066.toNat
def k0_dev60 (v0 : BitVec 32) : Nat :=
  let c0_i32_1148 : BitVec 32 := 0#32
  let c1_i32_1147 : BitVec 32 := 1#32
  let v1076 : BitVec 32 := Scalar.muli v0 c1_i32_1147
  let v1077 : BitVec 32 := Scalar.addi c0_i32_1148 v1076
  v1077.toNat
def k0_dev61 (v1 : BitVec 32) : Nat :=
  let c0_i32_1168 : BitVec 32 := 0#32
  let c1_i32_1167 : BitVec 32 := 1#32
  let v1097 : BitVec 32 := Scalar.muli v1 c1_i32_1167
  let v1098 : BitVec 32 := Scalar.addi c0_i32_1168 v1097
  v1098.toNat
def k0_dev62 (v0 : BitVec 32) : Nat :=
  let c0_i32_1188 : BitVec 32 := 0#32
  let c1_i32_1187 : BitVec 32 := 1#32
  let v1108 : BitVec 32 := Scalar.muli v0 c1_i32_1187
  let v1109 : BitVec 32 := Scalar.addi c0_i32_1188 v1108
  v1109.toNat
def k0_off17 (v1118 : BitVec 32) : Fin 2 → Nat :=
  let c128_i32_1194 : BitVec 32 := 128#32
  let v1120 : BitVec 32 := Scalar.muli v1118 c128_i32_1194
  let v1121 : Index := Scalar.indexCast v1120
  let c0_1195 : Index := 0#32
  ![v1121.toNat, 0]

def k0_chk19 (v1118 : BitVec 32) : Prop :=
  (∀ a, (k0_off17 v1118) a + S128x128.size a ≤ S4096x128.size a)
theorem k0_off17_inb : ∀ (v1118 : BitVec 32) (k0_hw19 : k0_chk19 v1118), ∀ a, (k0_off17 v1118) a + S128x128.size a ≤ S4096x128.size a := fun v1118 k0_hw19 => k0_hw19

def k0_off18 (v1119 : BitVec 32) : Fin 2 → Nat :=
  let c128_i32_1196 : BitVec 32 := 128#32
  let v1125 : BitVec 32 := Scalar.muli v1119 c128_i32_1196
  let v1126 : Index := Scalar.indexCast v1125
  let c0_1197 : Index := 0#32
  ![v1126.toNat, 0]

def k0_chk20 (v1119 : BitVec 32) : Prop :=
  (∀ a, (k0_off18 v1119) a + S128x128.size a ≤ S4096x128.size a)
theorem k0_off18_inb : ∀ (v1119 : BitVec 32) (k0_hw20 : k0_chk20 v1119), ∀ a, (k0_off18 v1119) a + S128x128.size a ≤ S4096x128.size a := fun v1119 k0_hw20 => k0_hw20

def k0_dev63 (v0 : BitVec 32) : Nat :=
  let c0_i32_1215 : BitVec 32 := 0#32
  let c1_i32_1214 : BitVec 32 := 1#32
  let v1151 : BitVec 32 := Scalar.muli v0 c1_i32_1214
  let v1152 : BitVec 32 := Scalar.addi c0_i32_1215 v1151
  v1152.toNat
def k0_dev64 (v1 : BitVec 32) : Nat :=
  let c0_i32_1235 : BitVec 32 := 0#32
  let c1_i32_1234 : BitVec 32 := 1#32
  let v1162 : BitVec 32 := Scalar.muli v1 c1_i32_1234
  let v1163 : BitVec 32 := Scalar.addi c0_i32_1235 v1162
  v1163.toNat
def k0_dev65 (v0 : BitVec 32) : Nat :=
  let c0_i32_1255 : BitVec 32 := 0#32
  let c1_i32_1254 : BitVec 32 := 1#32
  let v1183 : BitVec 32 := Scalar.muli v0 c1_i32_1254
  let v1184 : BitVec 32 := Scalar.addi c0_i32_1255 v1183
  v1184.toNat
def k0_dev66 (v1 : BitVec 32) : Nat :=
  let c0_i32_1275 : BitVec 32 := 0#32
  let c1_i32_1274 : BitVec 32 := 1#32
  let v1194 : BitVec 32 := Scalar.muli v1 c1_i32_1274
  let v1195 : BitVec 32 := Scalar.addi c0_i32_1275 v1194
  v1195.toNat
def k0_dev67 (v1 : BitVec 32) : Nat :=
  let c0_i32_1295 : BitVec 32 := 0#32
  let c1_i32_1294 : BitVec 32 := 1#32
  let v1215 : BitVec 32 := Scalar.muli v1 c1_i32_1294
  let v1216 : BitVec 32 := Scalar.addi c0_i32_1295 v1215
  v1216.toNat
def k0_dev68 (v0 : BitVec 32) : Nat :=
  let c0_i32_1315 : BitVec 32 := 0#32
  let c1_i32_1314 : BitVec 32 := 1#32
  let v1226 : BitVec 32 := Scalar.muli v0 c1_i32_1314
  let v1227 : BitVec 32 := Scalar.addi c0_i32_1315 v1226
  v1227.toNat
def k0_dev69 (v1 : BitVec 32) : Nat :=
  let c0_i32_1335 : BitVec 32 := 0#32
  let c1_i32_1334 : BitVec 32 := 1#32
  let v1247 : BitVec 32 := Scalar.muli v1 c1_i32_1334
  let v1248 : BitVec 32 := Scalar.addi c0_i32_1335 v1247
  v1248.toNat
def k0_dev70 (v0 : BitVec 32) : Nat :=
  let c0_i32_1355 : BitVec 32 := 0#32
  let c1_i32_1354 : BitVec 32 := 1#32
  let v1258 : BitVec 32 := Scalar.muli v0 c1_i32_1354
  let v1259 : BitVec 32 := Scalar.addi c0_i32_1355 v1258
  v1259.toNat
def k0_off19 (v1268 : BitVec 32) : Fin 2 → Nat :=
  let c128_i32_1361 : BitVec 32 := 128#32
  let v1270 : BitVec 32 := Scalar.muli v1268 c128_i32_1361
  let v1271 : Index := Scalar.indexCast v1270
  let c0_1362 : Index := 0#32
  ![v1271.toNat, 0]

def k0_chk21 (v1268 : BitVec 32) : Prop :=
  (∀ a, (k0_off19 v1268) a + S128x128.size a ≤ S4096x128.size a)
theorem k0_off19_inb : ∀ (v1268 : BitVec 32) (k0_hw21 : k0_chk21 v1268), ∀ a, (k0_off19 v1268) a + S128x128.size a ≤ S4096x128.size a := fun v1268 k0_hw21 => k0_hw21

def k0_off20 (v1269 : BitVec 32) : Fin 2 → Nat :=
  let c128_i32_1363 : BitVec 32 := 128#32
  let v1275 : BitVec 32 := Scalar.muli v1269 c128_i32_1363
  let v1276 : Index := Scalar.indexCast v1275
  let c0_1364 : Index := 0#32
  ![v1276.toNat, 0]

def k0_chk22 (v1269 : BitVec 32) : Prop :=
  (∀ a, (k0_off20 v1269) a + S128x128.size a ≤ S4096x128.size a)
theorem k0_off20_inb : ∀ (v1269 : BitVec 32) (k0_hw22 : k0_chk22 v1269), ∀ a, (k0_off20 v1269) a + S128x128.size a ≤ S4096x128.size a := fun v1269 k0_hw22 => k0_hw22

def k0_dev71 (v0 : BitVec 32) : Nat :=
  let c0_i32_1382 : BitVec 32 := 0#32
  let c1_i32_1381 : BitVec 32 := 1#32
  let v1301 : BitVec 32 := Scalar.muli v0 c1_i32_1381
  let v1302 : BitVec 32 := Scalar.addi c0_i32_1382 v1301
  v1302.toNat
def k0_dev72 (v1 : BitVec 32) : Nat :=
  let c0_i32_1402 : BitVec 32 := 0#32
  let c1_i32_1401 : BitVec 32 := 1#32
  let v1312 : BitVec 32 := Scalar.muli v1 c1_i32_1401
  let v1313 : BitVec 32 := Scalar.addi c0_i32_1402 v1312
  v1313.toNat
def k0_dev73 (v0 : BitVec 32) : Nat :=
  let c0_i32_1422 : BitVec 32 := 0#32
  let c1_i32_1421 : BitVec 32 := 1#32
  let v1333 : BitVec 32 := Scalar.muli v0 c1_i32_1421
  let v1334 : BitVec 32 := Scalar.addi c0_i32_1422 v1333
  v1334.toNat
def k0_dev74 (v1 : BitVec 32) : Nat :=
  let c0_i32_1442 : BitVec 32 := 0#32
  let c1_i32_1441 : BitVec 32 := 1#32
  let v1344 : BitVec 32 := Scalar.muli v1 c1_i32_1441
  let v1345 : BitVec 32 := Scalar.addi c0_i32_1442 v1344
  v1345.toNat
def k0_dev75 (v1 : BitVec 32) : Nat :=
  let c0_i32_1462 : BitVec 32 := 0#32
  let c1_i32_1461 : BitVec 32 := 1#32
  let v1365 : BitVec 32 := Scalar.muli v1 c1_i32_1461
  let v1366 : BitVec 32 := Scalar.addi c0_i32_1462 v1365
  v1366.toNat
def k0_dev76 (v0 : BitVec 32) : Nat :=
  let c0_i32_1482 : BitVec 32 := 0#32
  let c1_i32_1481 : BitVec 32 := 1#32
  let v1376 : BitVec 32 := Scalar.muli v0 c1_i32_1481
  let v1377 : BitVec 32 := Scalar.addi c0_i32_1482 v1376
  v1377.toNat
def k0_dev77 (v1 : BitVec 32) : Nat :=
  let c0_i32_1502 : BitVec 32 := 0#32
  let c1_i32_1501 : BitVec 32 := 1#32
  let v1397 : BitVec 32 := Scalar.muli v1 c1_i32_1501
  let v1398 : BitVec 32 := Scalar.addi c0_i32_1502 v1397
  v1398.toNat
def k0_dev78 (v0 : BitVec 32) : Nat :=
  let c0_i32_1522 : BitVec 32 := 0#32
  let c1_i32_1521 : BitVec 32 := 1#32
  let v1408 : BitVec 32 := Scalar.muli v0 c1_i32_1521
  let v1409 : BitVec 32 := Scalar.addi c0_i32_1522 v1408
  v1409.toNat
def k0_off21 (v1418 : BitVec 32) : Fin 2 → Nat :=
  let c128_i32_1528 : BitVec 32 := 128#32
  let v1420 : BitVec 32 := Scalar.muli v1418 c128_i32_1528
  let v1421 : Index := Scalar.indexCast v1420
  let c0_1529 : Index := 0#32
  ![v1421.toNat, 0]

def k0_chk23 (v1418 : BitVec 32) : Prop :=
  (∀ a, (k0_off21 v1418) a + S128x128.size a ≤ S4096x128.size a)
theorem k0_off21_inb : ∀ (v1418 : BitVec 32) (k0_hw23 : k0_chk23 v1418), ∀ a, (k0_off21 v1418) a + S128x128.size a ≤ S4096x128.size a := fun v1418 k0_hw23 => k0_hw23

def k0_off22 (v1419 : BitVec 32) : Fin 2 → Nat :=
  let c128_i32_1530 : BitVec 32 := 128#32
  let v1425 : BitVec 32 := Scalar.muli v1419 c128_i32_1530
  let v1426 : Index := Scalar.indexCast v1425
  let c0_1531 : Index := 0#32
  ![v1426.toNat, 0]

def k0_chk24 (v1419 : BitVec 32) : Prop :=
  (∀ a, (k0_off22 v1419) a + S128x128.size a ≤ S4096x128.size a)
theorem k0_off22_inb : ∀ (v1419 : BitVec 32) (k0_hw24 : k0_chk24 v1419), ∀ a, (k0_off22 v1419) a + S128x128.size a ≤ S4096x128.size a := fun v1419 k0_hw24 => k0_hw24

def k0_dev79 (v0 : BitVec 32) : Nat :=
  let c0_i32_1549 : BitVec 32 := 0#32
  let c1_i32_1548 : BitVec 32 := 1#32
  let v1451 : BitVec 32 := Scalar.muli v0 c1_i32_1548
  let v1452 : BitVec 32 := Scalar.addi c0_i32_1549 v1451
  v1452.toNat
def k0_dev80 (v1 : BitVec 32) : Nat :=
  let c0_i32_1569 : BitVec 32 := 0#32
  let c1_i32_1568 : BitVec 32 := 1#32
  let v1462 : BitVec 32 := Scalar.muli v1 c1_i32_1568
  let v1463 : BitVec 32 := Scalar.addi c0_i32_1569 v1462
  v1463.toNat
def k0_dev81 (v0 : BitVec 32) : Nat :=
  let c0_i32_1589 : BitVec 32 := 0#32
  let c1_i32_1588 : BitVec 32 := 1#32
  let v1483 : BitVec 32 := Scalar.muli v0 c1_i32_1588
  let v1484 : BitVec 32 := Scalar.addi c0_i32_1589 v1483
  v1484.toNat
def k0_dev82 (v1 : BitVec 32) : Nat :=
  let c0_i32_1609 : BitVec 32 := 0#32
  let c1_i32_1608 : BitVec 32 := 1#32
  let v1494 : BitVec 32 := Scalar.muli v1 c1_i32_1608
  let v1495 : BitVec 32 := Scalar.addi c0_i32_1609 v1494
  v1495.toNat
def k0_dev83 (v1 : BitVec 32) : Nat :=
  let c0_i32_1629 : BitVec 32 := 0#32
  let c1_i32_1628 : BitVec 32 := 1#32
  let v1515 : BitVec 32 := Scalar.muli v1 c1_i32_1628
  let v1516 : BitVec 32 := Scalar.addi c0_i32_1629 v1515
  v1516.toNat
def k0_dev84 (v0 : BitVec 32) : Nat :=
  let c0_i32_1649 : BitVec 32 := 0#32
  let c1_i32_1648 : BitVec 32 := 1#32
  let v1526 : BitVec 32 := Scalar.muli v0 c1_i32_1648
  let v1527 : BitVec 32 := Scalar.addi c0_i32_1649 v1526
  v1527.toNat
def k0_dev85 (v1 : BitVec 32) : Nat :=
  let c0_i32_1669 : BitVec 32 := 0#32
  let c1_i32_1668 : BitVec 32 := 1#32
  let v1547 : BitVec 32 := Scalar.muli v1 c1_i32_1668
  let v1548 : BitVec 32 := Scalar.addi c0_i32_1669 v1547
  v1548.toNat
def k0_dev86 (v0 : BitVec 32) : Nat :=
  let c0_i32_1689 : BitVec 32 := 0#32
  let c1_i32_1688 : BitVec 32 := 1#32
  let v1558 : BitVec 32 := Scalar.muli v0 c1_i32_1688
  let v1559 : BitVec 32 := Scalar.addi c0_i32_1689 v1558
  v1559.toNat
def k0_off23 (v1568 : BitVec 32) : Fin 2 → Nat :=
  let c128_i32_1695 : BitVec 32 := 128#32
  let v1570 : BitVec 32 := Scalar.muli v1568 c128_i32_1695
  let v1571 : Index := Scalar.indexCast v1570
  let c0_1696 : Index := 0#32
  ![v1571.toNat, 0]

def k0_chk25 (v1568 : BitVec 32) : Prop :=
  (∀ a, (k0_off23 v1568) a + S128x128.size a ≤ S4096x128.size a)
theorem k0_off23_inb : ∀ (v1568 : BitVec 32) (k0_hw25 : k0_chk25 v1568), ∀ a, (k0_off23 v1568) a + S128x128.size a ≤ S4096x128.size a := fun v1568 k0_hw25 => k0_hw25

def k0_off24 (v1569 : BitVec 32) : Fin 2 → Nat :=
  let c128_i32_1697 : BitVec 32 := 128#32
  let v1575 : BitVec 32 := Scalar.muli v1569 c128_i32_1697
  let v1576 : Index := Scalar.indexCast v1575
  let c0_1698 : Index := 0#32
  ![v1576.toNat, 0]

def k0_chk26 (v1569 : BitVec 32) : Prop :=
  (∀ a, (k0_off24 v1569) a + S128x128.size a ≤ S4096x128.size a)
theorem k0_off24_inb : ∀ (v1569 : BitVec 32) (k0_hw26 : k0_chk26 v1569), ∀ a, (k0_off24 v1569) a + S128x128.size a ≤ S4096x128.size a := fun v1569 k0_hw26 => k0_hw26

def k0_dev87 (v0 : BitVec 32) : Nat :=
  let c0_i32_1716 : BitVec 32 := 0#32
  let c1_i32_1715 : BitVec 32 := 1#32
  let v1601 : BitVec 32 := Scalar.muli v0 c1_i32_1715
  let v1602 : BitVec 32 := Scalar.addi c0_i32_1716 v1601
  v1602.toNat
def k0_dev88 (v1 : BitVec 32) : Nat :=
  let c0_i32_1736 : BitVec 32 := 0#32
  let c1_i32_1735 : BitVec 32 := 1#32
  let v1612 : BitVec 32 := Scalar.muli v1 c1_i32_1735
  let v1613 : BitVec 32 := Scalar.addi c0_i32_1736 v1612
  v1613.toNat
def k0_dev89 (v0 : BitVec 32) : Nat :=
  let c0_i32_1756 : BitVec 32 := 0#32
  let c1_i32_1755 : BitVec 32 := 1#32
  let v1633 : BitVec 32 := Scalar.muli v0 c1_i32_1755
  let v1634 : BitVec 32 := Scalar.addi c0_i32_1756 v1633
  v1634.toNat
def k0_dev90 (v1 : BitVec 32) : Nat :=
  let c0_i32_1776 : BitVec 32 := 0#32
  let c1_i32_1775 : BitVec 32 := 1#32
  let v1644 : BitVec 32 := Scalar.muli v1 c1_i32_1775
  let v1645 : BitVec 32 := Scalar.addi c0_i32_1776 v1644
  v1645.toNat
def k0_dev91 (v1 : BitVec 32) : Nat :=
  let c0_i32_1796 : BitVec 32 := 0#32
  let c1_i32_1795 : BitVec 32 := 1#32
  let v1665 : BitVec 32 := Scalar.muli v1 c1_i32_1795
  let v1666 : BitVec 32 := Scalar.addi c0_i32_1796 v1665
  v1666.toNat
def k0_dev92 (v0 : BitVec 32) : Nat :=
  let c0_i32_1816 : BitVec 32 := 0#32
  let c1_i32_1815 : BitVec 32 := 1#32
  let v1676 : BitVec 32 := Scalar.muli v0 c1_i32_1815
  let v1677 : BitVec 32 := Scalar.addi c0_i32_1816 v1676
  v1677.toNat
def k0_dev93 (v1 : BitVec 32) : Nat :=
  let c0_i32_1836 : BitVec 32 := 0#32
  let c1_i32_1835 : BitVec 32 := 1#32
  let v1697 : BitVec 32 := Scalar.muli v1 c1_i32_1835
  let v1698 : BitVec 32 := Scalar.addi c0_i32_1836 v1697
  v1698.toNat
def k0_dev94 (v0 : BitVec 32) : Nat :=
  let c0_i32_1856 : BitVec 32 := 0#32
  let c1_i32_1855 : BitVec 32 := 1#32
  let v1708 : BitVec 32 := Scalar.muli v0 c1_i32_1855
  let v1709 : BitVec 32 := Scalar.addi c0_i32_1856 v1708
  v1709.toNat
def k0_off25 (v1718 : BitVec 32) : Fin 2 → Nat :=
  let c128_i32_1862 : BitVec 32 := 128#32
  let v1720 : BitVec 32 := Scalar.muli v1718 c128_i32_1862
  let v1721 : Index := Scalar.indexCast v1720
  let c0_1863 : Index := 0#32
  ![v1721.toNat, 0]

def k0_chk27 (v1718 : BitVec 32) : Prop :=
  (∀ a, (k0_off25 v1718) a + S128x128.size a ≤ S4096x128.size a)
theorem k0_off25_inb : ∀ (v1718 : BitVec 32) (k0_hw27 : k0_chk27 v1718), ∀ a, (k0_off25 v1718) a + S128x128.size a ≤ S4096x128.size a := fun v1718 k0_hw27 => k0_hw27

def k0_off26 (v1719 : BitVec 32) : Fin 2 → Nat :=
  let c128_i32_1864 : BitVec 32 := 128#32
  let v1725 : BitVec 32 := Scalar.muli v1719 c128_i32_1864
  let v1726 : Index := Scalar.indexCast v1725
  let c0_1865 : Index := 0#32
  ![v1726.toNat, 0]

def k0_chk28 (v1719 : BitVec 32) : Prop :=
  (∀ a, (k0_off26 v1719) a + S128x128.size a ≤ S4096x128.size a)
theorem k0_off26_inb : ∀ (v1719 : BitVec 32) (k0_hw28 : k0_chk28 v1719), ∀ a, (k0_off26 v1719) a + S128x128.size a ≤ S4096x128.size a := fun v1719 k0_hw28 => k0_hw28

def k0_dev95 (v0 : BitVec 32) : Nat :=
  let c0_i32_1883 : BitVec 32 := 0#32
  let c1_i32_1882 : BitVec 32 := 1#32
  let v1751 : BitVec 32 := Scalar.muli v0 c1_i32_1882
  let v1752 : BitVec 32 := Scalar.addi c0_i32_1883 v1751
  v1752.toNat
def k0_dev96 (v1 : BitVec 32) : Nat :=
  let c0_i32_1903 : BitVec 32 := 0#32
  let c1_i32_1902 : BitVec 32 := 1#32
  let v1762 : BitVec 32 := Scalar.muli v1 c1_i32_1902
  let v1763 : BitVec 32 := Scalar.addi c0_i32_1903 v1762
  v1763.toNat
def k0_dev97 (v0 : BitVec 32) : Nat :=
  let c0_i32_1923 : BitVec 32 := 0#32
  let c1_i32_1922 : BitVec 32 := 1#32
  let v1783 : BitVec 32 := Scalar.muli v0 c1_i32_1922
  let v1784 : BitVec 32 := Scalar.addi c0_i32_1923 v1783
  v1784.toNat
def k0_dev98 (v1 : BitVec 32) : Nat :=
  let c0_i32_1943 : BitVec 32 := 0#32
  let c1_i32_1942 : BitVec 32 := 1#32
  let v1794 : BitVec 32 := Scalar.muli v1 c1_i32_1942
  let v1795 : BitVec 32 := Scalar.addi c0_i32_1943 v1794
  v1795.toNat
def k0_dev99 (v1 : BitVec 32) : Nat :=
  let c0_i32_1963 : BitVec 32 := 0#32
  let c1_i32_1962 : BitVec 32 := 1#32
  let v1815 : BitVec 32 := Scalar.muli v1 c1_i32_1962
  let v1816 : BitVec 32 := Scalar.addi c0_i32_1963 v1815
  v1816.toNat
def k0_dev100 (v0 : BitVec 32) : Nat :=
  let c0_i32_1983 : BitVec 32 := 0#32
  let c1_i32_1982 : BitVec 32 := 1#32
  let v1826 : BitVec 32 := Scalar.muli v0 c1_i32_1982
  let v1827 : BitVec 32 := Scalar.addi c0_i32_1983 v1826
  v1827.toNat
def k0_dev101 (v1 : BitVec 32) : Nat :=
  let c0_i32_2003 : BitVec 32 := 0#32
  let c1_i32_2002 : BitVec 32 := 1#32
  let v1847 : BitVec 32 := Scalar.muli v1 c1_i32_2002
  let v1848 : BitVec 32 := Scalar.addi c0_i32_2003 v1847
  v1848.toNat
def k0_dev102 (v0 : BitVec 32) : Nat :=
  let c0_i32_2023 : BitVec 32 := 0#32
  let c1_i32_2022 : BitVec 32 := 1#32
  let v1858 : BitVec 32 := Scalar.muli v0 c1_i32_2022
  let v1859 : BitVec 32 := Scalar.addi c0_i32_2023 v1858
  v1859.toNat
def k0_off27 (v1868 : BitVec 32) : Fin 2 → Nat :=
  let c128_i32_2029 : BitVec 32 := 128#32
  let v1870 : BitVec 32 := Scalar.muli v1868 c128_i32_2029
  let v1871 : Index := Scalar.indexCast v1870
  let c0_2030 : Index := 0#32
  ![v1871.toNat, 0]

def k0_chk29 (v1868 : BitVec 32) : Prop :=
  (∀ a, (k0_off27 v1868) a + S128x128.size a ≤ S4096x128.size a)
theorem k0_off27_inb : ∀ (v1868 : BitVec 32) (k0_hw29 : k0_chk29 v1868), ∀ a, (k0_off27 v1868) a + S128x128.size a ≤ S4096x128.size a := fun v1868 k0_hw29 => k0_hw29

def k0_off28 (v1869 : BitVec 32) : Fin 2 → Nat :=
  let c128_i32_2031 : BitVec 32 := 128#32
  let v1875 : BitVec 32 := Scalar.muli v1869 c128_i32_2031
  let v1876 : Index := Scalar.indexCast v1875
  let c0_2032 : Index := 0#32
  ![v1876.toNat, 0]

def k0_chk30 (v1869 : BitVec 32) : Prop :=
  (∀ a, (k0_off28 v1869) a + S128x128.size a ≤ S4096x128.size a)
theorem k0_off28_inb : ∀ (v1869 : BitVec 32) (k0_hw30 : k0_chk30 v1869), ∀ a, (k0_off28 v1869) a + S128x128.size a ≤ S4096x128.size a := fun v1869 k0_hw30 => k0_hw30

def k0_dev103 (v0 : BitVec 32) : Nat :=
  let c0_i32_2050 : BitVec 32 := 0#32
  let c1_i32_2049 : BitVec 32 := 1#32
  let v1901 : BitVec 32 := Scalar.muli v0 c1_i32_2049
  let v1902 : BitVec 32 := Scalar.addi c0_i32_2050 v1901
  v1902.toNat
def k0_dev104 (v1 : BitVec 32) : Nat :=
  let c0_i32_2070 : BitVec 32 := 0#32
  let c1_i32_2069 : BitVec 32 := 1#32
  let v1912 : BitVec 32 := Scalar.muli v1 c1_i32_2069
  let v1913 : BitVec 32 := Scalar.addi c0_i32_2070 v1912
  v1913.toNat
def k0_dev105 (v0 : BitVec 32) : Nat :=
  let c0_i32_2090 : BitVec 32 := 0#32
  let c1_i32_2089 : BitVec 32 := 1#32
  let v1933 : BitVec 32 := Scalar.muli v0 c1_i32_2089
  let v1934 : BitVec 32 := Scalar.addi c0_i32_2090 v1933
  v1934.toNat
def k0_dev106 (v1 : BitVec 32) : Nat :=
  let c0_i32_2110 : BitVec 32 := 0#32
  let c1_i32_2109 : BitVec 32 := 1#32
  let v1944 : BitVec 32 := Scalar.muli v1 c1_i32_2109
  let v1945 : BitVec 32 := Scalar.addi c0_i32_2110 v1944
  v1945.toNat
def k0_dev107 (v1 : BitVec 32) : Nat :=
  let c0_i32_2130 : BitVec 32 := 0#32
  let c1_i32_2129 : BitVec 32 := 1#32
  let v1965 : BitVec 32 := Scalar.muli v1 c1_i32_2129
  let v1966 : BitVec 32 := Scalar.addi c0_i32_2130 v1965
  v1966.toNat
def k0_dev108 (v0 : BitVec 32) : Nat :=
  let c0_i32_2150 : BitVec 32 := 0#32
  let c1_i32_2149 : BitVec 32 := 1#32
  let v1976 : BitVec 32 := Scalar.muli v0 c1_i32_2149
  let v1977 : BitVec 32 := Scalar.addi c0_i32_2150 v1976
  v1977.toNat
def k0_dev109 (v1 : BitVec 32) : Nat :=
  let c0_i32_2170 : BitVec 32 := 0#32
  let c1_i32_2169 : BitVec 32 := 1#32
  let v1997 : BitVec 32 := Scalar.muli v1 c1_i32_2169
  let v1998 : BitVec 32 := Scalar.addi c0_i32_2170 v1997
  v1998.toNat
def k0_dev110 (v0 : BitVec 32) : Nat :=
  let c0_i32_2190 : BitVec 32 := 0#32
  let c1_i32_2189 : BitVec 32 := 1#32
  let v2008 : BitVec 32 := Scalar.muli v0 c1_i32_2189
  let v2009 : BitVec 32 := Scalar.addi c0_i32_2190 v2008
  v2009.toNat
def k0_off29 (v2018 : BitVec 32) : Fin 2 → Nat :=
  let c128_i32_2196 : BitVec 32 := 128#32
  let v2020 : BitVec 32 := Scalar.muli v2018 c128_i32_2196
  let v2021 : Index := Scalar.indexCast v2020
  let c0_2197 : Index := 0#32
  ![v2021.toNat, 0]

def k0_chk31 (v2018 : BitVec 32) : Prop :=
  (∀ a, (k0_off29 v2018) a + S128x128.size a ≤ S4096x128.size a)
theorem k0_off29_inb : ∀ (v2018 : BitVec 32) (k0_hw31 : k0_chk31 v2018), ∀ a, (k0_off29 v2018) a + S128x128.size a ≤ S4096x128.size a := fun v2018 k0_hw31 => k0_hw31

def k0_off30 (v2019 : BitVec 32) : Fin 2 → Nat :=
  let c128_i32_2198 : BitVec 32 := 128#32
  let v2025 : BitVec 32 := Scalar.muli v2019 c128_i32_2198
  let v2026 : Index := Scalar.indexCast v2025
  let c0_2199 : Index := 0#32
  ![v2026.toNat, 0]

def k0_chk32 (v2019 : BitVec 32) : Prop :=
  (∀ a, (k0_off30 v2019) a + S128x128.size a ≤ S4096x128.size a)
theorem k0_off30_inb : ∀ (v2019 : BitVec 32) (k0_hw32 : k0_chk32 v2019), ∀ a, (k0_off30 v2019) a + S128x128.size a ≤ S4096x128.size a := fun v2019 k0_hw32 => k0_hw32

def k0_dev111 (v0 : BitVec 32) : Nat :=
  let c0_i32_2217 : BitVec 32 := 0#32
  let c1_i32_2216 : BitVec 32 := 1#32
  let v2051 : BitVec 32 := Scalar.muli v0 c1_i32_2216
  let v2052 : BitVec 32 := Scalar.addi c0_i32_2217 v2051
  v2052.toNat
def k0_dev112 (v1 : BitVec 32) : Nat :=
  let c0_i32_2237 : BitVec 32 := 0#32
  let c1_i32_2236 : BitVec 32 := 1#32
  let v2062 : BitVec 32 := Scalar.muli v1 c1_i32_2236
  let v2063 : BitVec 32 := Scalar.addi c0_i32_2237 v2062
  v2063.toNat
def k0_dev113 (v0 : BitVec 32) : Nat :=
  let c0_i32_2257 : BitVec 32 := 0#32
  let c1_i32_2256 : BitVec 32 := 1#32
  let v2083 : BitVec 32 := Scalar.muli v0 c1_i32_2256
  let v2084 : BitVec 32 := Scalar.addi c0_i32_2257 v2083
  v2084.toNat
def k0_dev114 (v1 : BitVec 32) : Nat :=
  let c0_i32_2277 : BitVec 32 := 0#32
  let c1_i32_2276 : BitVec 32 := 1#32
  let v2094 : BitVec 32 := Scalar.muli v1 c1_i32_2276
  let v2095 : BitVec 32 := Scalar.addi c0_i32_2277 v2094
  v2095.toNat
def k0_dev115 (v1 : BitVec 32) : Nat :=
  let c0_i32_2297 : BitVec 32 := 0#32
  let c1_i32_2296 : BitVec 32 := 1#32
  let v2115 : BitVec 32 := Scalar.muli v1 c1_i32_2296
  let v2116 : BitVec 32 := Scalar.addi c0_i32_2297 v2115
  v2116.toNat
def k0_dev116 (v0 : BitVec 32) : Nat :=
  let c0_i32_2317 : BitVec 32 := 0#32
  let c1_i32_2316 : BitVec 32 := 1#32
  let v2126 : BitVec 32 := Scalar.muli v0 c1_i32_2316
  let v2127 : BitVec 32 := Scalar.addi c0_i32_2317 v2126
  v2127.toNat
def k0_dev117 (v1 : BitVec 32) : Nat :=
  let c0_i32_2337 : BitVec 32 := 0#32
  let c1_i32_2336 : BitVec 32 := 1#32
  let v2147 : BitVec 32 := Scalar.muli v1 c1_i32_2336
  let v2148 : BitVec 32 := Scalar.addi c0_i32_2337 v2147
  v2148.toNat
def k0_dev118 (v0 : BitVec 32) : Nat :=
  let c0_i32_2357 : BitVec 32 := 0#32
  let c1_i32_2356 : BitVec 32 := 1#32
  let v2158 : BitVec 32 := Scalar.muli v0 c1_i32_2356
  let v2159 : BitVec 32 := Scalar.addi c0_i32_2357 v2158
  v2159.toNat
def k0_off31 (v2168 : BitVec 32) : Fin 2 → Nat :=
  let c128_i32_2363 : BitVec 32 := 128#32
  let v2170 : BitVec 32 := Scalar.muli v2168 c128_i32_2363
  let v2171 : Index := Scalar.indexCast v2170
  let c0_2364 : Index := 0#32
  ![v2171.toNat, 0]

def k0_chk33 (v2168 : BitVec 32) : Prop :=
  (∀ a, (k0_off31 v2168) a + S128x128.size a ≤ S4096x128.size a)
theorem k0_off31_inb : ∀ (v2168 : BitVec 32) (k0_hw33 : k0_chk33 v2168), ∀ a, (k0_off31 v2168) a + S128x128.size a ≤ S4096x128.size a := fun v2168 k0_hw33 => k0_hw33

def k0_off32 (v2169 : BitVec 32) : Fin 2 → Nat :=
  let c128_i32_2365 : BitVec 32 := 128#32
  let v2175 : BitVec 32 := Scalar.muli v2169 c128_i32_2365
  let v2176 : Index := Scalar.indexCast v2175
  let c0_2366 : Index := 0#32
  ![v2176.toNat, 0]

def k0_chk34 (v2169 : BitVec 32) : Prop :=
  (∀ a, (k0_off32 v2169) a + S128x128.size a ≤ S4096x128.size a)
theorem k0_off32_inb : ∀ (v2169 : BitVec 32) (k0_hw34 : k0_chk34 v2169), ∀ a, (k0_off32 v2169) a + S128x128.size a ≤ S4096x128.size a := fun v2169 k0_hw34 => k0_hw34

def k0_dev119 (v0 : BitVec 32) : Nat :=
  let c0_i32_2384 : BitVec 32 := 0#32
  let c1_i32_2383 : BitVec 32 := 1#32
  let v2201 : BitVec 32 := Scalar.muli v0 c1_i32_2383
  let v2202 : BitVec 32 := Scalar.addi c0_i32_2384 v2201
  v2202.toNat
def k0_dev120 (v1 : BitVec 32) : Nat :=
  let c0_i32_2404 : BitVec 32 := 0#32
  let c1_i32_2403 : BitVec 32 := 1#32
  let v2212 : BitVec 32 := Scalar.muli v1 c1_i32_2403
  let v2213 : BitVec 32 := Scalar.addi c0_i32_2404 v2212
  v2213.toNat
def k0_dev121 (v0 : BitVec 32) : Nat :=
  let c0_i32_2424 : BitVec 32 := 0#32
  let c1_i32_2423 : BitVec 32 := 1#32
  let v2233 : BitVec 32 := Scalar.muli v0 c1_i32_2423
  let v2234 : BitVec 32 := Scalar.addi c0_i32_2424 v2233
  v2234.toNat
def k0_dev122 (v1 : BitVec 32) : Nat :=
  let c0_i32_2444 : BitVec 32 := 0#32
  let c1_i32_2443 : BitVec 32 := 1#32
  let v2244 : BitVec 32 := Scalar.muli v1 c1_i32_2443
  let v2245 : BitVec 32 := Scalar.addi c0_i32_2444 v2244
  v2245.toNat
def k0_dev123 (v1 : BitVec 32) : Nat :=
  let c0_i32_2464 : BitVec 32 := 0#32
  let c1_i32_2463 : BitVec 32 := 1#32
  let v2265 : BitVec 32 := Scalar.muli v1 c1_i32_2463
  let v2266 : BitVec 32 := Scalar.addi c0_i32_2464 v2265
  v2266.toNat
def k0_dev124 (v0 : BitVec 32) : Nat :=
  let c0_i32_2484 : BitVec 32 := 0#32
  let c1_i32_2483 : BitVec 32 := 1#32
  let v2276 : BitVec 32 := Scalar.muli v0 c1_i32_2483
  let v2277 : BitVec 32 := Scalar.addi c0_i32_2484 v2276
  v2277.toNat
def k0_dev125 (v1 : BitVec 32) : Nat :=
  let c0_i32_2504 : BitVec 32 := 0#32
  let c1_i32_2503 : BitVec 32 := 1#32
  let v2297 : BitVec 32 := Scalar.muli v1 c1_i32_2503
  let v2298 : BitVec 32 := Scalar.addi c0_i32_2504 v2297
  v2298.toNat
def k0_dev126 (v0 : BitVec 32) : Nat :=
  let c0_i32_2524 : BitVec 32 := 0#32
  let c1_i32_2523 : BitVec 32 := 1#32
  let v2308 : BitVec 32 := Scalar.muli v0 c1_i32_2523
  let v2309 : BitVec 32 := Scalar.addi c0_i32_2524 v2308
  v2309.toNat
def k0_off33 (v2318 : BitVec 32) : Fin 2 → Nat :=
  let c128_i32_2530 : BitVec 32 := 128#32
  let v2320 : BitVec 32 := Scalar.muli v2318 c128_i32_2530
  let v2321 : Index := Scalar.indexCast v2320
  let c0_2531 : Index := 0#32
  ![v2321.toNat, 0]

def k0_chk35 (v2318 : BitVec 32) : Prop :=
  (∀ a, (k0_off33 v2318) a + S128x128.size a ≤ S4096x128.size a)
theorem k0_off33_inb : ∀ (v2318 : BitVec 32) (k0_hw35 : k0_chk35 v2318), ∀ a, (k0_off33 v2318) a + S128x128.size a ≤ S4096x128.size a := fun v2318 k0_hw35 => k0_hw35

def k0_off34 (v2319 : BitVec 32) : Fin 2 → Nat :=
  let c128_i32_2532 : BitVec 32 := 128#32
  let v2325 : BitVec 32 := Scalar.muli v2319 c128_i32_2532
  let v2326 : Index := Scalar.indexCast v2325
  let c0_2533 : Index := 0#32
  ![v2326.toNat, 0]

def k0_chk36 (v2319 : BitVec 32) : Prop :=
  (∀ a, (k0_off34 v2319) a + S128x128.size a ≤ S4096x128.size a)
theorem k0_off34_inb : ∀ (v2319 : BitVec 32) (k0_hw36 : k0_chk36 v2319), ∀ a, (k0_off34 v2319) a + S128x128.size a ≤ S4096x128.size a := fun v2319 k0_hw36 => k0_hw36

def k0_dev127 (v0 : BitVec 32) : Nat :=
  let c0_i32_2551 : BitVec 32 := 0#32
  let c1_i32_2550 : BitVec 32 := 1#32
  let v2351 : BitVec 32 := Scalar.muli v0 c1_i32_2550
  let v2352 : BitVec 32 := Scalar.addi c0_i32_2551 v2351
  v2352.toNat
def k0_dev128 (v1 : BitVec 32) : Nat :=
  let c0_i32_2571 : BitVec 32 := 0#32
  let c1_i32_2570 : BitVec 32 := 1#32
  let v2362 : BitVec 32 := Scalar.muli v1 c1_i32_2570
  let v2363 : BitVec 32 := Scalar.addi c0_i32_2571 v2362
  v2363.toNat
def k0_dev129 (v0 : BitVec 32) : Nat :=
  let c0_i32_2591 : BitVec 32 := 0#32
  let c1_i32_2590 : BitVec 32 := 1#32
  let v2383 : BitVec 32 := Scalar.muli v0 c1_i32_2590
  let v2384 : BitVec 32 := Scalar.addi c0_i32_2591 v2383
  v2384.toNat
def k0_dev130 (v1 : BitVec 32) : Nat :=
  let c0_i32_2611 : BitVec 32 := 0#32
  let c1_i32_2610 : BitVec 32 := 1#32
  let v2394 : BitVec 32 := Scalar.muli v1 c1_i32_2610
  let v2395 : BitVec 32 := Scalar.addi c0_i32_2611 v2394
  v2395.toNat
def k0_dev131 (v1 : BitVec 32) : Nat :=
  let c0_i32_2631 : BitVec 32 := 0#32
  let c1_i32_2630 : BitVec 32 := 1#32
  let v2415 : BitVec 32 := Scalar.muli v1 c1_i32_2630
  let v2416 : BitVec 32 := Scalar.addi c0_i32_2631 v2415
  v2416.toNat
def k0_dev132 (v0 : BitVec 32) : Nat :=
  let c0_i32_2651 : BitVec 32 := 0#32
  let c1_i32_2650 : BitVec 32 := 1#32
  let v2426 : BitVec 32 := Scalar.muli v0 c1_i32_2650
  let v2427 : BitVec 32 := Scalar.addi c0_i32_2651 v2426
  v2427.toNat
def k0_dev133 (v1 : BitVec 32) : Nat :=
  let c0_i32_2671 : BitVec 32 := 0#32
  let c1_i32_2670 : BitVec 32 := 1#32
  let v2447 : BitVec 32 := Scalar.muli v1 c1_i32_2670
  let v2448 : BitVec 32 := Scalar.addi c0_i32_2671 v2447
  v2448.toNat
def k0_dev134 (v0 : BitVec 32) : Nat :=
  let c0_i32_2691 : BitVec 32 := 0#32
  let c1_i32_2690 : BitVec 32 := 1#32
  let v2458 : BitVec 32 := Scalar.muli v0 c1_i32_2690
  let v2459 : BitVec 32 := Scalar.addi c0_i32_2691 v2458
  v2459.toNat
def k0_off35 (v2468 : BitVec 32) : Fin 2 → Nat :=
  let c128_i32_2697 : BitVec 32 := 128#32
  let v2470 : BitVec 32 := Scalar.muli v2468 c128_i32_2697
  let v2471 : Index := Scalar.indexCast v2470
  let c0_2698 : Index := 0#32
  ![v2471.toNat, 0]

def k0_chk37 (v2468 : BitVec 32) : Prop :=
  (∀ a, (k0_off35 v2468) a + S128x128.size a ≤ S4096x128.size a)
theorem k0_off35_inb : ∀ (v2468 : BitVec 32) (k0_hw37 : k0_chk37 v2468), ∀ a, (k0_off35 v2468) a + S128x128.size a ≤ S4096x128.size a := fun v2468 k0_hw37 => k0_hw37

def k0_off36 (v2469 : BitVec 32) : Fin 2 → Nat :=
  let c128_i32_2699 : BitVec 32 := 128#32
  let v2475 : BitVec 32 := Scalar.muli v2469 c128_i32_2699
  let v2476 : Index := Scalar.indexCast v2475
  let c0_2700 : Index := 0#32
  ![v2476.toNat, 0]

def k0_chk38 (v2469 : BitVec 32) : Prop :=
  (∀ a, (k0_off36 v2469) a + S128x128.size a ≤ S4096x128.size a)
theorem k0_off36_inb : ∀ (v2469 : BitVec 32) (k0_hw38 : k0_chk38 v2469), ∀ a, (k0_off36 v2469) a + S128x128.size a ≤ S4096x128.size a := fun v2469 k0_hw38 => k0_hw38

def k0_dev135 (v0 : BitVec 32) : Nat :=
  let c0_i32_2718 : BitVec 32 := 0#32
  let c1_i32_2717 : BitVec 32 := 1#32
  let v2501 : BitVec 32 := Scalar.muli v0 c1_i32_2717
  let v2502 : BitVec 32 := Scalar.addi c0_i32_2718 v2501
  v2502.toNat
def k0_dev136 (v1 : BitVec 32) : Nat :=
  let c0_i32_2738 : BitVec 32 := 0#32
  let c1_i32_2737 : BitVec 32 := 1#32
  let v2512 : BitVec 32 := Scalar.muli v1 c1_i32_2737
  let v2513 : BitVec 32 := Scalar.addi c0_i32_2738 v2512
  v2513.toNat
def k0_dev137 (v0 : BitVec 32) : Nat :=
  let c0_i32_2758 : BitVec 32 := 0#32
  let c1_i32_2757 : BitVec 32 := 1#32
  let v2533 : BitVec 32 := Scalar.muli v0 c1_i32_2757
  let v2534 : BitVec 32 := Scalar.addi c0_i32_2758 v2533
  v2534.toNat
def k0_dev138 (v1 : BitVec 32) : Nat :=
  let c0_i32_2778 : BitVec 32 := 0#32
  let c1_i32_2777 : BitVec 32 := 1#32
  let v2544 : BitVec 32 := Scalar.muli v1 c1_i32_2777
  let v2545 : BitVec 32 := Scalar.addi c0_i32_2778 v2544
  v2545.toNat
def k0_dev139 (v1 : BitVec 32) : Nat :=
  let c0_i32_2798 : BitVec 32 := 0#32
  let c1_i32_2797 : BitVec 32 := 1#32
  let v2565 : BitVec 32 := Scalar.muli v1 c1_i32_2797
  let v2566 : BitVec 32 := Scalar.addi c0_i32_2798 v2565
  v2566.toNat
def k0_dev140 (v0 : BitVec 32) : Nat :=
  let c0_i32_2818 : BitVec 32 := 0#32
  let c1_i32_2817 : BitVec 32 := 1#32
  let v2576 : BitVec 32 := Scalar.muli v0 c1_i32_2817
  let v2577 : BitVec 32 := Scalar.addi c0_i32_2818 v2576
  v2577.toNat
def k0_dev141 (v1 : BitVec 32) : Nat :=
  let c0_i32_2838 : BitVec 32 := 0#32
  let c1_i32_2837 : BitVec 32 := 1#32
  let v2597 : BitVec 32 := Scalar.muli v1 c1_i32_2837
  let v2598 : BitVec 32 := Scalar.addi c0_i32_2838 v2597
  v2598.toNat
def k0_dev142 (v0 : BitVec 32) : Nat :=
  let c0_i32_2858 : BitVec 32 := 0#32
  let c1_i32_2857 : BitVec 32 := 1#32
  let v2608 : BitVec 32 := Scalar.muli v0 c1_i32_2857
  let v2609 : BitVec 32 := Scalar.addi c0_i32_2858 v2608
  v2609.toNat
def k0_off37 (v2618 : BitVec 32) : Fin 2 → Nat :=
  let c128_i32_2864 : BitVec 32 := 128#32
  let v2620 : BitVec 32 := Scalar.muli v2618 c128_i32_2864
  let v2621 : Index := Scalar.indexCast v2620
  let c0_2865 : Index := 0#32
  ![v2621.toNat, 0]

def k0_chk39 (v2618 : BitVec 32) : Prop :=
  (∀ a, (k0_off37 v2618) a + S128x128.size a ≤ S4096x128.size a)
theorem k0_off37_inb : ∀ (v2618 : BitVec 32) (k0_hw39 : k0_chk39 v2618), ∀ a, (k0_off37 v2618) a + S128x128.size a ≤ S4096x128.size a := fun v2618 k0_hw39 => k0_hw39

def k0_off38 (v2619 : BitVec 32) : Fin 2 → Nat :=
  let c128_i32_2866 : BitVec 32 := 128#32
  let v2625 : BitVec 32 := Scalar.muli v2619 c128_i32_2866
  let v2626 : Index := Scalar.indexCast v2625
  let c0_2867 : Index := 0#32
  ![v2626.toNat, 0]

def k0_chk40 (v2619 : BitVec 32) : Prop :=
  (∀ a, (k0_off38 v2619) a + S128x128.size a ≤ S4096x128.size a)
theorem k0_off38_inb : ∀ (v2619 : BitVec 32) (k0_hw40 : k0_chk40 v2619), ∀ a, (k0_off38 v2619) a + S128x128.size a ≤ S4096x128.size a := fun v2619 k0_hw40 => k0_hw40

def k0_dev143 (v0 : BitVec 32) : Nat :=
  let c0_i32_2885 : BitVec 32 := 0#32
  let c1_i32_2884 : BitVec 32 := 1#32
  let v2651 : BitVec 32 := Scalar.muli v0 c1_i32_2884
  let v2652 : BitVec 32 := Scalar.addi c0_i32_2885 v2651
  v2652.toNat
def k0_dev144 (v1 : BitVec 32) : Nat :=
  let c0_i32_2905 : BitVec 32 := 0#32
  let c1_i32_2904 : BitVec 32 := 1#32
  let v2662 : BitVec 32 := Scalar.muli v1 c1_i32_2904
  let v2663 : BitVec 32 := Scalar.addi c0_i32_2905 v2662
  v2663.toNat
def k0_dev145 (v0 : BitVec 32) : Nat :=
  let c0_i32_2925 : BitVec 32 := 0#32
  let c1_i32_2924 : BitVec 32 := 1#32
  let v2683 : BitVec 32 := Scalar.muli v0 c1_i32_2924
  let v2684 : BitVec 32 := Scalar.addi c0_i32_2925 v2683
  v2684.toNat
def k0_dev146 (v1 : BitVec 32) : Nat :=
  let c0_i32_2945 : BitVec 32 := 0#32
  let c1_i32_2944 : BitVec 32 := 1#32
  let v2694 : BitVec 32 := Scalar.muli v1 c1_i32_2944
  let v2695 : BitVec 32 := Scalar.addi c0_i32_2945 v2694
  v2695.toNat
def k0_dev147 (v1 : BitVec 32) : Nat :=
  let c0_i32_2965 : BitVec 32 := 0#32
  let c1_i32_2964 : BitVec 32 := 1#32
  let v2715 : BitVec 32 := Scalar.muli v1 c1_i32_2964
  let v2716 : BitVec 32 := Scalar.addi c0_i32_2965 v2715
  v2716.toNat
def k0_dev148 (v0 : BitVec 32) : Nat :=
  let c0_i32_2985 : BitVec 32 := 0#32
  let c1_i32_2984 : BitVec 32 := 1#32
  let v2726 : BitVec 32 := Scalar.muli v0 c1_i32_2984
  let v2727 : BitVec 32 := Scalar.addi c0_i32_2985 v2726
  v2727.toNat
def k0_dev149 (v1 : BitVec 32) : Nat :=
  let c0_i32_3005 : BitVec 32 := 0#32
  let c1_i32_3004 : BitVec 32 := 1#32
  let v2747 : BitVec 32 := Scalar.muli v1 c1_i32_3004
  let v2748 : BitVec 32 := Scalar.addi c0_i32_3005 v2747
  v2748.toNat
def k0_dev150 (v0 : BitVec 32) : Nat :=
  let c0_i32_3025 : BitVec 32 := 0#32
  let c1_i32_3024 : BitVec 32 := 1#32
  let v2758 : BitVec 32 := Scalar.muli v0 c1_i32_3024
  let v2759 : BitVec 32 := Scalar.addi c0_i32_3025 v2758
  v2759.toNat
def k0_off39 (v2768 : BitVec 32) : Fin 2 → Nat :=
  let c128_i32_3031 : BitVec 32 := 128#32
  let v2770 : BitVec 32 := Scalar.muli v2768 c128_i32_3031
  let v2771 : Index := Scalar.indexCast v2770
  let c0_3032 : Index := 0#32
  ![v2771.toNat, 0]

def k0_chk41 (v2768 : BitVec 32) : Prop :=
  (∀ a, (k0_off39 v2768) a + S128x128.size a ≤ S4096x128.size a)
theorem k0_off39_inb : ∀ (v2768 : BitVec 32) (k0_hw41 : k0_chk41 v2768), ∀ a, (k0_off39 v2768) a + S128x128.size a ≤ S4096x128.size a := fun v2768 k0_hw41 => k0_hw41

def k0_off40 (v2769 : BitVec 32) : Fin 2 → Nat :=
  let c128_i32_3033 : BitVec 32 := 128#32
  let v2775 : BitVec 32 := Scalar.muli v2769 c128_i32_3033
  let v2776 : Index := Scalar.indexCast v2775
  let c0_3034 : Index := 0#32
  ![v2776.toNat, 0]

def k0_chk42 (v2769 : BitVec 32) : Prop :=
  (∀ a, (k0_off40 v2769) a + S128x128.size a ≤ S4096x128.size a)
theorem k0_off40_inb : ∀ (v2769 : BitVec 32) (k0_hw42 : k0_chk42 v2769), ∀ a, (k0_off40 v2769) a + S128x128.size a ≤ S4096x128.size a := fun v2769 k0_hw42 => k0_hw42

def k0_dev151 (v0 : BitVec 32) : Nat :=
  let c0_i32_3052 : BitVec 32 := 0#32
  let c1_i32_3051 : BitVec 32 := 1#32
  let v2801 : BitVec 32 := Scalar.muli v0 c1_i32_3051
  let v2802 : BitVec 32 := Scalar.addi c0_i32_3052 v2801
  v2802.toNat
def k0_dev152 (v1 : BitVec 32) : Nat :=
  let c0_i32_3072 : BitVec 32 := 0#32
  let c1_i32_3071 : BitVec 32 := 1#32
  let v2812 : BitVec 32 := Scalar.muli v1 c1_i32_3071
  let v2813 : BitVec 32 := Scalar.addi c0_i32_3072 v2812
  v2813.toNat
def k0_dev153 (v0 : BitVec 32) : Nat :=
  let c0_i32_3092 : BitVec 32 := 0#32
  let c1_i32_3091 : BitVec 32 := 1#32
  let v2833 : BitVec 32 := Scalar.muli v0 c1_i32_3091
  let v2834 : BitVec 32 := Scalar.addi c0_i32_3092 v2833
  v2834.toNat
def k0_dev154 (v1 : BitVec 32) : Nat :=
  let c0_i32_3112 : BitVec 32 := 0#32
  let c1_i32_3111 : BitVec 32 := 1#32
  let v2844 : BitVec 32 := Scalar.muli v1 c1_i32_3111
  let v2845 : BitVec 32 := Scalar.addi c0_i32_3112 v2844
  v2845.toNat
def k0_dev155 (v1 : BitVec 32) : Nat :=
  let c0_i32_3132 : BitVec 32 := 0#32
  let c1_i32_3131 : BitVec 32 := 1#32
  let v2865 : BitVec 32 := Scalar.muli v1 c1_i32_3131
  let v2866 : BitVec 32 := Scalar.addi c0_i32_3132 v2865
  v2866.toNat
def k0_dev156 (v0 : BitVec 32) : Nat :=
  let c0_i32_3152 : BitVec 32 := 0#32
  let c1_i32_3151 : BitVec 32 := 1#32
  let v2876 : BitVec 32 := Scalar.muli v0 c1_i32_3151
  let v2877 : BitVec 32 := Scalar.addi c0_i32_3152 v2876
  v2877.toNat
def k0_dev157 (v1 : BitVec 32) : Nat :=
  let c0_i32_3172 : BitVec 32 := 0#32
  let c1_i32_3171 : BitVec 32 := 1#32
  let v2897 : BitVec 32 := Scalar.muli v1 c1_i32_3171
  let v2898 : BitVec 32 := Scalar.addi c0_i32_3172 v2897
  v2898.toNat
def k0_dev158 (v0 : BitVec 32) : Nat :=
  let c0_i32_3192 : BitVec 32 := 0#32
  let c1_i32_3191 : BitVec 32 := 1#32
  let v2908 : BitVec 32 := Scalar.muli v0 c1_i32_3191
  let v2909 : BitVec 32 := Scalar.addi c0_i32_3192 v2908
  v2909.toNat
def k0_off41 (v2918 : BitVec 32) : Fin 2 → Nat :=
  let c128_i32_3198 : BitVec 32 := 128#32
  let v2920 : BitVec 32 := Scalar.muli v2918 c128_i32_3198
  let v2921 : Index := Scalar.indexCast v2920
  let c0_3199 : Index := 0#32
  ![v2921.toNat, 0]

def k0_chk43 (v2918 : BitVec 32) : Prop :=
  (∀ a, (k0_off41 v2918) a + S128x128.size a ≤ S4096x128.size a)
theorem k0_off41_inb : ∀ (v2918 : BitVec 32) (k0_hw43 : k0_chk43 v2918), ∀ a, (k0_off41 v2918) a + S128x128.size a ≤ S4096x128.size a := fun v2918 k0_hw43 => k0_hw43

def k0_off42 (v2919 : BitVec 32) : Fin 2 → Nat :=
  let c128_i32_3200 : BitVec 32 := 128#32
  let v2925 : BitVec 32 := Scalar.muli v2919 c128_i32_3200
  let v2926 : Index := Scalar.indexCast v2925
  let c0_3201 : Index := 0#32
  ![v2926.toNat, 0]

def k0_chk44 (v2919 : BitVec 32) : Prop :=
  (∀ a, (k0_off42 v2919) a + S128x128.size a ≤ S4096x128.size a)
theorem k0_off42_inb : ∀ (v2919 : BitVec 32) (k0_hw44 : k0_chk44 v2919), ∀ a, (k0_off42 v2919) a + S128x128.size a ≤ S4096x128.size a := fun v2919 k0_hw44 => k0_hw44

def k0_dev159 (v0 : BitVec 32) : Nat :=
  let c0_i32_3219 : BitVec 32 := 0#32
  let c1_i32_3218 : BitVec 32 := 1#32
  let v2951 : BitVec 32 := Scalar.muli v0 c1_i32_3218
  let v2952 : BitVec 32 := Scalar.addi c0_i32_3219 v2951
  v2952.toNat
def k0_dev160 (v1 : BitVec 32) : Nat :=
  let c0_i32_3239 : BitVec 32 := 0#32
  let c1_i32_3238 : BitVec 32 := 1#32
  let v2962 : BitVec 32 := Scalar.muli v1 c1_i32_3238
  let v2963 : BitVec 32 := Scalar.addi c0_i32_3239 v2962
  v2963.toNat
def k0_dev161 (v0 : BitVec 32) : Nat :=
  let c0_i32_3259 : BitVec 32 := 0#32
  let c1_i32_3258 : BitVec 32 := 1#32
  let v2983 : BitVec 32 := Scalar.muli v0 c1_i32_3258
  let v2984 : BitVec 32 := Scalar.addi c0_i32_3259 v2983
  v2984.toNat
def k0_dev162 (v1 : BitVec 32) : Nat :=
  let c0_i32_3279 : BitVec 32 := 0#32
  let c1_i32_3278 : BitVec 32 := 1#32
  let v2994 : BitVec 32 := Scalar.muli v1 c1_i32_3278
  let v2995 : BitVec 32 := Scalar.addi c0_i32_3279 v2994
  v2995.toNat
def k0_dev163 (v1 : BitVec 32) : Nat :=
  let c0_i32_3299 : BitVec 32 := 0#32
  let c1_i32_3298 : BitVec 32 := 1#32
  let v3015 : BitVec 32 := Scalar.muli v1 c1_i32_3298
  let v3016 : BitVec 32 := Scalar.addi c0_i32_3299 v3015
  v3016.toNat
def k0_dev164 (v0 : BitVec 32) : Nat :=
  let c0_i32_3319 : BitVec 32 := 0#32
  let c1_i32_3318 : BitVec 32 := 1#32
  let v3026 : BitVec 32 := Scalar.muli v0 c1_i32_3318
  let v3027 : BitVec 32 := Scalar.addi c0_i32_3319 v3026
  v3027.toNat
def k0_dev165 (v1 : BitVec 32) : Nat :=
  let c0_i32_3339 : BitVec 32 := 0#32
  let c1_i32_3338 : BitVec 32 := 1#32
  let v3047 : BitVec 32 := Scalar.muli v1 c1_i32_3338
  let v3048 : BitVec 32 := Scalar.addi c0_i32_3339 v3047
  v3048.toNat
def k0_dev166 (v0 : BitVec 32) : Nat :=
  let c0_i32_3359 : BitVec 32 := 0#32
  let c1_i32_3358 : BitVec 32 := 1#32
  let v3058 : BitVec 32 := Scalar.muli v0 c1_i32_3358
  let v3059 : BitVec 32 := Scalar.addi c0_i32_3359 v3058
  v3059.toNat
def k0_off43 (v3068 : BitVec 32) : Fin 2 → Nat :=
  let c128_i32_3365 : BitVec 32 := 128#32
  let v3070 : BitVec 32 := Scalar.muli v3068 c128_i32_3365
  let v3071 : Index := Scalar.indexCast v3070
  let c0_3366 : Index := 0#32
  ![v3071.toNat, 0]

def k0_chk45 (v3068 : BitVec 32) : Prop :=
  (∀ a, (k0_off43 v3068) a + S128x128.size a ≤ S4096x128.size a)
theorem k0_off43_inb : ∀ (v3068 : BitVec 32) (k0_hw45 : k0_chk45 v3068), ∀ a, (k0_off43 v3068) a + S128x128.size a ≤ S4096x128.size a := fun v3068 k0_hw45 => k0_hw45

def k0_off44 (v3069 : BitVec 32) : Fin 2 → Nat :=
  let c128_i32_3367 : BitVec 32 := 128#32
  let v3075 : BitVec 32 := Scalar.muli v3069 c128_i32_3367
  let v3076 : Index := Scalar.indexCast v3075
  let c0_3368 : Index := 0#32
  ![v3076.toNat, 0]

def k0_chk46 (v3069 : BitVec 32) : Prop :=
  (∀ a, (k0_off44 v3069) a + S128x128.size a ≤ S4096x128.size a)
theorem k0_off44_inb : ∀ (v3069 : BitVec 32) (k0_hw46 : k0_chk46 v3069), ∀ a, (k0_off44 v3069) a + S128x128.size a ≤ S4096x128.size a := fun v3069 k0_hw46 => k0_hw46

def k0_dev167 (v0 : BitVec 32) : Nat :=
  let c0_i32_3386 : BitVec 32 := 0#32
  let c1_i32_3385 : BitVec 32 := 1#32
  let v3101 : BitVec 32 := Scalar.muli v0 c1_i32_3385
  let v3102 : BitVec 32 := Scalar.addi c0_i32_3386 v3101
  v3102.toNat
def k0_dev168 (v1 : BitVec 32) : Nat :=
  let c0_i32_3406 : BitVec 32 := 0#32
  let c1_i32_3405 : BitVec 32 := 1#32
  let v3112 : BitVec 32 := Scalar.muli v1 c1_i32_3405
  let v3113 : BitVec 32 := Scalar.addi c0_i32_3406 v3112
  v3113.toNat
def k0_dev169 (v0 : BitVec 32) : Nat :=
  let c0_i32_3426 : BitVec 32 := 0#32
  let c1_i32_3425 : BitVec 32 := 1#32
  let v3133 : BitVec 32 := Scalar.muli v0 c1_i32_3425
  let v3134 : BitVec 32 := Scalar.addi c0_i32_3426 v3133
  v3134.toNat
def k0_dev170 (v1 : BitVec 32) : Nat :=
  let c0_i32_3446 : BitVec 32 := 0#32
  let c1_i32_3445 : BitVec 32 := 1#32
  let v3144 : BitVec 32 := Scalar.muli v1 c1_i32_3445
  let v3145 : BitVec 32 := Scalar.addi c0_i32_3446 v3144
  v3145.toNat
def k0_dev171 (v1 : BitVec 32) : Nat :=
  let c0_i32_3466 : BitVec 32 := 0#32
  let c1_i32_3465 : BitVec 32 := 1#32
  let v3165 : BitVec 32 := Scalar.muli v1 c1_i32_3465
  let v3166 : BitVec 32 := Scalar.addi c0_i32_3466 v3165
  v3166.toNat
def k0_dev172 (v0 : BitVec 32) : Nat :=
  let c0_i32_3486 : BitVec 32 := 0#32
  let c1_i32_3485 : BitVec 32 := 1#32
  let v3176 : BitVec 32 := Scalar.muli v0 c1_i32_3485
  let v3177 : BitVec 32 := Scalar.addi c0_i32_3486 v3176
  v3177.toNat
def k0_dev173 (v1 : BitVec 32) : Nat :=
  let c0_i32_3506 : BitVec 32 := 0#32
  let c1_i32_3505 : BitVec 32 := 1#32
  let v3197 : BitVec 32 := Scalar.muli v1 c1_i32_3505
  let v3198 : BitVec 32 := Scalar.addi c0_i32_3506 v3197
  v3198.toNat
def k0_dev174 (v0 : BitVec 32) : Nat :=
  let c0_i32_3526 : BitVec 32 := 0#32
  let c1_i32_3525 : BitVec 32 := 1#32
  let v3208 : BitVec 32 := Scalar.muli v0 c1_i32_3525
  let v3209 : BitVec 32 := Scalar.addi c0_i32_3526 v3208
  v3209.toNat
def k0_off45 (v3218 : BitVec 32) : Fin 2 → Nat :=
  let c128_i32_3532 : BitVec 32 := 128#32
  let v3220 : BitVec 32 := Scalar.muli v3218 c128_i32_3532
  let v3221 : Index := Scalar.indexCast v3220
  let c0_3533 : Index := 0#32
  ![v3221.toNat, 0]

def k0_chk47 (v3218 : BitVec 32) : Prop :=
  (∀ a, (k0_off45 v3218) a + S128x128.size a ≤ S4096x128.size a)
theorem k0_off45_inb : ∀ (v3218 : BitVec 32) (k0_hw47 : k0_chk47 v3218), ∀ a, (k0_off45 v3218) a + S128x128.size a ≤ S4096x128.size a := fun v3218 k0_hw47 => k0_hw47

def k0_off46 (v3219 : BitVec 32) : Fin 2 → Nat :=
  let c128_i32_3534 : BitVec 32 := 128#32
  let v3225 : BitVec 32 := Scalar.muli v3219 c128_i32_3534
  let v3226 : Index := Scalar.indexCast v3225
  let c0_3535 : Index := 0#32
  ![v3226.toNat, 0]

def k0_chk48 (v3219 : BitVec 32) : Prop :=
  (∀ a, (k0_off46 v3219) a + S128x128.size a ≤ S4096x128.size a)
theorem k0_off46_inb : ∀ (v3219 : BitVec 32) (k0_hw48 : k0_chk48 v3219), ∀ a, (k0_off46 v3219) a + S128x128.size a ≤ S4096x128.size a := fun v3219 k0_hw48 => k0_hw48

def k0_dev175 (v0 : BitVec 32) : Nat :=
  let c0_i32_3553 : BitVec 32 := 0#32
  let c1_i32_3552 : BitVec 32 := 1#32
  let v3251 : BitVec 32 := Scalar.muli v0 c1_i32_3552
  let v3252 : BitVec 32 := Scalar.addi c0_i32_3553 v3251
  v3252.toNat
def k0_dev176 (v1 : BitVec 32) : Nat :=
  let c0_i32_3573 : BitVec 32 := 0#32
  let c1_i32_3572 : BitVec 32 := 1#32
  let v3262 : BitVec 32 := Scalar.muli v1 c1_i32_3572
  let v3263 : BitVec 32 := Scalar.addi c0_i32_3573 v3262
  v3263.toNat
def k0_dev177 (v0 : BitVec 32) : Nat :=
  let c0_i32_3593 : BitVec 32 := 0#32
  let c1_i32_3592 : BitVec 32 := 1#32
  let v3283 : BitVec 32 := Scalar.muli v0 c1_i32_3592
  let v3284 : BitVec 32 := Scalar.addi c0_i32_3593 v3283
  v3284.toNat
def k0_dev178 (v1 : BitVec 32) : Nat :=
  let c0_i32_3613 : BitVec 32 := 0#32
  let c1_i32_3612 : BitVec 32 := 1#32
  let v3294 : BitVec 32 := Scalar.muli v1 c1_i32_3612
  let v3295 : BitVec 32 := Scalar.addi c0_i32_3613 v3294
  v3295.toNat
def k0_dev179 (v1 : BitVec 32) : Nat :=
  let c0_i32_3633 : BitVec 32 := 0#32
  let c1_i32_3632 : BitVec 32 := 1#32
  let v3315 : BitVec 32 := Scalar.muli v1 c1_i32_3632
  let v3316 : BitVec 32 := Scalar.addi c0_i32_3633 v3315
  v3316.toNat
def k0_dev180 (v0 : BitVec 32) : Nat :=
  let c0_i32_3653 : BitVec 32 := 0#32
  let c1_i32_3652 : BitVec 32 := 1#32
  let v3326 : BitVec 32 := Scalar.muli v0 c1_i32_3652
  let v3327 : BitVec 32 := Scalar.addi c0_i32_3653 v3326
  v3327.toNat
def k0_dev181 (v1 : BitVec 32) : Nat :=
  let c0_i32_3673 : BitVec 32 := 0#32
  let c1_i32_3672 : BitVec 32 := 1#32
  let v3347 : BitVec 32 := Scalar.muli v1 c1_i32_3672
  let v3348 : BitVec 32 := Scalar.addi c0_i32_3673 v3347
  v3348.toNat
def k0_dev182 (v0 : BitVec 32) : Nat :=
  let c0_i32_3693 : BitVec 32 := 0#32
  let c1_i32_3692 : BitVec 32 := 1#32
  let v3358 : BitVec 32 := Scalar.muli v0 c1_i32_3692
  let v3359 : BitVec 32 := Scalar.addi c0_i32_3693 v3358
  v3359.toNat
def k0_off47 (v3368 : BitVec 32) : Fin 2 → Nat :=
  let c128_i32_3699 : BitVec 32 := 128#32
  let v3370 : BitVec 32 := Scalar.muli v3368 c128_i32_3699
  let v3371 : Index := Scalar.indexCast v3370
  let c0_3700 : Index := 0#32
  ![v3371.toNat, 0]

def k0_chk49 (v3368 : BitVec 32) : Prop :=
  (∀ a, (k0_off47 v3368) a + S128x128.size a ≤ S4096x128.size a)
theorem k0_off47_inb : ∀ (v3368 : BitVec 32) (k0_hw49 : k0_chk49 v3368), ∀ a, (k0_off47 v3368) a + S128x128.size a ≤ S4096x128.size a := fun v3368 k0_hw49 => k0_hw49

def k0_off48 (v3369 : BitVec 32) : Fin 2 → Nat :=
  let c128_i32_3701 : BitVec 32 := 128#32
  let v3375 : BitVec 32 := Scalar.muli v3369 c128_i32_3701
  let v3376 : Index := Scalar.indexCast v3375
  let c0_3702 : Index := 0#32
  ![v3376.toNat, 0]

def k0_chk50 (v3369 : BitVec 32) : Prop :=
  (∀ a, (k0_off48 v3369) a + S128x128.size a ≤ S4096x128.size a)
theorem k0_off48_inb : ∀ (v3369 : BitVec 32) (k0_hw50 : k0_chk50 v3369), ∀ a, (k0_off48 v3369) a + S128x128.size a ≤ S4096x128.size a := fun v3369 k0_hw50 => k0_hw50

def k0_dev183 (v0 : BitVec 32) : Nat :=
  let c0_i32_3720 : BitVec 32 := 0#32
  let c1_i32_3719 : BitVec 32 := 1#32
  let v3401 : BitVec 32 := Scalar.muli v0 c1_i32_3719
  let v3402 : BitVec 32 := Scalar.addi c0_i32_3720 v3401
  v3402.toNat
def k0_dev184 (v1 : BitVec 32) : Nat :=
  let c0_i32_3740 : BitVec 32 := 0#32
  let c1_i32_3739 : BitVec 32 := 1#32
  let v3412 : BitVec 32 := Scalar.muli v1 c1_i32_3739
  let v3413 : BitVec 32 := Scalar.addi c0_i32_3740 v3412
  v3413.toNat
def k0_dev185 (v0 : BitVec 32) : Nat :=
  let c0_i32_3760 : BitVec 32 := 0#32
  let c1_i32_3759 : BitVec 32 := 1#32
  let v3433 : BitVec 32 := Scalar.muli v0 c1_i32_3759
  let v3434 : BitVec 32 := Scalar.addi c0_i32_3760 v3433
  v3434.toNat
def k0_dev186 (v1 : BitVec 32) : Nat :=
  let c0_i32_3780 : BitVec 32 := 0#32
  let c1_i32_3779 : BitVec 32 := 1#32
  let v3444 : BitVec 32 := Scalar.muli v1 c1_i32_3779
  let v3445 : BitVec 32 := Scalar.addi c0_i32_3780 v3444
  v3445.toNat
def k0_dev187 (v1 : BitVec 32) : Nat :=
  let c0_i32_3800 : BitVec 32 := 0#32
  let c1_i32_3799 : BitVec 32 := 1#32
  let v3465 : BitVec 32 := Scalar.muli v1 c1_i32_3799
  let v3466 : BitVec 32 := Scalar.addi c0_i32_3800 v3465
  v3466.toNat
def k0_dev188 (v0 : BitVec 32) : Nat :=
  let c0_i32_3820 : BitVec 32 := 0#32
  let c1_i32_3819 : BitVec 32 := 1#32
  let v3476 : BitVec 32 := Scalar.muli v0 c1_i32_3819
  let v3477 : BitVec 32 := Scalar.addi c0_i32_3820 v3476
  v3477.toNat
def k0_dev189 (v1 : BitVec 32) : Nat :=
  let c0_i32_3840 : BitVec 32 := 0#32
  let c1_i32_3839 : BitVec 32 := 1#32
  let v3497 : BitVec 32 := Scalar.muli v1 c1_i32_3839
  let v3498 : BitVec 32 := Scalar.addi c0_i32_3840 v3497
  v3498.toNat
def k0_dev190 (v0 : BitVec 32) : Nat :=
  let c0_i32_3860 : BitVec 32 := 0#32
  let c1_i32_3859 : BitVec 32 := 1#32
  let v3508 : BitVec 32 := Scalar.muli v0 c1_i32_3859
  let v3509 : BitVec 32 := Scalar.addi c0_i32_3860 v3508
  v3509.toNat
def k0_off49 (v3518 : BitVec 32) : Fin 2 → Nat :=
  let c128_i32_3866 : BitVec 32 := 128#32
  let v3520 : BitVec 32 := Scalar.muli v3518 c128_i32_3866
  let v3521 : Index := Scalar.indexCast v3520
  let c0_3867 : Index := 0#32
  ![v3521.toNat, 0]

def k0_chk51 (v3518 : BitVec 32) : Prop :=
  (∀ a, (k0_off49 v3518) a + S128x128.size a ≤ S4096x128.size a)
theorem k0_off49_inb : ∀ (v3518 : BitVec 32) (k0_hw51 : k0_chk51 v3518), ∀ a, (k0_off49 v3518) a + S128x128.size a ≤ S4096x128.size a := fun v3518 k0_hw51 => k0_hw51

def k0_off50 (v3519 : BitVec 32) : Fin 2 → Nat :=
  let c128_i32_3868 : BitVec 32 := 128#32
  let v3525 : BitVec 32 := Scalar.muli v3519 c128_i32_3868
  let v3526 : Index := Scalar.indexCast v3525
  let c0_3869 : Index := 0#32
  ![v3526.toNat, 0]

def k0_chk52 (v3519 : BitVec 32) : Prop :=
  (∀ a, (k0_off50 v3519) a + S128x128.size a ≤ S4096x128.size a)
theorem k0_off50_inb : ∀ (v3519 : BitVec 32) (k0_hw52 : k0_chk52 v3519), ∀ a, (k0_off50 v3519) a + S128x128.size a ≤ S4096x128.size a := fun v3519 k0_hw52 => k0_hw52

def k0_dev191 (v0 : BitVec 32) : Nat :=
  let c0_i32_3887 : BitVec 32 := 0#32
  let c1_i32_3886 : BitVec 32 := 1#32
  let v3551 : BitVec 32 := Scalar.muli v0 c1_i32_3886
  let v3552 : BitVec 32 := Scalar.addi c0_i32_3887 v3551
  v3552.toNat
def k0_dev192 (v1 : BitVec 32) : Nat :=
  let c0_i32_3907 : BitVec 32 := 0#32
  let c1_i32_3906 : BitVec 32 := 1#32
  let v3562 : BitVec 32 := Scalar.muli v1 c1_i32_3906
  let v3563 : BitVec 32 := Scalar.addi c0_i32_3907 v3562
  v3563.toNat
def k0_dev193 (v0 : BitVec 32) : Nat :=
  let c0_i32_3927 : BitVec 32 := 0#32
  let c1_i32_3926 : BitVec 32 := 1#32
  let v3583 : BitVec 32 := Scalar.muli v0 c1_i32_3926
  let v3584 : BitVec 32 := Scalar.addi c0_i32_3927 v3583
  v3584.toNat
def k0_dev194 (v1 : BitVec 32) : Nat :=
  let c0_i32_3947 : BitVec 32 := 0#32
  let c1_i32_3946 : BitVec 32 := 1#32
  let v3594 : BitVec 32 := Scalar.muli v1 c1_i32_3946
  let v3595 : BitVec 32 := Scalar.addi c0_i32_3947 v3594
  v3595.toNat
def k0_dev195 (v1 : BitVec 32) : Nat :=
  let c0_i32_3967 : BitVec 32 := 0#32
  let c1_i32_3966 : BitVec 32 := 1#32
  let v3615 : BitVec 32 := Scalar.muli v1 c1_i32_3966
  let v3616 : BitVec 32 := Scalar.addi c0_i32_3967 v3615
  v3616.toNat
def k0_dev196 (v0 : BitVec 32) : Nat :=
  let c0_i32_3987 : BitVec 32 := 0#32
  let c1_i32_3986 : BitVec 32 := 1#32
  let v3626 : BitVec 32 := Scalar.muli v0 c1_i32_3986
  let v3627 : BitVec 32 := Scalar.addi c0_i32_3987 v3626
  v3627.toNat
def k0_dev197 (v1 : BitVec 32) : Nat :=
  let c0_i32_4007 : BitVec 32 := 0#32
  let c1_i32_4006 : BitVec 32 := 1#32
  let v3647 : BitVec 32 := Scalar.muli v1 c1_i32_4006
  let v3648 : BitVec 32 := Scalar.addi c0_i32_4007 v3647
  v3648.toNat
def k0_dev198 (v0 : BitVec 32) : Nat :=
  let c0_i32_4027 : BitVec 32 := 0#32
  let c1_i32_4026 : BitVec 32 := 1#32
  let v3658 : BitVec 32 := Scalar.muli v0 c1_i32_4026
  let v3659 : BitVec 32 := Scalar.addi c0_i32_4027 v3658
  v3659.toNat
def k0_off51 (v3668 : BitVec 32) : Fin 2 → Nat :=
  let c128_i32_4033 : BitVec 32 := 128#32
  let v3670 : BitVec 32 := Scalar.muli v3668 c128_i32_4033
  let v3671 : Index := Scalar.indexCast v3670
  let c0_4034 : Index := 0#32
  ![v3671.toNat, 0]

def k0_chk53 (v3668 : BitVec 32) : Prop :=
  (∀ a, (k0_off51 v3668) a + S128x128.size a ≤ S4096x128.size a)
theorem k0_off51_inb : ∀ (v3668 : BitVec 32) (k0_hw53 : k0_chk53 v3668), ∀ a, (k0_off51 v3668) a + S128x128.size a ≤ S4096x128.size a := fun v3668 k0_hw53 => k0_hw53

def k0_off52 (v3669 : BitVec 32) : Fin 2 → Nat :=
  let c128_i32_4035 : BitVec 32 := 128#32
  let v3675 : BitVec 32 := Scalar.muli v3669 c128_i32_4035
  let v3676 : Index := Scalar.indexCast v3675
  let c0_4036 : Index := 0#32
  ![v3676.toNat, 0]

def k0_chk54 (v3669 : BitVec 32) : Prop :=
  (∀ a, (k0_off52 v3669) a + S128x128.size a ≤ S4096x128.size a)
theorem k0_off52_inb : ∀ (v3669 : BitVec 32) (k0_hw54 : k0_chk54 v3669), ∀ a, (k0_off52 v3669) a + S128x128.size a ≤ S4096x128.size a := fun v3669 k0_hw54 => k0_hw54

def k0_dev199 (v0 : BitVec 32) : Nat :=
  let c0_i32_4054 : BitVec 32 := 0#32
  let c1_i32_4053 : BitVec 32 := 1#32
  let v3701 : BitVec 32 := Scalar.muli v0 c1_i32_4053
  let v3702 : BitVec 32 := Scalar.addi c0_i32_4054 v3701
  v3702.toNat
def k0_dev200 (v1 : BitVec 32) : Nat :=
  let c0_i32_4074 : BitVec 32 := 0#32
  let c1_i32_4073 : BitVec 32 := 1#32
  let v3712 : BitVec 32 := Scalar.muli v1 c1_i32_4073
  let v3713 : BitVec 32 := Scalar.addi c0_i32_4074 v3712
  v3713.toNat
def k0_dev201 (v0 : BitVec 32) : Nat :=
  let c0_i32_4094 : BitVec 32 := 0#32
  let c1_i32_4093 : BitVec 32 := 1#32
  let v3733 : BitVec 32 := Scalar.muli v0 c1_i32_4093
  let v3734 : BitVec 32 := Scalar.addi c0_i32_4094 v3733
  v3734.toNat
def k0_dev202 (v1 : BitVec 32) : Nat :=
  let c0_i32_4114 : BitVec 32 := 0#32
  let c1_i32_4113 : BitVec 32 := 1#32
  let v3744 : BitVec 32 := Scalar.muli v1 c1_i32_4113
  let v3745 : BitVec 32 := Scalar.addi c0_i32_4114 v3744
  v3745.toNat
def k0_dev203 (v1 : BitVec 32) : Nat :=
  let c0_i32_4134 : BitVec 32 := 0#32
  let c1_i32_4133 : BitVec 32 := 1#32
  let v3765 : BitVec 32 := Scalar.muli v1 c1_i32_4133
  let v3766 : BitVec 32 := Scalar.addi c0_i32_4134 v3765
  v3766.toNat
def k0_dev204 (v0 : BitVec 32) : Nat :=
  let c0_i32_4154 : BitVec 32 := 0#32
  let c1_i32_4153 : BitVec 32 := 1#32
  let v3776 : BitVec 32 := Scalar.muli v0 c1_i32_4153
  let v3777 : BitVec 32 := Scalar.addi c0_i32_4154 v3776
  v3777.toNat
def k0_dev205 (v1 : BitVec 32) : Nat :=
  let c0_i32_4174 : BitVec 32 := 0#32
  let c1_i32_4173 : BitVec 32 := 1#32
  let v3797 : BitVec 32 := Scalar.muli v1 c1_i32_4173
  let v3798 : BitVec 32 := Scalar.addi c0_i32_4174 v3797
  v3798.toNat
def k0_dev206 (v0 : BitVec 32) : Nat :=
  let c0_i32_4194 : BitVec 32 := 0#32
  let c1_i32_4193 : BitVec 32 := 1#32
  let v3808 : BitVec 32 := Scalar.muli v0 c1_i32_4193
  let v3809 : BitVec 32 := Scalar.addi c0_i32_4194 v3808
  v3809.toNat
def k0_off53 (v3818 : BitVec 32) : Fin 2 → Nat :=
  let c128_i32_4200 : BitVec 32 := 128#32
  let v3820 : BitVec 32 := Scalar.muli v3818 c128_i32_4200
  let v3821 : Index := Scalar.indexCast v3820
  let c0_4201 : Index := 0#32
  ![v3821.toNat, 0]

def k0_chk55 (v3818 : BitVec 32) : Prop :=
  (∀ a, (k0_off53 v3818) a + S128x128.size a ≤ S4096x128.size a)
theorem k0_off53_inb : ∀ (v3818 : BitVec 32) (k0_hw55 : k0_chk55 v3818), ∀ a, (k0_off53 v3818) a + S128x128.size a ≤ S4096x128.size a := fun v3818 k0_hw55 => k0_hw55

def k0_off54 (v3819 : BitVec 32) : Fin 2 → Nat :=
  let c128_i32_4202 : BitVec 32 := 128#32
  let v3825 : BitVec 32 := Scalar.muli v3819 c128_i32_4202
  let v3826 : Index := Scalar.indexCast v3825
  let c0_4203 : Index := 0#32
  ![v3826.toNat, 0]

def k0_chk56 (v3819 : BitVec 32) : Prop :=
  (∀ a, (k0_off54 v3819) a + S128x128.size a ≤ S4096x128.size a)
theorem k0_off54_inb : ∀ (v3819 : BitVec 32) (k0_hw56 : k0_chk56 v3819), ∀ a, (k0_off54 v3819) a + S128x128.size a ≤ S4096x128.size a := fun v3819 k0_hw56 => k0_hw56

def k0_dev207 (v0 : BitVec 32) : Nat :=
  let c0_i32_4221 : BitVec 32 := 0#32
  let c1_i32_4220 : BitVec 32 := 1#32
  let v3851 : BitVec 32 := Scalar.muli v0 c1_i32_4220
  let v3852 : BitVec 32 := Scalar.addi c0_i32_4221 v3851
  v3852.toNat
def k0_dev208 (v1 : BitVec 32) : Nat :=
  let c0_i32_4241 : BitVec 32 := 0#32
  let c1_i32_4240 : BitVec 32 := 1#32
  let v3862 : BitVec 32 := Scalar.muli v1 c1_i32_4240
  let v3863 : BitVec 32 := Scalar.addi c0_i32_4241 v3862
  v3863.toNat
def k0_dev209 (v0 : BitVec 32) : Nat :=
  let c0_i32_4261 : BitVec 32 := 0#32
  let c1_i32_4260 : BitVec 32 := 1#32
  let v3883 : BitVec 32 := Scalar.muli v0 c1_i32_4260
  let v3884 : BitVec 32 := Scalar.addi c0_i32_4261 v3883
  v3884.toNat
def k0_dev210 (v1 : BitVec 32) : Nat :=
  let c0_i32_4281 : BitVec 32 := 0#32
  let c1_i32_4280 : BitVec 32 := 1#32
  let v3894 : BitVec 32 := Scalar.muli v1 c1_i32_4280
  let v3895 : BitVec 32 := Scalar.addi c0_i32_4281 v3894
  v3895.toNat
def k0_dev211 (v1 : BitVec 32) : Nat :=
  let c0_i32_4301 : BitVec 32 := 0#32
  let c1_i32_4300 : BitVec 32 := 1#32
  let v3915 : BitVec 32 := Scalar.muli v1 c1_i32_4300
  let v3916 : BitVec 32 := Scalar.addi c0_i32_4301 v3915
  v3916.toNat
def k0_dev212 (v0 : BitVec 32) : Nat :=
  let c0_i32_4321 : BitVec 32 := 0#32
  let c1_i32_4320 : BitVec 32 := 1#32
  let v3926 : BitVec 32 := Scalar.muli v0 c1_i32_4320
  let v3927 : BitVec 32 := Scalar.addi c0_i32_4321 v3926
  v3927.toNat
def k0_dev213 (v1 : BitVec 32) : Nat :=
  let c0_i32_4341 : BitVec 32 := 0#32
  let c1_i32_4340 : BitVec 32 := 1#32
  let v3947 : BitVec 32 := Scalar.muli v1 c1_i32_4340
  let v3948 : BitVec 32 := Scalar.addi c0_i32_4341 v3947
  v3948.toNat
def k0_dev214 (v0 : BitVec 32) : Nat :=
  let c0_i32_4361 : BitVec 32 := 0#32
  let c1_i32_4360 : BitVec 32 := 1#32
  let v3958 : BitVec 32 := Scalar.muli v0 c1_i32_4360
  let v3959 : BitVec 32 := Scalar.addi c0_i32_4361 v3958
  v3959.toNat
def k0_off55 (v3968 : BitVec 32) : Fin 2 → Nat :=
  let c128_i32_4367 : BitVec 32 := 128#32
  let v3970 : BitVec 32 := Scalar.muli v3968 c128_i32_4367
  let v3971 : Index := Scalar.indexCast v3970
  let c0_4368 : Index := 0#32
  ![v3971.toNat, 0]

def k0_chk57 (v3968 : BitVec 32) : Prop :=
  (∀ a, (k0_off55 v3968) a + S128x128.size a ≤ S4096x128.size a)
theorem k0_off55_inb : ∀ (v3968 : BitVec 32) (k0_hw57 : k0_chk57 v3968), ∀ a, (k0_off55 v3968) a + S128x128.size a ≤ S4096x128.size a := fun v3968 k0_hw57 => k0_hw57

def k0_off56 (v3969 : BitVec 32) : Fin 2 → Nat :=
  let c128_i32_4369 : BitVec 32 := 128#32
  let v3975 : BitVec 32 := Scalar.muli v3969 c128_i32_4369
  let v3976 : Index := Scalar.indexCast v3975
  let c0_4370 : Index := 0#32
  ![v3976.toNat, 0]

def k0_chk58 (v3969 : BitVec 32) : Prop :=
  (∀ a, (k0_off56 v3969) a + S128x128.size a ≤ S4096x128.size a)
theorem k0_off56_inb : ∀ (v3969 : BitVec 32) (k0_hw58 : k0_chk58 v3969), ∀ a, (k0_off56 v3969) a + S128x128.size a ≤ S4096x128.size a := fun v3969 k0_hw58 => k0_hw58

def k0_dev215 (v0 : BitVec 32) : Nat :=
  let c0_i32_4388 : BitVec 32 := 0#32
  let c1_i32_4387 : BitVec 32 := 1#32
  let v4001 : BitVec 32 := Scalar.muli v0 c1_i32_4387
  let v4002 : BitVec 32 := Scalar.addi c0_i32_4388 v4001
  v4002.toNat
def k0_dev216 (v1 : BitVec 32) : Nat :=
  let c0_i32_4408 : BitVec 32 := 0#32
  let c1_i32_4407 : BitVec 32 := 1#32
  let v4012 : BitVec 32 := Scalar.muli v1 c1_i32_4407
  let v4013 : BitVec 32 := Scalar.addi c0_i32_4408 v4012
  v4013.toNat
def k0_dev217 (v0 : BitVec 32) : Nat :=
  let c0_i32_4428 : BitVec 32 := 0#32
  let c1_i32_4427 : BitVec 32 := 1#32
  let v4033 : BitVec 32 := Scalar.muli v0 c1_i32_4427
  let v4034 : BitVec 32 := Scalar.addi c0_i32_4428 v4033
  v4034.toNat
def k0_dev218 (v1 : BitVec 32) : Nat :=
  let c0_i32_4448 : BitVec 32 := 0#32
  let c1_i32_4447 : BitVec 32 := 1#32
  let v4044 : BitVec 32 := Scalar.muli v1 c1_i32_4447
  let v4045 : BitVec 32 := Scalar.addi c0_i32_4448 v4044
  v4045.toNat
def k0_dev219 (v1 : BitVec 32) : Nat :=
  let c0_i32_4468 : BitVec 32 := 0#32
  let c1_i32_4467 : BitVec 32 := 1#32
  let v4065 : BitVec 32 := Scalar.muli v1 c1_i32_4467
  let v4066 : BitVec 32 := Scalar.addi c0_i32_4468 v4065
  v4066.toNat
def k0_dev220 (v0 : BitVec 32) : Nat :=
  let c0_i32_4488 : BitVec 32 := 0#32
  let c1_i32_4487 : BitVec 32 := 1#32
  let v4076 : BitVec 32 := Scalar.muli v0 c1_i32_4487
  let v4077 : BitVec 32 := Scalar.addi c0_i32_4488 v4076
  v4077.toNat
def k0_dev221 (v1 : BitVec 32) : Nat :=
  let c0_i32_4508 : BitVec 32 := 0#32
  let c1_i32_4507 : BitVec 32 := 1#32
  let v4097 : BitVec 32 := Scalar.muli v1 c1_i32_4507
  let v4098 : BitVec 32 := Scalar.addi c0_i32_4508 v4097
  v4098.toNat
def k0_dev222 (v0 : BitVec 32) : Nat :=
  let c0_i32_4528 : BitVec 32 := 0#32
  let c1_i32_4527 : BitVec 32 := 1#32
  let v4108 : BitVec 32 := Scalar.muli v0 c1_i32_4527
  let v4109 : BitVec 32 := Scalar.addi c0_i32_4528 v4108
  v4109.toNat
def k0_off57 (v4118 : BitVec 32) : Fin 2 → Nat :=
  let c128_i32_4534 : BitVec 32 := 128#32
  let v4120 : BitVec 32 := Scalar.muli v4118 c128_i32_4534
  let v4121 : Index := Scalar.indexCast v4120
  let c0_4535 : Index := 0#32
  ![v4121.toNat, 0]

def k0_chk59 (v4118 : BitVec 32) : Prop :=
  (∀ a, (k0_off57 v4118) a + S128x128.size a ≤ S4096x128.size a)
theorem k0_off57_inb : ∀ (v4118 : BitVec 32) (k0_hw59 : k0_chk59 v4118), ∀ a, (k0_off57 v4118) a + S128x128.size a ≤ S4096x128.size a := fun v4118 k0_hw59 => k0_hw59

def k0_off58 (v4119 : BitVec 32) : Fin 2 → Nat :=
  let c128_i32_4536 : BitVec 32 := 128#32
  let v4125 : BitVec 32 := Scalar.muli v4119 c128_i32_4536
  let v4126 : Index := Scalar.indexCast v4125
  let c0_4537 : Index := 0#32
  ![v4126.toNat, 0]

def k0_chk60 (v4119 : BitVec 32) : Prop :=
  (∀ a, (k0_off58 v4119) a + S128x128.size a ≤ S4096x128.size a)
theorem k0_off58_inb : ∀ (v4119 : BitVec 32) (k0_hw60 : k0_chk60 v4119), ∀ a, (k0_off58 v4119) a + S128x128.size a ≤ S4096x128.size a := fun v4119 k0_hw60 => k0_hw60

def k0_dev223 (v0 : BitVec 32) : Nat :=
  let c0_i32_4555 : BitVec 32 := 0#32
  let c1_i32_4554 : BitVec 32 := 1#32
  let v4151 : BitVec 32 := Scalar.muli v0 c1_i32_4554
  let v4152 : BitVec 32 := Scalar.addi c0_i32_4555 v4151
  v4152.toNat
def k0_dev224 (v1 : BitVec 32) : Nat :=
  let c0_i32_4575 : BitVec 32 := 0#32
  let c1_i32_4574 : BitVec 32 := 1#32
  let v4162 : BitVec 32 := Scalar.muli v1 c1_i32_4574
  let v4163 : BitVec 32 := Scalar.addi c0_i32_4575 v4162
  v4163.toNat
def k0_dev225 (v0 : BitVec 32) : Nat :=
  let c0_i32_4595 : BitVec 32 := 0#32
  let c1_i32_4594 : BitVec 32 := 1#32
  let v4183 : BitVec 32 := Scalar.muli v0 c1_i32_4594
  let v4184 : BitVec 32 := Scalar.addi c0_i32_4595 v4183
  v4184.toNat
def k0_dev226 (v1 : BitVec 32) : Nat :=
  let c0_i32_4615 : BitVec 32 := 0#32
  let c1_i32_4614 : BitVec 32 := 1#32
  let v4194 : BitVec 32 := Scalar.muli v1 c1_i32_4614
  let v4195 : BitVec 32 := Scalar.addi c0_i32_4615 v4194
  v4195.toNat
def k0_dev227 (v1 : BitVec 32) : Nat :=
  let c0_i32_4635 : BitVec 32 := 0#32
  let c1_i32_4634 : BitVec 32 := 1#32
  let v4215 : BitVec 32 := Scalar.muli v1 c1_i32_4634
  let v4216 : BitVec 32 := Scalar.addi c0_i32_4635 v4215
  v4216.toNat
def k0_dev228 (v0 : BitVec 32) : Nat :=
  let c0_i32_4655 : BitVec 32 := 0#32
  let c1_i32_4654 : BitVec 32 := 1#32
  let v4226 : BitVec 32 := Scalar.muli v0 c1_i32_4654
  let v4227 : BitVec 32 := Scalar.addi c0_i32_4655 v4226
  v4227.toNat
def k0_dev229 (v1 : BitVec 32) : Nat :=
  let c0_i32_4675 : BitVec 32 := 0#32
  let c1_i32_4674 : BitVec 32 := 1#32
  let v4247 : BitVec 32 := Scalar.muli v1 c1_i32_4674
  let v4248 : BitVec 32 := Scalar.addi c0_i32_4675 v4247
  v4248.toNat
def k0_dev230 (v0 : BitVec 32) : Nat :=
  let c0_i32_4695 : BitVec 32 := 0#32
  let c1_i32_4694 : BitVec 32 := 1#32
  let v4258 : BitVec 32 := Scalar.muli v0 c1_i32_4694
  let v4259 : BitVec 32 := Scalar.addi c0_i32_4695 v4258
  v4259.toNat
def k0_off59 (v4268 : BitVec 32) : Fin 2 → Nat :=
  let c128_i32_4701 : BitVec 32 := 128#32
  let v4270 : BitVec 32 := Scalar.muli v4268 c128_i32_4701
  let v4271 : Index := Scalar.indexCast v4270
  let c0_4702 : Index := 0#32
  ![v4271.toNat, 0]

def k0_chk61 (v4268 : BitVec 32) : Prop :=
  (∀ a, (k0_off59 v4268) a + S128x128.size a ≤ S4096x128.size a)
theorem k0_off59_inb : ∀ (v4268 : BitVec 32) (k0_hw61 : k0_chk61 v4268), ∀ a, (k0_off59 v4268) a + S128x128.size a ≤ S4096x128.size a := fun v4268 k0_hw61 => k0_hw61

def k0_off60 (v4269 : BitVec 32) : Fin 2 → Nat :=
  let c128_i32_4703 : BitVec 32 := 128#32
  let v4275 : BitVec 32 := Scalar.muli v4269 c128_i32_4703
  let v4276 : Index := Scalar.indexCast v4275
  let c0_4704 : Index := 0#32
  ![v4276.toNat, 0]

def k0_chk62 (v4269 : BitVec 32) : Prop :=
  (∀ a, (k0_off60 v4269) a + S128x128.size a ≤ S4096x128.size a)
theorem k0_off60_inb : ∀ (v4269 : BitVec 32) (k0_hw62 : k0_chk62 v4269), ∀ a, (k0_off60 v4269) a + S128x128.size a ≤ S4096x128.size a := fun v4269 k0_hw62 => k0_hw62

def k0_dev231 (v0 : BitVec 32) : Nat :=
  let c0_i32_4722 : BitVec 32 := 0#32
  let c1_i32_4721 : BitVec 32 := 1#32
  let v4301 : BitVec 32 := Scalar.muli v0 c1_i32_4721
  let v4302 : BitVec 32 := Scalar.addi c0_i32_4722 v4301
  v4302.toNat
def k0_dev232 (v1 : BitVec 32) : Nat :=
  let c0_i32_4742 : BitVec 32 := 0#32
  let c1_i32_4741 : BitVec 32 := 1#32
  let v4312 : BitVec 32 := Scalar.muli v1 c1_i32_4741
  let v4313 : BitVec 32 := Scalar.addi c0_i32_4742 v4312
  v4313.toNat
def k0_dev233 (v0 : BitVec 32) : Nat :=
  let c0_i32_4762 : BitVec 32 := 0#32
  let c1_i32_4761 : BitVec 32 := 1#32
  let v4333 : BitVec 32 := Scalar.muli v0 c1_i32_4761
  let v4334 : BitVec 32 := Scalar.addi c0_i32_4762 v4333
  v4334.toNat
def k0_dev234 (v1 : BitVec 32) : Nat :=
  let c0_i32_4782 : BitVec 32 := 0#32
  let c1_i32_4781 : BitVec 32 := 1#32
  let v4344 : BitVec 32 := Scalar.muli v1 c1_i32_4781
  let v4345 : BitVec 32 := Scalar.addi c0_i32_4782 v4344
  v4345.toNat
def k0_dev235 (v1 : BitVec 32) : Nat :=
  let c0_i32_4802 : BitVec 32 := 0#32
  let c1_i32_4801 : BitVec 32 := 1#32
  let v4365 : BitVec 32 := Scalar.muli v1 c1_i32_4801
  let v4366 : BitVec 32 := Scalar.addi c0_i32_4802 v4365
  v4366.toNat
def k0_dev236 (v0 : BitVec 32) : Nat :=
  let c0_i32_4822 : BitVec 32 := 0#32
  let c1_i32_4821 : BitVec 32 := 1#32
  let v4376 : BitVec 32 := Scalar.muli v0 c1_i32_4821
  let v4377 : BitVec 32 := Scalar.addi c0_i32_4822 v4376
  v4377.toNat
def k0_dev237 (v1 : BitVec 32) : Nat :=
  let c0_i32_4842 : BitVec 32 := 0#32
  let c1_i32_4841 : BitVec 32 := 1#32
  let v4397 : BitVec 32 := Scalar.muli v1 c1_i32_4841
  let v4398 : BitVec 32 := Scalar.addi c0_i32_4842 v4397
  v4398.toNat
def k0_dev238 (v0 : BitVec 32) : Nat :=
  let c0_i32_4862 : BitVec 32 := 0#32
  let c1_i32_4861 : BitVec 32 := 1#32
  let v4408 : BitVec 32 := Scalar.muli v0 c1_i32_4861
  let v4409 : BitVec 32 := Scalar.addi c0_i32_4862 v4408
  v4409.toNat
def k0_off61 (v4418 : BitVec 32) : Fin 2 → Nat :=
  let c128_i32_4868 : BitVec 32 := 128#32
  let v4420 : BitVec 32 := Scalar.muli v4418 c128_i32_4868
  let v4421 : Index := Scalar.indexCast v4420
  let c0_4869 : Index := 0#32
  ![v4421.toNat, 0]

def k0_chk63 (v4418 : BitVec 32) : Prop :=
  (∀ a, (k0_off61 v4418) a + S128x128.size a ≤ S4096x128.size a)
theorem k0_off61_inb : ∀ (v4418 : BitVec 32) (k0_hw63 : k0_chk63 v4418), ∀ a, (k0_off61 v4418) a + S128x128.size a ≤ S4096x128.size a := fun v4418 k0_hw63 => k0_hw63

def k0_off62 (v4419 : BitVec 32) : Fin 2 → Nat :=
  let c128_i32_4870 : BitVec 32 := 128#32
  let v4425 : BitVec 32 := Scalar.muli v4419 c128_i32_4870
  let v4426 : Index := Scalar.indexCast v4425
  let c0_4871 : Index := 0#32
  ![v4426.toNat, 0]

def k0_chk64 (v4419 : BitVec 32) : Prop :=
  (∀ a, (k0_off62 v4419) a + S128x128.size a ≤ S4096x128.size a)
theorem k0_off62_inb : ∀ (v4419 : BitVec 32) (k0_hw64 : k0_chk64 v4419), ∀ a, (k0_off62 v4419) a + S128x128.size a ≤ S4096x128.size a := fun v4419 k0_hw64 => k0_hw64

def k0_dev239 (v1 : BitVec 32) : Nat :=
  let c0_i32_4906 : BitVec 32 := 0#32
  let c1_i32_4905 : BitVec 32 := 1#32
  let v4460 : BitVec 32 := Scalar.muli v1 c1_i32_4905
  let v4461 : BitVec 32 := Scalar.addi c0_i32_4906 v4460
  v4461.toNat
def k0_dev240 (v1 : BitVec 32) : Nat :=
  let c0_i32_4943 : BitVec 32 := 0#32
  let c1_i32_4942 : BitVec 32 := 1#32
  let v4490 : BitVec 32 := Scalar.muli v1 c1_i32_4942
  let v4491 : BitVec 32 := Scalar.addi c0_i32_4943 v4490
  v4491.toNat

def k0_chk2_0 (v1 : BitVec 32) : Prop :=
  ((k0_dev2 v1) < nD) ∧
  ((k0_dev3 v1) < nD) ∧
  ((k0_dev4 v1) < nD) ∧
  ((k0_dev8 v1) < nD) ∧
  ((k0_dev10 v1) < nD) ∧
  ((k0_dev11 v1) < nD) ∧
  ((k0_dev13 v1) < nD) ∧
  ((k0_dev16 v1) < nD) ∧
  ((k0_dev18 v1) < nD) ∧
  ((k0_dev19 v1) < nD) ∧
  ((k0_dev21 v1) < nD) ∧
  ((k0_dev24 v1) < nD) ∧
  ((k0_dev26 v1) < nD) ∧
  ((k0_dev27 v1) < nD) ∧
  ((k0_dev29 v1) < nD) ∧
  ((k0_dev32 v1) < nD) ∧
  ((k0_dev34 v1) < nD) ∧
  ((k0_dev35 v1) < nD) ∧
  ((k0_dev37 v1) < nD) ∧
  ((k0_dev40 v1) < nD) ∧
  ((k0_dev42 v1) < nD) ∧
  ((k0_dev43 v1) < nD) ∧
  ((k0_dev45 v1) < nD) ∧
  ((k0_dev48 v1) < nD) ∧
  ((k0_dev50 v1) < nD) ∧
  ((k0_dev51 v1) < nD) ∧
  ((k0_dev53 v1) < nD) ∧
  ((k0_dev56 v1) < nD) ∧
  ((k0_dev58 v1) < nD) ∧
  ((k0_dev59 v1) < nD) ∧
  ((k0_dev61 v1) < nD) ∧
  ((k0_dev64 v1) < nD)
def k0_chk2_1 (v1 : BitVec 32) : Prop :=
  ((k0_dev66 v1) < nD) ∧
  ((k0_dev67 v1) < nD) ∧
  ((k0_dev69 v1) < nD) ∧
  ((k0_dev72 v1) < nD) ∧
  ((k0_dev74 v1) < nD) ∧
  ((k0_dev75 v1) < nD) ∧
  ((k0_dev77 v1) < nD) ∧
  ((k0_dev80 v1) < nD) ∧
  ((k0_dev82 v1) < nD) ∧
  ((k0_dev83 v1) < nD) ∧
  ((k0_dev85 v1) < nD) ∧
  ((k0_dev88 v1) < nD) ∧
  ((k0_dev90 v1) < nD) ∧
  ((k0_dev91 v1) < nD) ∧
  ((k0_dev93 v1) < nD) ∧
  ((k0_dev96 v1) < nD) ∧
  ((k0_dev98 v1) < nD) ∧
  ((k0_dev99 v1) < nD) ∧
  ((k0_dev101 v1) < nD) ∧
  ((k0_dev104 v1) < nD) ∧
  ((k0_dev106 v1) < nD) ∧
  ((k0_dev107 v1) < nD) ∧
  ((k0_dev109 v1) < nD) ∧
  ((k0_dev112 v1) < nD) ∧
  ((k0_dev114 v1) < nD) ∧
  ((k0_dev115 v1) < nD) ∧
  ((k0_dev117 v1) < nD) ∧
  ((k0_dev120 v1) < nD) ∧
  ((k0_dev122 v1) < nD) ∧
  ((k0_dev123 v1) < nD) ∧
  ((k0_dev125 v1) < nD) ∧
  ((k0_dev128 v1) < nD)
def k0_chk2_2 (v1 : BitVec 32) : Prop :=
  ((k0_dev130 v1) < nD) ∧
  ((k0_dev131 v1) < nD) ∧
  ((k0_dev133 v1) < nD) ∧
  ((k0_dev136 v1) < nD) ∧
  ((k0_dev138 v1) < nD) ∧
  ((k0_dev139 v1) < nD) ∧
  ((k0_dev141 v1) < nD) ∧
  ((k0_dev144 v1) < nD) ∧
  ((k0_dev146 v1) < nD) ∧
  ((k0_dev147 v1) < nD) ∧
  ((k0_dev149 v1) < nD) ∧
  ((k0_dev152 v1) < nD) ∧
  ((k0_dev154 v1) < nD) ∧
  ((k0_dev155 v1) < nD) ∧
  ((k0_dev157 v1) < nD) ∧
  ((k0_dev160 v1) < nD) ∧
  ((k0_dev162 v1) < nD) ∧
  ((k0_dev163 v1) < nD) ∧
  ((k0_dev165 v1) < nD) ∧
  ((k0_dev168 v1) < nD) ∧
  ((k0_dev170 v1) < nD) ∧
  ((k0_dev171 v1) < nD) ∧
  ((k0_dev173 v1) < nD) ∧
  ((k0_dev176 v1) < nD) ∧
  ((k0_dev178 v1) < nD) ∧
  ((k0_dev179 v1) < nD) ∧
  ((k0_dev181 v1) < nD) ∧
  ((k0_dev184 v1) < nD) ∧
  ((k0_dev186 v1) < nD) ∧
  ((k0_dev187 v1) < nD) ∧
  ((k0_dev189 v1) < nD) ∧
  ((k0_dev192 v1) < nD)
def k0_chk2_3 (v1 : BitVec 32) : Prop :=
  ((k0_dev194 v1) < nD) ∧
  ((k0_dev195 v1) < nD) ∧
  ((k0_dev197 v1) < nD) ∧
  ((k0_dev200 v1) < nD) ∧
  ((k0_dev202 v1) < nD) ∧
  ((k0_dev203 v1) < nD) ∧
  ((k0_dev205 v1) < nD) ∧
  ((k0_dev208 v1) < nD) ∧
  ((k0_dev210 v1) < nD) ∧
  ((k0_dev211 v1) < nD) ∧
  ((k0_dev213 v1) < nD) ∧
  ((k0_dev216 v1) < nD) ∧
  ((k0_dev218 v1) < nD) ∧
  ((k0_dev219 v1) < nD) ∧
  ((k0_dev221 v1) < nD) ∧
  ((k0_dev224 v1) < nD) ∧
  ((k0_dev226 v1) < nD) ∧
  ((k0_dev227 v1) < nD) ∧
  ((k0_dev229 v1) < nD) ∧
  ((k0_dev232 v1) < nD) ∧
  ((k0_dev234 v1) < nD) ∧
  ((k0_dev235 v1) < nD) ∧
  ((k0_dev237 v1) < nD) ∧
  ((k0_dev239 v1) < nD) ∧
  ((k0_dev240 v1) < nD)
def k0_chk2 (v1 : BitVec 32) : Prop :=
  k0_chk2_0 v1 ∧
  k0_chk2_1 v1 ∧
  k0_chk2_2 v1 ∧
  k0_chk2_3 v1
theorem k0_dev2_lt : ∀ (v1 : BitVec 32) (k0_hw2 : k0_chk2 v1), (k0_dev2 v1) < nD := fun v1 k0_hw2 => k0_hw2.1.1
theorem k0_dev3_lt : ∀ (v1 : BitVec 32) (k0_hw2 : k0_chk2 v1), (k0_dev3 v1) < nD := fun v1 k0_hw2 => k0_hw2.1.2.1
theorem k0_dev4_lt : ∀ (v1 : BitVec 32) (k0_hw2 : k0_chk2 v1), (k0_dev4 v1) < nD := fun v1 k0_hw2 => k0_hw2.1.2.2.1
theorem k0_dev8_lt : ∀ (v1 : BitVec 32) (k0_hw2 : k0_chk2 v1), (k0_dev8 v1) < nD := fun v1 k0_hw2 => k0_hw2.1.2.2.2.1
theorem k0_dev10_lt : ∀ (v1 : BitVec 32) (k0_hw2 : k0_chk2 v1), (k0_dev10 v1) < nD := fun v1 k0_hw2 => k0_hw2.1.2.2.2.2.1
theorem k0_dev11_lt : ∀ (v1 : BitVec 32) (k0_hw2 : k0_chk2 v1), (k0_dev11 v1) < nD := fun v1 k0_hw2 => k0_hw2.1.2.2.2.2.2.1
theorem k0_dev13_lt : ∀ (v1 : BitVec 32) (k0_hw2 : k0_chk2 v1), (k0_dev13 v1) < nD := fun v1 k0_hw2 => k0_hw2.1.2.2.2.2.2.2.1
theorem k0_dev16_lt : ∀ (v1 : BitVec 32) (k0_hw2 : k0_chk2 v1), (k0_dev16 v1) < nD := fun v1 k0_hw2 => k0_hw2.1.2.2.2.2.2.2.2.1
theorem k0_dev18_lt : ∀ (v1 : BitVec 32) (k0_hw2 : k0_chk2 v1), (k0_dev18 v1) < nD := fun v1 k0_hw2 => k0_hw2.1.2.2.2.2.2.2.2.2.1
theorem k0_dev19_lt : ∀ (v1 : BitVec 32) (k0_hw2 : k0_chk2 v1), (k0_dev19 v1) < nD := fun v1 k0_hw2 => k0_hw2.1.2.2.2.2.2.2.2.2.2.1
theorem k0_dev21_lt : ∀ (v1 : BitVec 32) (k0_hw2 : k0_chk2 v1), (k0_dev21 v1) < nD := fun v1 k0_hw2 => k0_hw2.1.2.2.2.2.2.2.2.2.2.2.1
theorem k0_dev24_lt : ∀ (v1 : BitVec 32) (k0_hw2 : k0_chk2 v1), (k0_dev24 v1) < nD := fun v1 k0_hw2 => k0_hw2.1.2.2.2.2.2.2.2.2.2.2.2.1
theorem k0_dev26_lt : ∀ (v1 : BitVec 32) (k0_hw2 : k0_chk2 v1), (k0_dev26 v1) < nD := fun v1 k0_hw2 => k0_hw2.1.2.2.2.2.2.2.2.2.2.2.2.2.1
theorem k0_dev27_lt : ∀ (v1 : BitVec 32) (k0_hw2 : k0_chk2 v1), (k0_dev27 v1) < nD := fun v1 k0_hw2 => k0_hw2.1.2.2.2.2.2.2.2.2.2.2.2.2.2.1
theorem k0_dev29_lt : ∀ (v1 : BitVec 32) (k0_hw2 : k0_chk2 v1), (k0_dev29 v1) < nD := fun v1 k0_hw2 => k0_hw2.1.2.2.2.2.2.2.2.2.2.2.2.2.2.2.1
theorem k0_dev32_lt : ∀ (v1 : BitVec 32) (k0_hw2 : k0_chk2 v1), (k0_dev32 v1) < nD := fun v1 k0_hw2 => k0_hw2.1.2.2.2.2.2.2.2.2.2.2.2.2.2.2.2.1
theorem k0_dev34_lt : ∀ (v1 : BitVec 32) (k0_hw2 : k0_chk2 v1), (k0_dev34 v1) < nD := fun v1 k0_hw2 => k0_hw2.1.2.2.2.2.2.2.2.2.2.2.2.2.2.2.2.2.1
theorem k0_dev35_lt : ∀ (v1 : BitVec 32) (k0_hw2 : k0_chk2 v1), (k0_dev35 v1) < nD := fun v1 k0_hw2 => k0_hw2.1.2.2.2.2.2.2.2.2.2.2.2.2.2.2.2.2.2.1
theorem k0_dev37_lt : ∀ (v1 : BitVec 32) (k0_hw2 : k0_chk2 v1), (k0_dev37 v1) < nD := fun v1 k0_hw2 => k0_hw2.1.2.2.2.2.2.2.2.2.2.2.2.2.2.2.2.2.2.2.1
theorem k0_dev40_lt : ∀ (v1 : BitVec 32) (k0_hw2 : k0_chk2 v1), (k0_dev40 v1) < nD := fun v1 k0_hw2 => k0_hw2.1.2.2.2.2.2.2.2.2.2.2.2.2.2.2.2.2.2.2.2.1
theorem k0_dev42_lt : ∀ (v1 : BitVec 32) (k0_hw2 : k0_chk2 v1), (k0_dev42 v1) < nD := fun v1 k0_hw2 => k0_hw2.1.2.2.2.2.2.2.2.2.2.2.2.2.2.2.2.2.2.2.2.2.1
theorem k0_dev43_lt : ∀ (v1 : BitVec 32) (k0_hw2 : k0_chk2 v1), (k0_dev43 v1) < nD := fun v1 k0_hw2 => k0_hw2.1.2.2.2.2.2.2.2.2.2.2.2.2.2.2.2.2.2.2.2.2.2.1
theorem k0_dev45_lt : ∀ (v1 : BitVec 32) (k0_hw2 : k0_chk2 v1), (k0_dev45 v1) < nD := fun v1 k0_hw2 => k0_hw2.1.2.2.2.2.2.2.2.2.2.2.2.2.2.2.2.2.2.2.2.2.2.2.1
theorem k0_dev48_lt : ∀ (v1 : BitVec 32) (k0_hw2 : k0_chk2 v1), (k0_dev48 v1) < nD := fun v1 k0_hw2 => k0_hw2.1.2.2.2.2.2.2.2.2.2.2.2.2.2.2.2.2.2.2.2.2.2.2.2.1
theorem k0_dev50_lt : ∀ (v1 : BitVec 32) (k0_hw2 : k0_chk2 v1), (k0_dev50 v1) < nD := fun v1 k0_hw2 => k0_hw2.1.2.2.2.2.2.2.2.2.2.2.2.2.2.2.2.2.2.2.2.2.2.2.2.2.1
theorem k0_dev51_lt : ∀ (v1 : BitVec 32) (k0_hw2 : k0_chk2 v1), (k0_dev51 v1) < nD := fun v1 k0_hw2 => k0_hw2.1.2.2.2.2.2.2.2.2.2.2.2.2.2.2.2.2.2.2.2.2.2.2.2.2.2.1
theorem k0_dev53_lt : ∀ (v1 : BitVec 32) (k0_hw2 : k0_chk2 v1), (k0_dev53 v1) < nD := fun v1 k0_hw2 => k0_hw2.1.2.2.2.2.2.2.2.2.2.2.2.2.2.2.2.2.2.2.2.2.2.2.2.2.2.2.1
theorem k0_dev56_lt : ∀ (v1 : BitVec 32) (k0_hw2 : k0_chk2 v1), (k0_dev56 v1) < nD := fun v1 k0_hw2 => k0_hw2.1.2.2.2.2.2.2.2.2.2.2.2.2.2.2.2.2.2.2.2.2.2.2.2.2.2.2.2.1
theorem k0_dev58_lt : ∀ (v1 : BitVec 32) (k0_hw2 : k0_chk2 v1), (k0_dev58 v1) < nD := fun v1 k0_hw2 => k0_hw2.1.2.2.2.2.2.2.2.2.2.2.2.2.2.2.2.2.2.2.2.2.2.2.2.2.2.2.2.2.1
theorem k0_dev59_lt : ∀ (v1 : BitVec 32) (k0_hw2 : k0_chk2 v1), (k0_dev59 v1) < nD := fun v1 k0_hw2 => k0_hw2.1.2.2.2.2.2.2.2.2.2.2.2.2.2.2.2.2.2.2.2.2.2.2.2.2.2.2.2.2.2.1
theorem k0_dev61_lt : ∀ (v1 : BitVec 32) (k0_hw2 : k0_chk2 v1), (k0_dev61 v1) < nD := fun v1 k0_hw2 => k0_hw2.1.2.2.2.2.2.2.2.2.2.2.2.2.2.2.2.2.2.2.2.2.2.2.2.2.2.2.2.2.2.2.1
theorem k0_dev64_lt : ∀ (v1 : BitVec 32) (k0_hw2 : k0_chk2 v1), (k0_dev64 v1) < nD := fun v1 k0_hw2 => k0_hw2.1.2.2.2.2.2.2.2.2.2.2.2.2.2.2.2.2.2.2.2.2.2.2.2.2.2.2.2.2.2.2.2
theorem k0_dev66_lt : ∀ (v1 : BitVec 32) (k0_hw2 : k0_chk2 v1), (k0_dev66 v1) < nD := fun v1 k0_hw2 => k0_hw2.2.1.1
theorem k0_dev67_lt : ∀ (v1 : BitVec 32) (k0_hw2 : k0_chk2 v1), (k0_dev67 v1) < nD := fun v1 k0_hw2 => k0_hw2.2.1.2.1
theorem k0_dev69_lt : ∀ (v1 : BitVec 32) (k0_hw2 : k0_chk2 v1), (k0_dev69 v1) < nD := fun v1 k0_hw2 => k0_hw2.2.1.2.2.1
theorem k0_dev72_lt : ∀ (v1 : BitVec 32) (k0_hw2 : k0_chk2 v1), (k0_dev72 v1) < nD := fun v1 k0_hw2 => k0_hw2.2.1.2.2.2.1
theorem k0_dev74_lt : ∀ (v1 : BitVec 32) (k0_hw2 : k0_chk2 v1), (k0_dev74 v1) < nD := fun v1 k0_hw2 => k0_hw2.2.1.2.2.2.2.1
theorem k0_dev75_lt : ∀ (v1 : BitVec 32) (k0_hw2 : k0_chk2 v1), (k0_dev75 v1) < nD := fun v1 k0_hw2 => k0_hw2.2.1.2.2.2.2.2.1
theorem k0_dev77_lt : ∀ (v1 : BitVec 32) (k0_hw2 : k0_chk2 v1), (k0_dev77 v1) < nD := fun v1 k0_hw2 => k0_hw2.2.1.2.2.2.2.2.2.1
theorem k0_dev80_lt : ∀ (v1 : BitVec 32) (k0_hw2 : k0_chk2 v1), (k0_dev80 v1) < nD := fun v1 k0_hw2 => k0_hw2.2.1.2.2.2.2.2.2.2.1
theorem k0_dev82_lt : ∀ (v1 : BitVec 32) (k0_hw2 : k0_chk2 v1), (k0_dev82 v1) < nD := fun v1 k0_hw2 => k0_hw2.2.1.2.2.2.2.2.2.2.2.1
theorem k0_dev83_lt : ∀ (v1 : BitVec 32) (k0_hw2 : k0_chk2 v1), (k0_dev83 v1) < nD := fun v1 k0_hw2 => k0_hw2.2.1.2.2.2.2.2.2.2.2.2.1
theorem k0_dev85_lt : ∀ (v1 : BitVec 32) (k0_hw2 : k0_chk2 v1), (k0_dev85 v1) < nD := fun v1 k0_hw2 => k0_hw2.2.1.2.2.2.2.2.2.2.2.2.2.1
theorem k0_dev88_lt : ∀ (v1 : BitVec 32) (k0_hw2 : k0_chk2 v1), (k0_dev88 v1) < nD := fun v1 k0_hw2 => k0_hw2.2.1.2.2.2.2.2.2.2.2.2.2.2.1
theorem k0_dev90_lt : ∀ (v1 : BitVec 32) (k0_hw2 : k0_chk2 v1), (k0_dev90 v1) < nD := fun v1 k0_hw2 => k0_hw2.2.1.2.2.2.2.2.2.2.2.2.2.2.2.1
theorem k0_dev91_lt : ∀ (v1 : BitVec 32) (k0_hw2 : k0_chk2 v1), (k0_dev91 v1) < nD := fun v1 k0_hw2 => k0_hw2.2.1.2.2.2.2.2.2.2.2.2.2.2.2.2.1
theorem k0_dev93_lt : ∀ (v1 : BitVec 32) (k0_hw2 : k0_chk2 v1), (k0_dev93 v1) < nD := fun v1 k0_hw2 => k0_hw2.2.1.2.2.2.2.2.2.2.2.2.2.2.2.2.2.1
theorem k0_dev96_lt : ∀ (v1 : BitVec 32) (k0_hw2 : k0_chk2 v1), (k0_dev96 v1) < nD := fun v1 k0_hw2 => k0_hw2.2.1.2.2.2.2.2.2.2.2.2.2.2.2.2.2.2.1
theorem k0_dev98_lt : ∀ (v1 : BitVec 32) (k0_hw2 : k0_chk2 v1), (k0_dev98 v1) < nD := fun v1 k0_hw2 => k0_hw2.2.1.2.2.2.2.2.2.2.2.2.2.2.2.2.2.2.2.1
theorem k0_dev99_lt : ∀ (v1 : BitVec 32) (k0_hw2 : k0_chk2 v1), (k0_dev99 v1) < nD := fun v1 k0_hw2 => k0_hw2.2.1.2.2.2.2.2.2.2.2.2.2.2.2.2.2.2.2.2.1
theorem k0_dev101_lt : ∀ (v1 : BitVec 32) (k0_hw2 : k0_chk2 v1), (k0_dev101 v1) < nD := fun v1 k0_hw2 => k0_hw2.2.1.2.2.2.2.2.2.2.2.2.2.2.2.2.2.2.2.2.2.1
theorem k0_dev104_lt : ∀ (v1 : BitVec 32) (k0_hw2 : k0_chk2 v1), (k0_dev104 v1) < nD := fun v1 k0_hw2 => k0_hw2.2.1.2.2.2.2.2.2.2.2.2.2.2.2.2.2.2.2.2.2.2.1
theorem k0_dev106_lt : ∀ (v1 : BitVec 32) (k0_hw2 : k0_chk2 v1), (k0_dev106 v1) < nD := fun v1 k0_hw2 => k0_hw2.2.1.2.2.2.2.2.2.2.2.2.2.2.2.2.2.2.2.2.2.2.2.1
theorem k0_dev107_lt : ∀ (v1 : BitVec 32) (k0_hw2 : k0_chk2 v1), (k0_dev107 v1) < nD := fun v1 k0_hw2 => k0_hw2.2.1.2.2.2.2.2.2.2.2.2.2.2.2.2.2.2.2.2.2.2.2.2.1
theorem k0_dev109_lt : ∀ (v1 : BitVec 32) (k0_hw2 : k0_chk2 v1), (k0_dev109 v1) < nD := fun v1 k0_hw2 => k0_hw2.2.1.2.2.2.2.2.2.2.2.2.2.2.2.2.2.2.2.2.2.2.2.2.2.1
theorem k0_dev112_lt : ∀ (v1 : BitVec 32) (k0_hw2 : k0_chk2 v1), (k0_dev112 v1) < nD := fun v1 k0_hw2 => k0_hw2.2.1.2.2.2.2.2.2.2.2.2.2.2.2.2.2.2.2.2.2.2.2.2.2.2.1
theorem k0_dev114_lt : ∀ (v1 : BitVec 32) (k0_hw2 : k0_chk2 v1), (k0_dev114 v1) < nD := fun v1 k0_hw2 => k0_hw2.2.1.2.2.2.2.2.2.2.2.2.2.2.2.2.2.2.2.2.2.2.2.2.2.2.2.1
theorem k0_dev115_lt : ∀ (v1 : BitVec 32) (k0_hw2 : k0_chk2 v1), (k0_dev115 v1) < nD := fun v1 k0_hw2 => k0_hw2.2.1.2.2.2.2.2.2.2.2.2.2.2.2.2.2.2.2.2.2.2.2.2.2.2.2.2.1
theorem k0_dev117_lt : ∀ (v1 : BitVec 32) (k0_hw2 : k0_chk2 v1), (k0_dev117 v1) < nD := fun v1 k0_hw2 => k0_hw2.2.1.2.2.2.2.2.2.2.2.2.2.2.2.2.2.2.2.2.2.2.2.2.2.2.2.2.2.1
theorem k0_dev120_lt : ∀ (v1 : BitVec 32) (k0_hw2 : k0_chk2 v1), (k0_dev120 v1) < nD := fun v1 k0_hw2 => k0_hw2.2.1.2.2.2.2.2.2.2.2.2.2.2.2.2.2.2.2.2.2.2.2.2.2.2.2.2.2.2.1
theorem k0_dev122_lt : ∀ (v1 : BitVec 32) (k0_hw2 : k0_chk2 v1), (k0_dev122 v1) < nD := fun v1 k0_hw2 => k0_hw2.2.1.2.2.2.2.2.2.2.2.2.2.2.2.2.2.2.2.2.2.2.2.2.2.2.2.2.2.2.2.1
theorem k0_dev123_lt : ∀ (v1 : BitVec 32) (k0_hw2 : k0_chk2 v1), (k0_dev123 v1) < nD := fun v1 k0_hw2 => k0_hw2.2.1.2.2.2.2.2.2.2.2.2.2.2.2.2.2.2.2.2.2.2.2.2.2.2.2.2.2.2.2.2.1
theorem k0_dev125_lt : ∀ (v1 : BitVec 32) (k0_hw2 : k0_chk2 v1), (k0_dev125 v1) < nD := fun v1 k0_hw2 => k0_hw2.2.1.2.2.2.2.2.2.2.2.2.2.2.2.2.2.2.2.2.2.2.2.2.2.2.2.2.2.2.2.2.2.1
theorem k0_dev128_lt : ∀ (v1 : BitVec 32) (k0_hw2 : k0_chk2 v1), (k0_dev128 v1) < nD := fun v1 k0_hw2 => k0_hw2.2.1.2.2.2.2.2.2.2.2.2.2.2.2.2.2.2.2.2.2.2.2.2.2.2.2.2.2.2.2.2.2.2
theorem k0_dev130_lt : ∀ (v1 : BitVec 32) (k0_hw2 : k0_chk2 v1), (k0_dev130 v1) < nD := fun v1 k0_hw2 => k0_hw2.2.2.1.1
theorem k0_dev131_lt : ∀ (v1 : BitVec 32) (k0_hw2 : k0_chk2 v1), (k0_dev131 v1) < nD := fun v1 k0_hw2 => k0_hw2.2.2.1.2.1
theorem k0_dev133_lt : ∀ (v1 : BitVec 32) (k0_hw2 : k0_chk2 v1), (k0_dev133 v1) < nD := fun v1 k0_hw2 => k0_hw2.2.2.1.2.2.1
theorem k0_dev136_lt : ∀ (v1 : BitVec 32) (k0_hw2 : k0_chk2 v1), (k0_dev136 v1) < nD := fun v1 k0_hw2 => k0_hw2.2.2.1.2.2.2.1
theorem k0_dev138_lt : ∀ (v1 : BitVec 32) (k0_hw2 : k0_chk2 v1), (k0_dev138 v1) < nD := fun v1 k0_hw2 => k0_hw2.2.2.1.2.2.2.2.1
theorem k0_dev139_lt : ∀ (v1 : BitVec 32) (k0_hw2 : k0_chk2 v1), (k0_dev139 v1) < nD := fun v1 k0_hw2 => k0_hw2.2.2.1.2.2.2.2.2.1
theorem k0_dev141_lt : ∀ (v1 : BitVec 32) (k0_hw2 : k0_chk2 v1), (k0_dev141 v1) < nD := fun v1 k0_hw2 => k0_hw2.2.2.1.2.2.2.2.2.2.1
theorem k0_dev144_lt : ∀ (v1 : BitVec 32) (k0_hw2 : k0_chk2 v1), (k0_dev144 v1) < nD := fun v1 k0_hw2 => k0_hw2.2.2.1.2.2.2.2.2.2.2.1
theorem k0_dev146_lt : ∀ (v1 : BitVec 32) (k0_hw2 : k0_chk2 v1), (k0_dev146 v1) < nD := fun v1 k0_hw2 => k0_hw2.2.2.1.2.2.2.2.2.2.2.2.1
theorem k0_dev147_lt : ∀ (v1 : BitVec 32) (k0_hw2 : k0_chk2 v1), (k0_dev147 v1) < nD := fun v1 k0_hw2 => k0_hw2.2.2.1.2.2.2.2.2.2.2.2.2.1
theorem k0_dev149_lt : ∀ (v1 : BitVec 32) (k0_hw2 : k0_chk2 v1), (k0_dev149 v1) < nD := fun v1 k0_hw2 => k0_hw2.2.2.1.2.2.2.2.2.2.2.2.2.2.1
theorem k0_dev152_lt : ∀ (v1 : BitVec 32) (k0_hw2 : k0_chk2 v1), (k0_dev152 v1) < nD := fun v1 k0_hw2 => k0_hw2.2.2.1.2.2.2.2.2.2.2.2.2.2.2.1
theorem k0_dev154_lt : ∀ (v1 : BitVec 32) (k0_hw2 : k0_chk2 v1), (k0_dev154 v1) < nD := fun v1 k0_hw2 => k0_hw2.2.2.1.2.2.2.2.2.2.2.2.2.2.2.2.1
theorem k0_dev155_lt : ∀ (v1 : BitVec 32) (k0_hw2 : k0_chk2 v1), (k0_dev155 v1) < nD := fun v1 k0_hw2 => k0_hw2.2.2.1.2.2.2.2.2.2.2.2.2.2.2.2.2.1
theorem k0_dev157_lt : ∀ (v1 : BitVec 32) (k0_hw2 : k0_chk2 v1), (k0_dev157 v1) < nD := fun v1 k0_hw2 => k0_hw2.2.2.1.2.2.2.2.2.2.2.2.2.2.2.2.2.2.1
theorem k0_dev160_lt : ∀ (v1 : BitVec 32) (k0_hw2 : k0_chk2 v1), (k0_dev160 v1) < nD := fun v1 k0_hw2 => k0_hw2.2.2.1.2.2.2.2.2.2.2.2.2.2.2.2.2.2.2.1
theorem k0_dev162_lt : ∀ (v1 : BitVec 32) (k0_hw2 : k0_chk2 v1), (k0_dev162 v1) < nD := fun v1 k0_hw2 => k0_hw2.2.2.1.2.2.2.2.2.2.2.2.2.2.2.2.2.2.2.2.1
theorem k0_dev163_lt : ∀ (v1 : BitVec 32) (k0_hw2 : k0_chk2 v1), (k0_dev163 v1) < nD := fun v1 k0_hw2 => k0_hw2.2.2.1.2.2.2.2.2.2.2.2.2.2.2.2.2.2.2.2.2.1
theorem k0_dev165_lt : ∀ (v1 : BitVec 32) (k0_hw2 : k0_chk2 v1), (k0_dev165 v1) < nD := fun v1 k0_hw2 => k0_hw2.2.2.1.2.2.2.2.2.2.2.2.2.2.2.2.2.2.2.2.2.2.1
theorem k0_dev168_lt : ∀ (v1 : BitVec 32) (k0_hw2 : k0_chk2 v1), (k0_dev168 v1) < nD := fun v1 k0_hw2 => k0_hw2.2.2.1.2.2.2.2.2.2.2.2.2.2.2.2.2.2.2.2.2.2.2.1
theorem k0_dev170_lt : ∀ (v1 : BitVec 32) (k0_hw2 : k0_chk2 v1), (k0_dev170 v1) < nD := fun v1 k0_hw2 => k0_hw2.2.2.1.2.2.2.2.2.2.2.2.2.2.2.2.2.2.2.2.2.2.2.2.1
theorem k0_dev171_lt : ∀ (v1 : BitVec 32) (k0_hw2 : k0_chk2 v1), (k0_dev171 v1) < nD := fun v1 k0_hw2 => k0_hw2.2.2.1.2.2.2.2.2.2.2.2.2.2.2.2.2.2.2.2.2.2.2.2.2.1
theorem k0_dev173_lt : ∀ (v1 : BitVec 32) (k0_hw2 : k0_chk2 v1), (k0_dev173 v1) < nD := fun v1 k0_hw2 => k0_hw2.2.2.1.2.2.2.2.2.2.2.2.2.2.2.2.2.2.2.2.2.2.2.2.2.2.1
theorem k0_dev176_lt : ∀ (v1 : BitVec 32) (k0_hw2 : k0_chk2 v1), (k0_dev176 v1) < nD := fun v1 k0_hw2 => k0_hw2.2.2.1.2.2.2.2.2.2.2.2.2.2.2.2.2.2.2.2.2.2.2.2.2.2.2.1
theorem k0_dev178_lt : ∀ (v1 : BitVec 32) (k0_hw2 : k0_chk2 v1), (k0_dev178 v1) < nD := fun v1 k0_hw2 => k0_hw2.2.2.1.2.2.2.2.2.2.2.2.2.2.2.2.2.2.2.2.2.2.2.2.2.2.2.2.1
theorem k0_dev179_lt : ∀ (v1 : BitVec 32) (k0_hw2 : k0_chk2 v1), (k0_dev179 v1) < nD := fun v1 k0_hw2 => k0_hw2.2.2.1.2.2.2.2.2.2.2.2.2.2.2.2.2.2.2.2.2.2.2.2.2.2.2.2.2.1
theorem k0_dev181_lt : ∀ (v1 : BitVec 32) (k0_hw2 : k0_chk2 v1), (k0_dev181 v1) < nD := fun v1 k0_hw2 => k0_hw2.2.2.1.2.2.2.2.2.2.2.2.2.2.2.2.2.2.2.2.2.2.2.2.2.2.2.2.2.2.1
theorem k0_dev184_lt : ∀ (v1 : BitVec 32) (k0_hw2 : k0_chk2 v1), (k0_dev184 v1) < nD := fun v1 k0_hw2 => k0_hw2.2.2.1.2.2.2.2.2.2.2.2.2.2.2.2.2.2.2.2.2.2.2.2.2.2.2.2.2.2.2.1
theorem k0_dev186_lt : ∀ (v1 : BitVec 32) (k0_hw2 : k0_chk2 v1), (k0_dev186 v1) < nD := fun v1 k0_hw2 => k0_hw2.2.2.1.2.2.2.2.2.2.2.2.2.2.2.2.2.2.2.2.2.2.2.2.2.2.2.2.2.2.2.2.1
theorem k0_dev187_lt : ∀ (v1 : BitVec 32) (k0_hw2 : k0_chk2 v1), (k0_dev187 v1) < nD := fun v1 k0_hw2 => k0_hw2.2.2.1.2.2.2.2.2.2.2.2.2.2.2.2.2.2.2.2.2.2.2.2.2.2.2.2.2.2.2.2.2.1
theorem k0_dev189_lt : ∀ (v1 : BitVec 32) (k0_hw2 : k0_chk2 v1), (k0_dev189 v1) < nD := fun v1 k0_hw2 => k0_hw2.2.2.1.2.2.2.2.2.2.2.2.2.2.2.2.2.2.2.2.2.2.2.2.2.2.2.2.2.2.2.2.2.2.1
theorem k0_dev192_lt : ∀ (v1 : BitVec 32) (k0_hw2 : k0_chk2 v1), (k0_dev192 v1) < nD := fun v1 k0_hw2 => k0_hw2.2.2.1.2.2.2.2.2.2.2.2.2.2.2.2.2.2.2.2.2.2.2.2.2.2.2.2.2.2.2.2.2.2.2
theorem k0_dev194_lt : ∀ (v1 : BitVec 32) (k0_hw2 : k0_chk2 v1), (k0_dev194 v1) < nD := fun v1 k0_hw2 => k0_hw2.2.2.2.1
theorem k0_dev195_lt : ∀ (v1 : BitVec 32) (k0_hw2 : k0_chk2 v1), (k0_dev195 v1) < nD := fun v1 k0_hw2 => k0_hw2.2.2.2.2.1
theorem k0_dev197_lt : ∀ (v1 : BitVec 32) (k0_hw2 : k0_chk2 v1), (k0_dev197 v1) < nD := fun v1 k0_hw2 => k0_hw2.2.2.2.2.2.1
theorem k0_dev200_lt : ∀ (v1 : BitVec 32) (k0_hw2 : k0_chk2 v1), (k0_dev200 v1) < nD := fun v1 k0_hw2 => k0_hw2.2.2.2.2.2.2.1
theorem k0_dev202_lt : ∀ (v1 : BitVec 32) (k0_hw2 : k0_chk2 v1), (k0_dev202 v1) < nD := fun v1 k0_hw2 => k0_hw2.2.2.2.2.2.2.2.1
theorem k0_dev203_lt : ∀ (v1 : BitVec 32) (k0_hw2 : k0_chk2 v1), (k0_dev203 v1) < nD := fun v1 k0_hw2 => k0_hw2.2.2.2.2.2.2.2.2.1
theorem k0_dev205_lt : ∀ (v1 : BitVec 32) (k0_hw2 : k0_chk2 v1), (k0_dev205 v1) < nD := fun v1 k0_hw2 => k0_hw2.2.2.2.2.2.2.2.2.2.1
theorem k0_dev208_lt : ∀ (v1 : BitVec 32) (k0_hw2 : k0_chk2 v1), (k0_dev208 v1) < nD := fun v1 k0_hw2 => k0_hw2.2.2.2.2.2.2.2.2.2.2.1
theorem k0_dev210_lt : ∀ (v1 : BitVec 32) (k0_hw2 : k0_chk2 v1), (k0_dev210 v1) < nD := fun v1 k0_hw2 => k0_hw2.2.2.2.2.2.2.2.2.2.2.2.1
theorem k0_dev211_lt : ∀ (v1 : BitVec 32) (k0_hw2 : k0_chk2 v1), (k0_dev211 v1) < nD := fun v1 k0_hw2 => k0_hw2.2.2.2.2.2.2.2.2.2.2.2.2.1
theorem k0_dev213_lt : ∀ (v1 : BitVec 32) (k0_hw2 : k0_chk2 v1), (k0_dev213 v1) < nD := fun v1 k0_hw2 => k0_hw2.2.2.2.2.2.2.2.2.2.2.2.2.2.1
theorem k0_dev216_lt : ∀ (v1 : BitVec 32) (k0_hw2 : k0_chk2 v1), (k0_dev216 v1) < nD := fun v1 k0_hw2 => k0_hw2.2.2.2.2.2.2.2.2.2.2.2.2.2.2.1
theorem k0_dev218_lt : ∀ (v1 : BitVec 32) (k0_hw2 : k0_chk2 v1), (k0_dev218 v1) < nD := fun v1 k0_hw2 => k0_hw2.2.2.2.2.2.2.2.2.2.2.2.2.2.2.2.1
theorem k0_dev219_lt : ∀ (v1 : BitVec 32) (k0_hw2 : k0_chk2 v1), (k0_dev219 v1) < nD := fun v1 k0_hw2 => k0_hw2.2.2.2.2.2.2.2.2.2.2.2.2.2.2.2.2.1
theorem k0_dev221_lt : ∀ (v1 : BitVec 32) (k0_hw2 : k0_chk2 v1), (k0_dev221 v1) < nD := fun v1 k0_hw2 => k0_hw2.2.2.2.2.2.2.2.2.2.2.2.2.2.2.2.2.2.1
theorem k0_dev224_lt : ∀ (v1 : BitVec 32) (k0_hw2 : k0_chk2 v1), (k0_dev224 v1) < nD := fun v1 k0_hw2 => k0_hw2.2.2.2.2.2.2.2.2.2.2.2.2.2.2.2.2.2.2.1
theorem k0_dev226_lt : ∀ (v1 : BitVec 32) (k0_hw2 : k0_chk2 v1), (k0_dev226 v1) < nD := fun v1 k0_hw2 => k0_hw2.2.2.2.2.2.2.2.2.2.2.2.2.2.2.2.2.2.2.2.1
theorem k0_dev227_lt : ∀ (v1 : BitVec 32) (k0_hw2 : k0_chk2 v1), (k0_dev227 v1) < nD := fun v1 k0_hw2 => k0_hw2.2.2.2.2.2.2.2.2.2.2.2.2.2.2.2.2.2.2.2.2.1
theorem k0_dev229_lt : ∀ (v1 : BitVec 32) (k0_hw2 : k0_chk2 v1), (k0_dev229 v1) < nD := fun v1 k0_hw2 => k0_hw2.2.2.2.2.2.2.2.2.2.2.2.2.2.2.2.2.2.2.2.2.2.1
theorem k0_dev232_lt : ∀ (v1 : BitVec 32) (k0_hw2 : k0_chk2 v1), (k0_dev232 v1) < nD := fun v1 k0_hw2 => k0_hw2.2.2.2.2.2.2.2.2.2.2.2.2.2.2.2.2.2.2.2.2.2.2.1
theorem k0_dev234_lt : ∀ (v1 : BitVec 32) (k0_hw2 : k0_chk2 v1), (k0_dev234 v1) < nD := fun v1 k0_hw2 => k0_hw2.2.2.2.2.2.2.2.2.2.2.2.2.2.2.2.2.2.2.2.2.2.2.2.1
theorem k0_dev235_lt : ∀ (v1 : BitVec 32) (k0_hw2 : k0_chk2 v1), (k0_dev235 v1) < nD := fun v1 k0_hw2 => k0_hw2.2.2.2.2.2.2.2.2.2.2.2.2.2.2.2.2.2.2.2.2.2.2.2.2.1
theorem k0_dev237_lt : ∀ (v1 : BitVec 32) (k0_hw2 : k0_chk2 v1), (k0_dev237 v1) < nD := fun v1 k0_hw2 => k0_hw2.2.2.2.2.2.2.2.2.2.2.2.2.2.2.2.2.2.2.2.2.2.2.2.2.2.1
theorem k0_dev239_lt : ∀ (v1 : BitVec 32) (k0_hw2 : k0_chk2 v1), (k0_dev239 v1) < nD := fun v1 k0_hw2 => k0_hw2.2.2.2.2.2.2.2.2.2.2.2.2.2.2.2.2.2.2.2.2.2.2.2.2.2.2.1
theorem k0_dev240_lt : ∀ (v1 : BitVec 32) (k0_hw2 : k0_chk2 v1), (k0_dev240 v1) < nD := fun v1 k0_hw2 => k0_hw2.2.2.2.2.2.2.2.2.2.2.2.2.2.2.2.2.2.2.2.2.2.2.2.2.2.2.2

def k0_dev241 (v0 : BitVec 32) : Nat :=
  let c0_i32_4980 : BitVec 32 := 0#32
  let c1_i32_4979 : BitVec 32 := 1#32
  let v4520 : BitVec 32 := Scalar.muli v0 c1_i32_4979
  let v4521 : BitVec 32 := Scalar.addi c0_i32_4980 v4520
  v4521.toNat
def k0_dev242 (v0 : BitVec 32) : Nat :=
  let c0_i32_5017 : BitVec 32 := 0#32
  let c1_i32_5016 : BitVec 32 := 1#32
  let v4550 : BitVec 32 := Scalar.muli v0 c1_i32_5016
  let v4551 : BitVec 32 := Scalar.addi c0_i32_5017 v4550
  v4551.toNat

def k0_chk1_0 (v0 : BitVec 32) : Prop :=
  ((k0_dev1 v0) < nD) ∧
  ((k0_dev5 v0) < nD) ∧
  ((k0_dev6 v0) < nD) ∧
  ((k0_dev7 v0) < nD) ∧
  ((k0_dev9 v0) < nD) ∧
  ((k0_dev12 v0) < nD) ∧
  ((k0_dev14 v0) < nD) ∧
  ((k0_dev15 v0) < nD) ∧
  ((k0_dev17 v0) < nD) ∧
  ((k0_dev20 v0) < nD) ∧
  ((k0_dev22 v0) < nD) ∧
  ((k0_dev23 v0) < nD) ∧
  ((k0_dev25 v0) < nD) ∧
  ((k0_dev28 v0) < nD) ∧
  ((k0_dev30 v0) < nD) ∧
  ((k0_dev31 v0) < nD) ∧
  ((k0_dev33 v0) < nD) ∧
  ((k0_dev36 v0) < nD) ∧
  ((k0_dev38 v0) < nD) ∧
  ((k0_dev39 v0) < nD) ∧
  ((k0_dev41 v0) < nD) ∧
  ((k0_dev44 v0) < nD) ∧
  ((k0_dev46 v0) < nD) ∧
  ((k0_dev47 v0) < nD) ∧
  ((k0_dev49 v0) < nD) ∧
  ((k0_dev52 v0) < nD) ∧
  ((k0_dev54 v0) < nD) ∧
  ((k0_dev55 v0) < nD) ∧
  ((k0_dev57 v0) < nD) ∧
  ((k0_dev60 v0) < nD) ∧
  ((k0_dev62 v0) < nD) ∧
  ((k0_dev63 v0) < nD)
def k0_chk1_1 (v0 : BitVec 32) : Prop :=
  ((k0_dev65 v0) < nD) ∧
  ((k0_dev68 v0) < nD) ∧
  ((k0_dev70 v0) < nD) ∧
  ((k0_dev71 v0) < nD) ∧
  ((k0_dev73 v0) < nD) ∧
  ((k0_dev76 v0) < nD) ∧
  ((k0_dev78 v0) < nD) ∧
  ((k0_dev79 v0) < nD) ∧
  ((k0_dev81 v0) < nD) ∧
  ((k0_dev84 v0) < nD) ∧
  ((k0_dev86 v0) < nD) ∧
  ((k0_dev87 v0) < nD) ∧
  ((k0_dev89 v0) < nD) ∧
  ((k0_dev92 v0) < nD) ∧
  ((k0_dev94 v0) < nD) ∧
  ((k0_dev95 v0) < nD) ∧
  ((k0_dev97 v0) < nD) ∧
  ((k0_dev100 v0) < nD) ∧
  ((k0_dev102 v0) < nD) ∧
  ((k0_dev103 v0) < nD) ∧
  ((k0_dev105 v0) < nD) ∧
  ((k0_dev108 v0) < nD) ∧
  ((k0_dev110 v0) < nD) ∧
  ((k0_dev111 v0) < nD) ∧
  ((k0_dev113 v0) < nD) ∧
  ((k0_dev116 v0) < nD) ∧
  ((k0_dev118 v0) < nD) ∧
  ((k0_dev119 v0) < nD) ∧
  ((k0_dev121 v0) < nD) ∧
  ((k0_dev124 v0) < nD) ∧
  ((k0_dev126 v0) < nD) ∧
  ((k0_dev127 v0) < nD)
def k0_chk1_2 (v0 : BitVec 32) : Prop :=
  ((k0_dev129 v0) < nD) ∧
  ((k0_dev132 v0) < nD) ∧
  ((k0_dev134 v0) < nD) ∧
  ((k0_dev135 v0) < nD) ∧
  ((k0_dev137 v0) < nD) ∧
  ((k0_dev140 v0) < nD) ∧
  ((k0_dev142 v0) < nD) ∧
  ((k0_dev143 v0) < nD) ∧
  ((k0_dev145 v0) < nD) ∧
  ((k0_dev148 v0) < nD) ∧
  ((k0_dev150 v0) < nD) ∧
  ((k0_dev151 v0) < nD) ∧
  ((k0_dev153 v0) < nD) ∧
  ((k0_dev156 v0) < nD) ∧
  ((k0_dev158 v0) < nD) ∧
  ((k0_dev159 v0) < nD) ∧
  ((k0_dev161 v0) < nD) ∧
  ((k0_dev164 v0) < nD) ∧
  ((k0_dev166 v0) < nD) ∧
  ((k0_dev167 v0) < nD) ∧
  ((k0_dev169 v0) < nD) ∧
  ((k0_dev172 v0) < nD) ∧
  ((k0_dev174 v0) < nD) ∧
  ((k0_dev175 v0) < nD) ∧
  ((k0_dev177 v0) < nD) ∧
  ((k0_dev180 v0) < nD) ∧
  ((k0_dev182 v0) < nD) ∧
  ((k0_dev183 v0) < nD) ∧
  ((k0_dev185 v0) < nD) ∧
  ((k0_dev188 v0) < nD) ∧
  ((k0_dev190 v0) < nD) ∧
  ((k0_dev191 v0) < nD)
def k0_chk1_3 (v0 : BitVec 32) : Prop :=
  ((k0_dev193 v0) < nD) ∧
  ((k0_dev196 v0) < nD) ∧
  ((k0_dev198 v0) < nD) ∧
  ((k0_dev199 v0) < nD) ∧
  ((k0_dev201 v0) < nD) ∧
  ((k0_dev204 v0) < nD) ∧
  ((k0_dev206 v0) < nD) ∧
  ((k0_dev207 v0) < nD) ∧
  ((k0_dev209 v0) < nD) ∧
  ((k0_dev212 v0) < nD) ∧
  ((k0_dev214 v0) < nD) ∧
  ((k0_dev215 v0) < nD) ∧
  ((k0_dev217 v0) < nD) ∧
  ((k0_dev220 v0) < nD) ∧
  ((k0_dev222 v0) < nD) ∧
  ((k0_dev223 v0) < nD) ∧
  ((k0_dev225 v0) < nD) ∧
  ((k0_dev228 v0) < nD) ∧
  ((k0_dev230 v0) < nD) ∧
  ((k0_dev231 v0) < nD) ∧
  ((k0_dev233 v0) < nD) ∧
  ((k0_dev236 v0) < nD) ∧
  ((k0_dev238 v0) < nD) ∧
  ((k0_dev241 v0) < nD) ∧
  ((k0_dev242 v0) < nD)
def k0_chk1 (v0 : BitVec 32) : Prop :=
  k0_chk1_0 v0 ∧
  k0_chk1_1 v0 ∧
  k0_chk1_2 v0 ∧
  k0_chk1_3 v0
theorem k0_dev1_lt : ∀ (v0 : BitVec 32) (k0_hw1 : k0_chk1 v0), (k0_dev1 v0) < nD := fun v0 k0_hw1 => k0_hw1.1.1
theorem k0_dev5_lt : ∀ (v0 : BitVec 32) (k0_hw1 : k0_chk1 v0), (k0_dev5 v0) < nD := fun v0 k0_hw1 => k0_hw1.1.2.1
theorem k0_dev6_lt : ∀ (v0 : BitVec 32) (k0_hw1 : k0_chk1 v0), (k0_dev6 v0) < nD := fun v0 k0_hw1 => k0_hw1.1.2.2.1
theorem k0_dev7_lt : ∀ (v0 : BitVec 32) (k0_hw1 : k0_chk1 v0), (k0_dev7 v0) < nD := fun v0 k0_hw1 => k0_hw1.1.2.2.2.1
theorem k0_dev9_lt : ∀ (v0 : BitVec 32) (k0_hw1 : k0_chk1 v0), (k0_dev9 v0) < nD := fun v0 k0_hw1 => k0_hw1.1.2.2.2.2.1
theorem k0_dev12_lt : ∀ (v0 : BitVec 32) (k0_hw1 : k0_chk1 v0), (k0_dev12 v0) < nD := fun v0 k0_hw1 => k0_hw1.1.2.2.2.2.2.1
theorem k0_dev14_lt : ∀ (v0 : BitVec 32) (k0_hw1 : k0_chk1 v0), (k0_dev14 v0) < nD := fun v0 k0_hw1 => k0_hw1.1.2.2.2.2.2.2.1
theorem k0_dev15_lt : ∀ (v0 : BitVec 32) (k0_hw1 : k0_chk1 v0), (k0_dev15 v0) < nD := fun v0 k0_hw1 => k0_hw1.1.2.2.2.2.2.2.2.1
theorem k0_dev17_lt : ∀ (v0 : BitVec 32) (k0_hw1 : k0_chk1 v0), (k0_dev17 v0) < nD := fun v0 k0_hw1 => k0_hw1.1.2.2.2.2.2.2.2.2.1
theorem k0_dev20_lt : ∀ (v0 : BitVec 32) (k0_hw1 : k0_chk1 v0), (k0_dev20 v0) < nD := fun v0 k0_hw1 => k0_hw1.1.2.2.2.2.2.2.2.2.2.1
theorem k0_dev22_lt : ∀ (v0 : BitVec 32) (k0_hw1 : k0_chk1 v0), (k0_dev22 v0) < nD := fun v0 k0_hw1 => k0_hw1.1.2.2.2.2.2.2.2.2.2.2.1
theorem k0_dev23_lt : ∀ (v0 : BitVec 32) (k0_hw1 : k0_chk1 v0), (k0_dev23 v0) < nD := fun v0 k0_hw1 => k0_hw1.1.2.2.2.2.2.2.2.2.2.2.2.1
theorem k0_dev25_lt : ∀ (v0 : BitVec 32) (k0_hw1 : k0_chk1 v0), (k0_dev25 v0) < nD := fun v0 k0_hw1 => k0_hw1.1.2.2.2.2.2.2.2.2.2.2.2.2.1
theorem k0_dev28_lt : ∀ (v0 : BitVec 32) (k0_hw1 : k0_chk1 v0), (k0_dev28 v0) < nD := fun v0 k0_hw1 => k0_hw1.1.2.2.2.2.2.2.2.2.2.2.2.2.2.1
theorem k0_dev30_lt : ∀ (v0 : BitVec 32) (k0_hw1 : k0_chk1 v0), (k0_dev30 v0) < nD := fun v0 k0_hw1 => k0_hw1.1.2.2.2.2.2.2.2.2.2.2.2.2.2.2.1
theorem k0_dev31_lt : ∀ (v0 : BitVec 32) (k0_hw1 : k0_chk1 v0), (k0_dev31 v0) < nD := fun v0 k0_hw1 => k0_hw1.1.2.2.2.2.2.2.2.2.2.2.2.2.2.2.2.1
theorem k0_dev33_lt : ∀ (v0 : BitVec 32) (k0_hw1 : k0_chk1 v0), (k0_dev33 v0) < nD := fun v0 k0_hw1 => k0_hw1.1.2.2.2.2.2.2.2.2.2.2.2.2.2.2.2.2.1
theorem k0_dev36_lt : ∀ (v0 : BitVec 32) (k0_hw1 : k0_chk1 v0), (k0_dev36 v0) < nD := fun v0 k0_hw1 => k0_hw1.1.2.2.2.2.2.2.2.2.2.2.2.2.2.2.2.2.2.1
theorem k0_dev38_lt : ∀ (v0 : BitVec 32) (k0_hw1 : k0_chk1 v0), (k0_dev38 v0) < nD := fun v0 k0_hw1 => k0_hw1.1.2.2.2.2.2.2.2.2.2.2.2.2.2.2.2.2.2.2.1
theorem k0_dev39_lt : ∀ (v0 : BitVec 32) (k0_hw1 : k0_chk1 v0), (k0_dev39 v0) < nD := fun v0 k0_hw1 => k0_hw1.1.2.2.2.2.2.2.2.2.2.2.2.2.2.2.2.2.2.2.2.1
theorem k0_dev41_lt : ∀ (v0 : BitVec 32) (k0_hw1 : k0_chk1 v0), (k0_dev41 v0) < nD := fun v0 k0_hw1 => k0_hw1.1.2.2.2.2.2.2.2.2.2.2.2.2.2.2.2.2.2.2.2.2.1
theorem k0_dev44_lt : ∀ (v0 : BitVec 32) (k0_hw1 : k0_chk1 v0), (k0_dev44 v0) < nD := fun v0 k0_hw1 => k0_hw1.1.2.2.2.2.2.2.2.2.2.2.2.2.2.2.2.2.2.2.2.2.2.1
theorem k0_dev46_lt : ∀ (v0 : BitVec 32) (k0_hw1 : k0_chk1 v0), (k0_dev46 v0) < nD := fun v0 k0_hw1 => k0_hw1.1.2.2.2.2.2.2.2.2.2.2.2.2.2.2.2.2.2.2.2.2.2.2.1
theorem k0_dev47_lt : ∀ (v0 : BitVec 32) (k0_hw1 : k0_chk1 v0), (k0_dev47 v0) < nD := fun v0 k0_hw1 => k0_hw1.1.2.2.2.2.2.2.2.2.2.2.2.2.2.2.2.2.2.2.2.2.2.2.2.1
theorem k0_dev49_lt : ∀ (v0 : BitVec 32) (k0_hw1 : k0_chk1 v0), (k0_dev49 v0) < nD := fun v0 k0_hw1 => k0_hw1.1.2.2.2.2.2.2.2.2.2.2.2.2.2.2.2.2.2.2.2.2.2.2.2.2.1
theorem k0_dev52_lt : ∀ (v0 : BitVec 32) (k0_hw1 : k0_chk1 v0), (k0_dev52 v0) < nD := fun v0 k0_hw1 => k0_hw1.1.2.2.2.2.2.2.2.2.2.2.2.2.2.2.2.2.2.2.2.2.2.2.2.2.2.1
theorem k0_dev54_lt : ∀ (v0 : BitVec 32) (k0_hw1 : k0_chk1 v0), (k0_dev54 v0) < nD := fun v0 k0_hw1 => k0_hw1.1.2.2.2.2.2.2.2.2.2.2.2.2.2.2.2.2.2.2.2.2.2.2.2.2.2.2.1
theorem k0_dev55_lt : ∀ (v0 : BitVec 32) (k0_hw1 : k0_chk1 v0), (k0_dev55 v0) < nD := fun v0 k0_hw1 => k0_hw1.1.2.2.2.2.2.2.2.2.2.2.2.2.2.2.2.2.2.2.2.2.2.2.2.2.2.2.2.1
theorem k0_dev57_lt : ∀ (v0 : BitVec 32) (k0_hw1 : k0_chk1 v0), (k0_dev57 v0) < nD := fun v0 k0_hw1 => k0_hw1.1.2.2.2.2.2.2.2.2.2.2.2.2.2.2.2.2.2.2.2.2.2.2.2.2.2.2.2.2.1
theorem k0_dev60_lt : ∀ (v0 : BitVec 32) (k0_hw1 : k0_chk1 v0), (k0_dev60 v0) < nD := fun v0 k0_hw1 => k0_hw1.1.2.2.2.2.2.2.2.2.2.2.2.2.2.2.2.2.2.2.2.2.2.2.2.2.2.2.2.2.2.1
theorem k0_dev62_lt : ∀ (v0 : BitVec 32) (k0_hw1 : k0_chk1 v0), (k0_dev62 v0) < nD := fun v0 k0_hw1 => k0_hw1.1.2.2.2.2.2.2.2.2.2.2.2.2.2.2.2.2.2.2.2.2.2.2.2.2.2.2.2.2.2.2.1
theorem k0_dev63_lt : ∀ (v0 : BitVec 32) (k0_hw1 : k0_chk1 v0), (k0_dev63 v0) < nD := fun v0 k0_hw1 => k0_hw1.1.2.2.2.2.2.2.2.2.2.2.2.2.2.2.2.2.2.2.2.2.2.2.2.2.2.2.2.2.2.2.2
theorem k0_dev65_lt : ∀ (v0 : BitVec 32) (k0_hw1 : k0_chk1 v0), (k0_dev65 v0) < nD := fun v0 k0_hw1 => k0_hw1.2.1.1
theorem k0_dev68_lt : ∀ (v0 : BitVec 32) (k0_hw1 : k0_chk1 v0), (k0_dev68 v0) < nD := fun v0 k0_hw1 => k0_hw1.2.1.2.1
theorem k0_dev70_lt : ∀ (v0 : BitVec 32) (k0_hw1 : k0_chk1 v0), (k0_dev70 v0) < nD := fun v0 k0_hw1 => k0_hw1.2.1.2.2.1
theorem k0_dev71_lt : ∀ (v0 : BitVec 32) (k0_hw1 : k0_chk1 v0), (k0_dev71 v0) < nD := fun v0 k0_hw1 => k0_hw1.2.1.2.2.2.1
theorem k0_dev73_lt : ∀ (v0 : BitVec 32) (k0_hw1 : k0_chk1 v0), (k0_dev73 v0) < nD := fun v0 k0_hw1 => k0_hw1.2.1.2.2.2.2.1
theorem k0_dev76_lt : ∀ (v0 : BitVec 32) (k0_hw1 : k0_chk1 v0), (k0_dev76 v0) < nD := fun v0 k0_hw1 => k0_hw1.2.1.2.2.2.2.2.1
theorem k0_dev78_lt : ∀ (v0 : BitVec 32) (k0_hw1 : k0_chk1 v0), (k0_dev78 v0) < nD := fun v0 k0_hw1 => k0_hw1.2.1.2.2.2.2.2.2.1
theorem k0_dev79_lt : ∀ (v0 : BitVec 32) (k0_hw1 : k0_chk1 v0), (k0_dev79 v0) < nD := fun v0 k0_hw1 => k0_hw1.2.1.2.2.2.2.2.2.2.1
theorem k0_dev81_lt : ∀ (v0 : BitVec 32) (k0_hw1 : k0_chk1 v0), (k0_dev81 v0) < nD := fun v0 k0_hw1 => k0_hw1.2.1.2.2.2.2.2.2.2.2.1
theorem k0_dev84_lt : ∀ (v0 : BitVec 32) (k0_hw1 : k0_chk1 v0), (k0_dev84 v0) < nD := fun v0 k0_hw1 => k0_hw1.2.1.2.2.2.2.2.2.2.2.2.1
theorem k0_dev86_lt : ∀ (v0 : BitVec 32) (k0_hw1 : k0_chk1 v0), (k0_dev86 v0) < nD := fun v0 k0_hw1 => k0_hw1.2.1.2.2.2.2.2.2.2.2.2.2.1
theorem k0_dev87_lt : ∀ (v0 : BitVec 32) (k0_hw1 : k0_chk1 v0), (k0_dev87 v0) < nD := fun v0 k0_hw1 => k0_hw1.2.1.2.2.2.2.2.2.2.2.2.2.2.1
theorem k0_dev89_lt : ∀ (v0 : BitVec 32) (k0_hw1 : k0_chk1 v0), (k0_dev89 v0) < nD := fun v0 k0_hw1 => k0_hw1.2.1.2.2.2.2.2.2.2.2.2.2.2.2.1
theorem k0_dev92_lt : ∀ (v0 : BitVec 32) (k0_hw1 : k0_chk1 v0), (k0_dev92 v0) < nD := fun v0 k0_hw1 => k0_hw1.2.1.2.2.2.2.2.2.2.2.2.2.2.2.2.1
theorem k0_dev94_lt : ∀ (v0 : BitVec 32) (k0_hw1 : k0_chk1 v0), (k0_dev94 v0) < nD := fun v0 k0_hw1 => k0_hw1.2.1.2.2.2.2.2.2.2.2.2.2.2.2.2.2.1
theorem k0_dev95_lt : ∀ (v0 : BitVec 32) (k0_hw1 : k0_chk1 v0), (k0_dev95 v0) < nD := fun v0 k0_hw1 => k0_hw1.2.1.2.2.2.2.2.2.2.2.2.2.2.2.2.2.2.1
theorem k0_dev97_lt : ∀ (v0 : BitVec 32) (k0_hw1 : k0_chk1 v0), (k0_dev97 v0) < nD := fun v0 k0_hw1 => k0_hw1.2.1.2.2.2.2.2.2.2.2.2.2.2.2.2.2.2.2.1
theorem k0_dev100_lt : ∀ (v0 : BitVec 32) (k0_hw1 : k0_chk1 v0), (k0_dev100 v0) < nD := fun v0 k0_hw1 => k0_hw1.2.1.2.2.2.2.2.2.2.2.2.2.2.2.2.2.2.2.2.1
theorem k0_dev102_lt : ∀ (v0 : BitVec 32) (k0_hw1 : k0_chk1 v0), (k0_dev102 v0) < nD := fun v0 k0_hw1 => k0_hw1.2.1.2.2.2.2.2.2.2.2.2.2.2.2.2.2.2.2.2.2.1
theorem k0_dev103_lt : ∀ (v0 : BitVec 32) (k0_hw1 : k0_chk1 v0), (k0_dev103 v0) < nD := fun v0 k0_hw1 => k0_hw1.2.1.2.2.2.2.2.2.2.2.2.2.2.2.2.2.2.2.2.2.2.1
theorem k0_dev105_lt : ∀ (v0 : BitVec 32) (k0_hw1 : k0_chk1 v0), (k0_dev105 v0) < nD := fun v0 k0_hw1 => k0_hw1.2.1.2.2.2.2.2.2.2.2.2.2.2.2.2.2.2.2.2.2.2.2.1
theorem k0_dev108_lt : ∀ (v0 : BitVec 32) (k0_hw1 : k0_chk1 v0), (k0_dev108 v0) < nD := fun v0 k0_hw1 => k0_hw1.2.1.2.2.2.2.2.2.2.2.2.2.2.2.2.2.2.2.2.2.2.2.2.1
theorem k0_dev110_lt : ∀ (v0 : BitVec 32) (k0_hw1 : k0_chk1 v0), (k0_dev110 v0) < nD := fun v0 k0_hw1 => k0_hw1.2.1.2.2.2.2.2.2.2.2.2.2.2.2.2.2.2.2.2.2.2.2.2.2.1
theorem k0_dev111_lt : ∀ (v0 : BitVec 32) (k0_hw1 : k0_chk1 v0), (k0_dev111 v0) < nD := fun v0 k0_hw1 => k0_hw1.2.1.2.2.2.2.2.2.2.2.2.2.2.2.2.2.2.2.2.2.2.2.2.2.2.1
theorem k0_dev113_lt : ∀ (v0 : BitVec 32) (k0_hw1 : k0_chk1 v0), (k0_dev113 v0) < nD := fun v0 k0_hw1 => k0_hw1.2.1.2.2.2.2.2.2.2.2.2.2.2.2.2.2.2.2.2.2.2.2.2.2.2.2.1
theorem k0_dev116_lt : ∀ (v0 : BitVec 32) (k0_hw1 : k0_chk1 v0), (k0_dev116 v0) < nD := fun v0 k0_hw1 => k0_hw1.2.1.2.2.2.2.2.2.2.2.2.2.2.2.2.2.2.2.2.2.2.2.2.2.2.2.2.1
theorem k0_dev118_lt : ∀ (v0 : BitVec 32) (k0_hw1 : k0_chk1 v0), (k0_dev118 v0) < nD := fun v0 k0_hw1 => k0_hw1.2.1.2.2.2.2.2.2.2.2.2.2.2.2.2.2.2.2.2.2.2.2.2.2.2.2.2.2.1
theorem k0_dev119_lt : ∀ (v0 : BitVec 32) (k0_hw1 : k0_chk1 v0), (k0_dev119 v0) < nD := fun v0 k0_hw1 => k0_hw1.2.1.2.2.2.2.2.2.2.2.2.2.2.2.2.2.2.2.2.2.2.2.2.2.2.2.2.2.2.1
theorem k0_dev121_lt : ∀ (v0 : BitVec 32) (k0_hw1 : k0_chk1 v0), (k0_dev121 v0) < nD := fun v0 k0_hw1 => k0_hw1.2.1.2.2.2.2.2.2.2.2.2.2.2.2.2.2.2.2.2.2.2.2.2.2.2.2.2.2.2.2.1
theorem k0_dev124_lt : ∀ (v0 : BitVec 32) (k0_hw1 : k0_chk1 v0), (k0_dev124 v0) < nD := fun v0 k0_hw1 => k0_hw1.2.1.2.2.2.2.2.2.2.2.2.2.2.2.2.2.2.2.2.2.2.2.2.2.2.2.2.2.2.2.2.1
theorem k0_dev126_lt : ∀ (v0 : BitVec 32) (k0_hw1 : k0_chk1 v0), (k0_dev126 v0) < nD := fun v0 k0_hw1 => k0_hw1.2.1.2.2.2.2.2.2.2.2.2.2.2.2.2.2.2.2.2.2.2.2.2.2.2.2.2.2.2.2.2.2.1
theorem k0_dev127_lt : ∀ (v0 : BitVec 32) (k0_hw1 : k0_chk1 v0), (k0_dev127 v0) < nD := fun v0 k0_hw1 => k0_hw1.2.1.2.2.2.2.2.2.2.2.2.2.2.2.2.2.2.2.2.2.2.2.2.2.2.2.2.2.2.2.2.2.2
theorem k0_dev129_lt : ∀ (v0 : BitVec 32) (k0_hw1 : k0_chk1 v0), (k0_dev129 v0) < nD := fun v0 k0_hw1 => k0_hw1.2.2.1.1
theorem k0_dev132_lt : ∀ (v0 : BitVec 32) (k0_hw1 : k0_chk1 v0), (k0_dev132 v0) < nD := fun v0 k0_hw1 => k0_hw1.2.2.1.2.1
theorem k0_dev134_lt : ∀ (v0 : BitVec 32) (k0_hw1 : k0_chk1 v0), (k0_dev134 v0) < nD := fun v0 k0_hw1 => k0_hw1.2.2.1.2.2.1
theorem k0_dev135_lt : ∀ (v0 : BitVec 32) (k0_hw1 : k0_chk1 v0), (k0_dev135 v0) < nD := fun v0 k0_hw1 => k0_hw1.2.2.1.2.2.2.1
theorem k0_dev137_lt : ∀ (v0 : BitVec 32) (k0_hw1 : k0_chk1 v0), (k0_dev137 v0) < nD := fun v0 k0_hw1 => k0_hw1.2.2.1.2.2.2.2.1
theorem k0_dev140_lt : ∀ (v0 : BitVec 32) (k0_hw1 : k0_chk1 v0), (k0_dev140 v0) < nD := fun v0 k0_hw1 => k0_hw1.2.2.1.2.2.2.2.2.1
theorem k0_dev142_lt : ∀ (v0 : BitVec 32) (k0_hw1 : k0_chk1 v0), (k0_dev142 v0) < nD := fun v0 k0_hw1 => k0_hw1.2.2.1.2.2.2.2.2.2.1
theorem k0_dev143_lt : ∀ (v0 : BitVec 32) (k0_hw1 : k0_chk1 v0), (k0_dev143 v0) < nD := fun v0 k0_hw1 => k0_hw1.2.2.1.2.2.2.2.2.2.2.1
theorem k0_dev145_lt : ∀ (v0 : BitVec 32) (k0_hw1 : k0_chk1 v0), (k0_dev145 v0) < nD := fun v0 k0_hw1 => k0_hw1.2.2.1.2.2.2.2.2.2.2.2.1
theorem k0_dev148_lt : ∀ (v0 : BitVec 32) (k0_hw1 : k0_chk1 v0), (k0_dev148 v0) < nD := fun v0 k0_hw1 => k0_hw1.2.2.1.2.2.2.2.2.2.2.2.2.1
theorem k0_dev150_lt : ∀ (v0 : BitVec 32) (k0_hw1 : k0_chk1 v0), (k0_dev150 v0) < nD := fun v0 k0_hw1 => k0_hw1.2.2.1.2.2.2.2.2.2.2.2.2.2.1
theorem k0_dev151_lt : ∀ (v0 : BitVec 32) (k0_hw1 : k0_chk1 v0), (k0_dev151 v0) < nD := fun v0 k0_hw1 => k0_hw1.2.2.1.2.2.2.2.2.2.2.2.2.2.2.1
theorem k0_dev153_lt : ∀ (v0 : BitVec 32) (k0_hw1 : k0_chk1 v0), (k0_dev153 v0) < nD := fun v0 k0_hw1 => k0_hw1.2.2.1.2.2.2.2.2.2.2.2.2.2.2.2.1
theorem k0_dev156_lt : ∀ (v0 : BitVec 32) (k0_hw1 : k0_chk1 v0), (k0_dev156 v0) < nD := fun v0 k0_hw1 => k0_hw1.2.2.1.2.2.2.2.2.2.2.2.2.2.2.2.2.1
theorem k0_dev158_lt : ∀ (v0 : BitVec 32) (k0_hw1 : k0_chk1 v0), (k0_dev158 v0) < nD := fun v0 k0_hw1 => k0_hw1.2.2.1.2.2.2.2.2.2.2.2.2.2.2.2.2.2.1
theorem k0_dev159_lt : ∀ (v0 : BitVec 32) (k0_hw1 : k0_chk1 v0), (k0_dev159 v0) < nD := fun v0 k0_hw1 => k0_hw1.2.2.1.2.2.2.2.2.2.2.2.2.2.2.2.2.2.2.1
theorem k0_dev161_lt : ∀ (v0 : BitVec 32) (k0_hw1 : k0_chk1 v0), (k0_dev161 v0) < nD := fun v0 k0_hw1 => k0_hw1.2.2.1.2.2.2.2.2.2.2.2.2.2.2.2.2.2.2.2.1
theorem k0_dev164_lt : ∀ (v0 : BitVec 32) (k0_hw1 : k0_chk1 v0), (k0_dev164 v0) < nD := fun v0 k0_hw1 => k0_hw1.2.2.1.2.2.2.2.2.2.2.2.2.2.2.2.2.2.2.2.2.1
theorem k0_dev166_lt : ∀ (v0 : BitVec 32) (k0_hw1 : k0_chk1 v0), (k0_dev166 v0) < nD := fun v0 k0_hw1 => k0_hw1.2.2.1.2.2.2.2.2.2.2.2.2.2.2.2.2.2.2.2.2.2.1
theorem k0_dev167_lt : ∀ (v0 : BitVec 32) (k0_hw1 : k0_chk1 v0), (k0_dev167 v0) < nD := fun v0 k0_hw1 => k0_hw1.2.2.1.2.2.2.2.2.2.2.2.2.2.2.2.2.2.2.2.2.2.2.1
theorem k0_dev169_lt : ∀ (v0 : BitVec 32) (k0_hw1 : k0_chk1 v0), (k0_dev169 v0) < nD := fun v0 k0_hw1 => k0_hw1.2.2.1.2.2.2.2.2.2.2.2.2.2.2.2.2.2.2.2.2.2.2.2.1
theorem k0_dev172_lt : ∀ (v0 : BitVec 32) (k0_hw1 : k0_chk1 v0), (k0_dev172 v0) < nD := fun v0 k0_hw1 => k0_hw1.2.2.1.2.2.2.2.2.2.2.2.2.2.2.2.2.2.2.2.2.2.2.2.2.1
theorem k0_dev174_lt : ∀ (v0 : BitVec 32) (k0_hw1 : k0_chk1 v0), (k0_dev174 v0) < nD := fun v0 k0_hw1 => k0_hw1.2.2.1.2.2.2.2.2.2.2.2.2.2.2.2.2.2.2.2.2.2.2.2.2.2.1
theorem k0_dev175_lt : ∀ (v0 : BitVec 32) (k0_hw1 : k0_chk1 v0), (k0_dev175 v0) < nD := fun v0 k0_hw1 => k0_hw1.2.2.1.2.2.2.2.2.2.2.2.2.2.2.2.2.2.2.2.2.2.2.2.2.2.2.1
theorem k0_dev177_lt : ∀ (v0 : BitVec 32) (k0_hw1 : k0_chk1 v0), (k0_dev177 v0) < nD := fun v0 k0_hw1 => k0_hw1.2.2.1.2.2.2.2.2.2.2.2.2.2.2.2.2.2.2.2.2.2.2.2.2.2.2.2.1
theorem k0_dev180_lt : ∀ (v0 : BitVec 32) (k0_hw1 : k0_chk1 v0), (k0_dev180 v0) < nD := fun v0 k0_hw1 => k0_hw1.2.2.1.2.2.2.2.2.2.2.2.2.2.2.2.2.2.2.2.2.2.2.2.2.2.2.2.2.1
theorem k0_dev182_lt : ∀ (v0 : BitVec 32) (k0_hw1 : k0_chk1 v0), (k0_dev182 v0) < nD := fun v0 k0_hw1 => k0_hw1.2.2.1.2.2.2.2.2.2.2.2.2.2.2.2.2.2.2.2.2.2.2.2.2.2.2.2.2.2.1
theorem k0_dev183_lt : ∀ (v0 : BitVec 32) (k0_hw1 : k0_chk1 v0), (k0_dev183 v0) < nD := fun v0 k0_hw1 => k0_hw1.2.2.1.2.2.2.2.2.2.2.2.2.2.2.2.2.2.2.2.2.2.2.2.2.2.2.2.2.2.2.1
theorem k0_dev185_lt : ∀ (v0 : BitVec 32) (k0_hw1 : k0_chk1 v0), (k0_dev185 v0) < nD := fun v0 k0_hw1 => k0_hw1.2.2.1.2.2.2.2.2.2.2.2.2.2.2.2.2.2.2.2.2.2.2.2.2.2.2.2.2.2.2.2.1
theorem k0_dev188_lt : ∀ (v0 : BitVec 32) (k0_hw1 : k0_chk1 v0), (k0_dev188 v0) < nD := fun v0 k0_hw1 => k0_hw1.2.2.1.2.2.2.2.2.2.2.2.2.2.2.2.2.2.2.2.2.2.2.2.2.2.2.2.2.2.2.2.2.1
theorem k0_dev190_lt : ∀ (v0 : BitVec 32) (k0_hw1 : k0_chk1 v0), (k0_dev190 v0) < nD := fun v0 k0_hw1 => k0_hw1.2.2.1.2.2.2.2.2.2.2.2.2.2.2.2.2.2.2.2.2.2.2.2.2.2.2.2.2.2.2.2.2.2.1
theorem k0_dev191_lt : ∀ (v0 : BitVec 32) (k0_hw1 : k0_chk1 v0), (k0_dev191 v0) < nD := fun v0 k0_hw1 => k0_hw1.2.2.1.2.2.2.2.2.2.2.2.2.2.2.2.2.2.2.2.2.2.2.2.2.2.2.2.2.2.2.2.2.2.2
theorem k0_dev193_lt : ∀ (v0 : BitVec 32) (k0_hw1 : k0_chk1 v0), (k0_dev193 v0) < nD := fun v0 k0_hw1 => k0_hw1.2.2.2.1
theorem k0_dev196_lt : ∀ (v0 : BitVec 32) (k0_hw1 : k0_chk1 v0), (k0_dev196 v0) < nD := fun v0 k0_hw1 => k0_hw1.2.2.2.2.1
theorem k0_dev198_lt : ∀ (v0 : BitVec 32) (k0_hw1 : k0_chk1 v0), (k0_dev198 v0) < nD := fun v0 k0_hw1 => k0_hw1.2.2.2.2.2.1
theorem k0_dev199_lt : ∀ (v0 : BitVec 32) (k0_hw1 : k0_chk1 v0), (k0_dev199 v0) < nD := fun v0 k0_hw1 => k0_hw1.2.2.2.2.2.2.1
theorem k0_dev201_lt : ∀ (v0 : BitVec 32) (k0_hw1 : k0_chk1 v0), (k0_dev201 v0) < nD := fun v0 k0_hw1 => k0_hw1.2.2.2.2.2.2.2.1
theorem k0_dev204_lt : ∀ (v0 : BitVec 32) (k0_hw1 : k0_chk1 v0), (k0_dev204 v0) < nD := fun v0 k0_hw1 => k0_hw1.2.2.2.2.2.2.2.2.1
theorem k0_dev206_lt : ∀ (v0 : BitVec 32) (k0_hw1 : k0_chk1 v0), (k0_dev206 v0) < nD := fun v0 k0_hw1 => k0_hw1.2.2.2.2.2.2.2.2.2.1
theorem k0_dev207_lt : ∀ (v0 : BitVec 32) (k0_hw1 : k0_chk1 v0), (k0_dev207 v0) < nD := fun v0 k0_hw1 => k0_hw1.2.2.2.2.2.2.2.2.2.2.1
theorem k0_dev209_lt : ∀ (v0 : BitVec 32) (k0_hw1 : k0_chk1 v0), (k0_dev209 v0) < nD := fun v0 k0_hw1 => k0_hw1.2.2.2.2.2.2.2.2.2.2.2.1
theorem k0_dev212_lt : ∀ (v0 : BitVec 32) (k0_hw1 : k0_chk1 v0), (k0_dev212 v0) < nD := fun v0 k0_hw1 => k0_hw1.2.2.2.2.2.2.2.2.2.2.2.2.1
theorem k0_dev214_lt : ∀ (v0 : BitVec 32) (k0_hw1 : k0_chk1 v0), (k0_dev214 v0) < nD := fun v0 k0_hw1 => k0_hw1.2.2.2.2.2.2.2.2.2.2.2.2.2.1
theorem k0_dev215_lt : ∀ (v0 : BitVec 32) (k0_hw1 : k0_chk1 v0), (k0_dev215 v0) < nD := fun v0 k0_hw1 => k0_hw1.2.2.2.2.2.2.2.2.2.2.2.2.2.2.1
theorem k0_dev217_lt : ∀ (v0 : BitVec 32) (k0_hw1 : k0_chk1 v0), (k0_dev217 v0) < nD := fun v0 k0_hw1 => k0_hw1.2.2.2.2.2.2.2.2.2.2.2.2.2.2.2.1
theorem k0_dev220_lt : ∀ (v0 : BitVec 32) (k0_hw1 : k0_chk1 v0), (k0_dev220 v0) < nD := fun v0 k0_hw1 => k0_hw1.2.2.2.2.2.2.2.2.2.2.2.2.2.2.2.2.1
theorem k0_dev222_lt : ∀ (v0 : BitVec 32) (k0_hw1 : k0_chk1 v0), (k0_dev222 v0) < nD := fun v0 k0_hw1 => k0_hw1.2.2.2.2.2.2.2.2.2.2.2.2.2.2.2.2.2.1
theorem k0_dev223_lt : ∀ (v0 : BitVec 32) (k0_hw1 : k0_chk1 v0), (k0_dev223 v0) < nD := fun v0 k0_hw1 => k0_hw1.2.2.2.2.2.2.2.2.2.2.2.2.2.2.2.2.2.2.1
theorem k0_dev225_lt : ∀ (v0 : BitVec 32) (k0_hw1 : k0_chk1 v0), (k0_dev225 v0) < nD := fun v0 k0_hw1 => k0_hw1.2.2.2.2.2.2.2.2.2.2.2.2.2.2.2.2.2.2.2.1
theorem k0_dev228_lt : ∀ (v0 : BitVec 32) (k0_hw1 : k0_chk1 v0), (k0_dev228 v0) < nD := fun v0 k0_hw1 => k0_hw1.2.2.2.2.2.2.2.2.2.2.2.2.2.2.2.2.2.2.2.2.1
theorem k0_dev230_lt : ∀ (v0 : BitVec 32) (k0_hw1 : k0_chk1 v0), (k0_dev230 v0) < nD := fun v0 k0_hw1 => k0_hw1.2.2.2.2.2.2.2.2.2.2.2.2.2.2.2.2.2.2.2.2.2.1
theorem k0_dev231_lt : ∀ (v0 : BitVec 32) (k0_hw1 : k0_chk1 v0), (k0_dev231 v0) < nD := fun v0 k0_hw1 => k0_hw1.2.2.2.2.2.2.2.2.2.2.2.2.2.2.2.2.2.2.2.2.2.2.1
theorem k0_dev233_lt : ∀ (v0 : BitVec 32) (k0_hw1 : k0_chk1 v0), (k0_dev233 v0) < nD := fun v0 k0_hw1 => k0_hw1.2.2.2.2.2.2.2.2.2.2.2.2.2.2.2.2.2.2.2.2.2.2.2.1
theorem k0_dev236_lt : ∀ (v0 : BitVec 32) (k0_hw1 : k0_chk1 v0), (k0_dev236 v0) < nD := fun v0 k0_hw1 => k0_hw1.2.2.2.2.2.2.2.2.2.2.2.2.2.2.2.2.2.2.2.2.2.2.2.2.1
theorem k0_dev238_lt : ∀ (v0 : BitVec 32) (k0_hw1 : k0_chk1 v0), (k0_dev238 v0) < nD := fun v0 k0_hw1 => k0_hw1.2.2.2.2.2.2.2.2.2.2.2.2.2.2.2.2.2.2.2.2.2.2.2.2.2.1
theorem k0_dev241_lt : ∀ (v0 : BitVec 32) (k0_hw1 : k0_chk1 v0), (k0_dev241 v0) < nD := fun v0 k0_hw1 => k0_hw1.2.2.2.2.2.2.2.2.2.2.2.2.2.2.2.2.2.2.2.2.2.2.2.2.2.2.1
theorem k0_dev242_lt : ∀ (v0 : BitVec 32) (k0_hw1 : k0_chk1 v0), (k0_dev242 v0) < nD := fun v0 k0_hw1 => k0_hw1.2.2.2.2.2.2.2.2.2.2.2.2.2.2.2.2.2.2.2.2.2.2.2.2.2.2.2

def k0_off63 (v4560 : BitVec 32) : Fin 2 → Nat :=
  let c128_i32_5023 : BitVec 32 := 128#32
  let v4562 : BitVec 32 := Scalar.muli v4560 c128_i32_5023
  let v4563 : Index := Scalar.indexCast v4562
  let c0_5024 : Index := 0#32
  ![v4563.toNat, 0]

def k0_chk65 (v4560 : BitVec 32) : Prop :=
  (∀ a, (k0_off63 v4560) a + S128x128.size a ≤ S4096x128.size a)
theorem k0_off63_inb : ∀ (v4560 : BitVec 32) (k0_hw65 : k0_chk65 v4560), ∀ a, (k0_off63 v4560) a + S128x128.size a ≤ S4096x128.size a := fun v4560 k0_hw65 => k0_hw65

def k0_off64 (v4561 : BitVec 32) : Fin 2 → Nat :=
  let c128_i32_5025 : BitVec 32 := 128#32
  let v4567 : BitVec 32 := Scalar.muli v4561 c128_i32_5025
  let v4568 : Index := Scalar.indexCast v4567
  let c0_5026 : Index := 0#32
  ![v4568.toNat, 0]

def k0_chk66 (v4561 : BitVec 32) : Prop :=
  (∀ a, (k0_off64 v4561) a + S128x128.size a ≤ S4096x128.size a)
theorem k0_off64_inb : ∀ (v4561 : BitVec 32) (k0_hw66 : k0_chk66 v4561), ∀ a, (k0_off64 v4561) a + S128x128.size a ≤ S4096x128.size a := fun v4561 k0_hw66 => k0_hw66

abbrev stage0_0 : Fin 1 → Memref sig .tc .vmem S4096x128 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S32 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S32 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e5m2⟩
  | .local _ .vmem, ⟨1, _⟩ => ⟨S4096x2048, .fp8e5m2⟩
  | .local _ .vmem, ⟨2, _⟩ => ⟨S1, .f32⟩
  | .local _ .vmem, ⟨3, _⟩ => ⟨S1, .f32⟩
  | .local _ .vmem, ⟨4, _⟩ => ⟨S4096x2048, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Program.lean ====
/- The kernel's body written as a loop: a prologue, thirty-two rounds of four lanes, and an epilogue. The printed body
   is the same program with the rounds written out one after another. -/
module

public import proofs.«01_k».proof.Proof.Gen.KernelIdeal.Points
public import proofs.«01_k».proof.Proof.Gen.KernelIdeal.Skeleton

@[expose] public section

noncomputable section

namespace Cert.Proof

open Idealize.ShloMosaic Idealize.SL.Sem
open Cert.KernelIdeal Cert.KernelIdeal.Gen

variable {F : FTy → Type} [FloatOps F]

/-! ## The lanes' buffers and semaphores -/

/-- The buffer lane `l` sends from: two slots. -/
def sendBuf : Fin 4 → Memref sig .tc .vmem S2x128x512 .bf16
  | 0 => Memref.whole cc0_scratch0
  | 1 => Memref.whole cc0_scratch5
  | 2 => Memref.whole cc0_scratch10
  | 3 => Memref.whole cc0_scratch15

/-- The buffer lane `l` receives into: two slots. -/
def recvBuf : Fin 4 → Memref sig .tc .vmem S2x128x512 .bf16
  | 0 => Memref.whole cc0_scratch1
  | 1 => Memref.whole cc0_scratch6
  | 2 => Memref.whole cc0_scratch11
  | 3 => Memref.whole cc0_scratch16

/-- The semaphores counting lane `l`'s copies out, one per slot. -/
def sendSems : Fin 4 → DmaSems sig S2
  | 0 => cc0_scratch2
  | 1 => cc0_scratch7
  | 2 => cc0_scratch12
  | 3 => cc0_scratch17

/-- The semaphores counting lane `l`'s arrivals, one per slot. -/
def recvSems : Fin 4 → DmaSems sig S2
  | 0 => cc0_scratch3
  | 1 => cc0_scratch8
  | 2 => cc0_scratch13
  | 3 => cc0_scratch18

/-- The semaphore on which lane `l` is told that the slot it sends to is free. -/
def creditSem : Fin 4 → Sem sig
  | 0 => cc0_scratch4.sem
  | 1 => cc0_scratch9.sem
  | 2 => cc0_scratch14.sem
  | 3 => cc0_scratch19.sem

theorem sendBuf_whole : ∀ l, (sendBuf l).IsWhole
  | 0 => Memref.isWhole_whole _
  | 1 => Memref.isWhole_whole _
  | 2 => Memref.isWhole_whole _
  | 3 => Memref.isWhole_whole _

theorem recvBuf_whole : ∀ l, (recvBuf l).IsWhole
  | 0 => Memref.isWhole_whole _
  | 1 => Memref.isWhole_whole _
  | 2 => Memref.isWhole_whole _
  | 3 => Memref.isWhole_whole _

/-- Where a buffer's slot `p` starts. -/
abbrev slotOff (p : Fin 2) : Fin 3 → ℕ := ![p.val, 0, 0]

theorem slot_inb : ∀ (p : Fin 2) (a : Fin 3), slotOff p a + S1x128x512.size a ≤ S2x128x512.size a := by decide

/-- The rectangle of a buffer's slot `p`. -/
abbrev slotRect (p : Fin 2) : Rect S2x128x512 := Rect.unit (s := S2x128x512) (slotOff p) S1x128x512.size (slot_inb p)

theorem slot_packed : ∀ p, (slotRect p).PackedRows (EltTy.packing .bf16)
  | 0 => packedbf16_S2x128x512_S1x128x512_0_0_0
  | 1 => packedbf16_S2x128x512_S1x128x512_1_0_0

theorem slot_words : ∀ p, (slotRect p).WholeWords (EltTy.packing .bf16)
  | 0 => wordsbf16_S2x128x512_S1x128x512_0_0_0
  | 1 => wordsbf16_S2x128x512_S1x128x512_1_0_0

theorem sem_inb : ∀ (p : Fin 2) (a : Fin 1), (![p.val] : Fin 1 → ℕ) a + S1.size a ≤ S2.size a := by decide

/-- Slot `p` of a two-slot buffer as a matrix. -/
abbrev slot (m : Memref sig .tc .vmem S2x128x512 .bf16) (p : Fin 2) : Memref sig .tc .vmem S128x512 .bf16 :=
  (m.slice (slotRect p) (fun _ => rfl)).squeeze S128x512 squeezes_S1x128x512_S128x512

/-- The one semaphore of slot `p`. -/
abbrev slotSem (m : DmaSems sig S2) (p : Fin 2) : DmaSem sig :=
  ((m.slice (Rect.unit (s := S2) ![p.val] S1.size (sem_inb p))).squeeze S_ squeezes_S1_S_).sem

/-- The slot that round `s` uses. -/
def par (s : ℕ) : Fin 2 := ⟨s % 2, Nat.mod_lt s Nat.two_pos⟩

/-! ## The values the body computes -/

/-- The product of a chunk of rows and half of the columns of the weights. -/
def prod (x : Vec F S128x128 .fp8e5m2) (w : Vec F S128x1024 .fp8e5m2) : FVec F S128x1024 .f32 :=
  k0_pay14 (k0_pay1 w) x

/-- A lane's half of such a product. -/
def half : Fin 4 → FVec F S128x1024 .f32 → FVec F S128x512 .f32
  | 0, v => extractStridedSlice S128x512 ![0, 0] v slices_S128x1024_o0_0_S128x512
  | 1, v => extractStridedSlice S128x512 ![0, 512] v slices_S128x1024_o0_512_S128x512
  | 2, v => extractStridedSlice S128x512 ![0, 0] v slices_S128x1024_o0_0_S128x512
  | 3, v => extractStridedSlice S128x512 ![0, 512] v slices_S128x1024_o0_512_S128x512

/-- What lane `l` adds, from the two chunks of rows and the two halves of the weights: lanes 0 and 1 take the first
    chunk and the first half, lanes 2 and 3 the second ones. -/
def part (x₁ x₂ : Vec F S128x128 .fp8e5m2) (w₁ w₂ : Vec F S128x1024 .fp8e5m2) : Fin 4 → FVec F S128x512 .f32
  | 0 => half 0 (prod x₁ w₁)
  | 1 => half 1 (prod x₁ w₁)
  | 2 => half 2 (prod x₂ w₂)
  | 3 => half 3 (prod x₂ w₂)

/-- What a lane sends first. -/
def firstVal (p : FVec F S128x512 .f32) : FVec F S1x128x512 .bf16 :=
  shapeCast S1x128x512 (truncf .bf16 p bitsLt_bf16_f32) shapeCasts_S128x512_S1x128x512

/-- What a lane sends after receiving `r`. -/
def nextVal (p : FVec F S128x512 .f32) (r : Vec F S1x128x512 .bf16) : FVec F S1x128x512 .bf16 :=
  shapeCast S1x128x512 (addf (truncf .bf16 p bitsLt_bf16_f32) (shapeCast S128x512 r shapeCasts_S1x128x512_S128x512))
    shapeCasts_S128x512_S1x128x512

/-- What a lane stores at the end, from its own part, what it received and the scale. -/
def lastVal (g : F .f32) (p : FVec F S128x512 .f32) (r : Vec F S1x128x512 .bf16) : FVec F S128x512 .f32 :=
  k0_pay375 g p r

/-! ## The body as a loop -/

/-- The programs of the body. -/
abbrev BodyProg (F : FTy → Type) := Prog (TpuEff nD τ sig (Elt F) Λ₀ .tc) PUnit

/-- A test on a device word that the body makes before naming the device: what its checks ask, one signal at a time. -/
abbrev devOf (v : BitVec 32) (h : k0_dev1 v < nD) : Dev nD := ⟨k0_dev1 v, h⟩

/-- The device downstream of lane `l`: the right neighbour for lanes 0 and 1, the left one for 2 and 3. -/
def downOf (a b : Dev nD) : Fin 4 → Dev nD
  | 0 => b | 1 => b | 2 => a | 3 => a

/-- The device upstream of lane `l`. -/
def upOf (a b : Dev nD) : Fin 4 → Dev nD
  | 0 => a | 1 => a | 2 => b | 3 => b

/-- Send slot `p` of lane `l`. -/
abbrev sslot (l : Fin 4) (p : Fin 2) := slot (sendBuf l) p
/-- Receive slot `p` of lane `l`. -/
abbrev rslot (l : Fin 4) (p : Fin 2) := slot (recvBuf l) p
/-- The semaphore of send slot `p` of lane `l`. -/
abbrev ssem (l : Fin 4) (p : Fin 2) := slotSem (sendSems l) p
/-- The semaphore of receive slot `p` of lane `l`. -/
abbrev rsem (l : Fin 4) (p : Fin 2) := slotSem (recvSems l) p

theorem sslot_words (l : Fin 4) (p : Fin 2) : (sslot l p).view.WordExact :=
  ((sendBuf_whole l).wordExact_slice rfl _ (slot_words p)).reshape _ _
theorem rslot_words (l : Fin 4) (p : Fin 2) : (rslot l p).view.WordExact :=
  ((recvBuf_whole l).wordExact_slice rfl _ (slot_words p)).reshape _ _

/-- Wait for an arrival in slot `p`, read it. -/
def takeP (l : Fin 4) (p : Fin 2) (k : Vec F S1x128x512 .bf16 → BodyProg F) : BodyProg F :=
  .op (.waitDma2 (rsem l p) (sslot l p) (rslot l p) (sslot_words l p) (rslot_words l p)) fun _ =>
  .op (.load (recvBuf l) (slotRect p).toLoadRect (View.loadsAt_vmem h_S1x128x512)) k

/-- Tell the device upstream that a receive slot is free. -/
def creditP (up : Dev nD) (l : Fin 4) (k : BodyProg F) : BodyProg F :=
  .op (.semSignal (up, .tc) (creditSem l) 1) fun _ => k

/-- Wait until the copy out of send slot `p` is over. -/
def sentP (l : Fin 4) (p : Fin 2) (k : BodyProg F) : BodyProg F :=
  .op (.waitDma2 (ssem l p) (rslot l p) (sslot l p) (rslot_words l p) (sslot_words l p)) fun _ => k

/-- Store `v` in send slot `p`. -/
def putP (l : Fin 4) (p : Fin 2) (v : FVec F S1x128x512 .bf16) (k : BodyProg F) : BodyProg F :=
  .op (.load (sendBuf l) (slotRect p).toLoadRect (View.loadsAt_vmem h_S1x128x512)) fun _ =>
  .op (.store (sendBuf l) (slotRect p) v Finset.univ
    (View.stores_vmem h_S1x128x512 ((sendBuf_whole l).storeExact_slice rfl _ (slot_packed p)) (fun _ => rfl)) (.inl rfl))
    fun _ => k

/-- Wait until the slot downstream is free. -/
def grantP (l : Fin 4) (k : BodyProg F) : BodyProg F :=
  .op (.semWait (creditSem l) 1) fun _ => k

/-- Start the copy of send slot `p` to the receive slot `p` downstream. -/
def copyP (down : Dev nD) (l : Fin 4) (p : Fin 2) (k : BodyProg F) : BodyProg F :=
  .op (.enqueueDma (sslot l p) (.remote (Dev.tc down) (rslot l p) (.dma (ssem l p))) (.dma (rsem l p))
    (sslot_words l p) (rslot_words l p) ⟨⟨rfl, Or.inl rfl⟩, trivial⟩) fun _ => k

theorem x_inb (s : Fin 32) (a : Fin 1) : (![s.val] : Fin 1 → ℕ) a + S1.size a ≤ S32.size a := by
  revert s a; decide

/-- Read round `s`'s two chunk numbers, check them, and read the two chunks of rows. -/
def chunksP (t : Fin cfg0.N) (s : Fin 32) (k : Vec F S128x128 .fp8e5m2 → Vec F S128x128 .fp8e5m2 → BodyProg F) :
    BodyProg F :=
  smemLoadElt (st0_6 t) (Rect.unit (s := S32) ![s.val] S1.size (x_inb s)) (View.loads_smem_one rfl numel1_S1)
    (Shape.Idx.first (numel1_S1.symm ▸ Nat.one_pos)) fun c₁ =>
  .op (.assume (k0_chk3 c₁) (k0_chk3.dec c₁)) fun h₁ =>
  smemLoadElt (st0_7 t) (Rect.unit (s := S32) ![s.val] S1.size (x_inb s)) (View.loads_smem_one rfl numel1_S1)
    (Shape.Idx.first (numel1_S1.symm ▸ Nat.one_pos)) fun c₂ =>
  .op (.assume (k0_chk3 c₂) (k0_chk3.dec c₂)) fun h₂ =>
  .op (.load (st0_0 t) (Rect.unit (s := S4096x128) (k0_off1 c₁) S128x128.size h₁.down).toLoadRect
    (View.loadsAt_vmem h_S128x128)) fun x₁ =>
  .op (.load (st0_0 t) (Rect.unit (s := S4096x128) (k0_off1 c₂) S128x128.size h₂.down).toLoadRect
    (View.loadsAt_vmem h_S128x128)) fun x₂ =>
  k x₁ x₂

/-- Lane `l` in round 0. -/
def lane0P (down : Dev nD) (l : Fin 4) (p : FVec F S128x512 .f32) (k : BodyProg F) : BodyProg F :=
  putP l 0 (firstVal p) <| copyP down l 0 k

/-- Lane `l` in round 1. -/
def lane1P (down up : Dev nD) (l : Fin 4) (p : FVec F S128x512 .f32) (k : BodyProg F) : BodyProg F :=
  takeP l 0 fun r => creditP up l <| putP l 1 (nextVal p r) <| copyP down l 1 k

/-- Lane `l` in a round `s` from 2 to 29, in slot `q` (`o` the other one). -/
def laneMidP (down up : Dev nD) (l : Fin 4) (o q : Fin 2) (p : FVec F S128x512 .f32) (k : BodyProg F) : BodyProg F :=
  takeP l o fun r => creditP up l <| sentP l q <| putP l q (nextVal p r) <| grantP l <| copyP down l q k

/-- Lane `l` in round 30. -/
def lane30P (down : Dev nD) (l : Fin 4) (p : FVec F S128x512 .f32) (k : BodyProg F) : BodyProg F :=
  takeP l 1 fun r => sentP l 0 <| putP l 0 (nextVal p r) <| grantP l <| copyP down l 0 k

/-- Where lane `l`'s columns start. -/
def colOff : Fin 4 → Fin 2 → ℕ
  | 0 => ![0, 0] | 1 => ![0, 512] | 2 => ![0, 1024] | 3 => ![0, 1536]

theorem col_inb : ∀ (l : Fin 4) (a : Fin 2), colOff l a + S128x512.size a ≤ S128x2048.size a := by decide

/-- Lane `l`'s columns of the result. -/
abbrev colRect (l : Fin 4) : Rect S128x2048 := Rect.unit (s := S128x2048) (colOff l) S128x512.size (col_inb l)

/-- Lane `l` in round 31: add what came last, scale, and store the lane's columns of the result. -/
def lane31P (t : Fin cfg0.N) (g : F .f32) (l : Fin 4) (p : FVec F S128x512 .f32) (k : BodyProg F) : BodyProg F :=
  takeP l 0 fun r =>
  .op (.load (st0_8 t) (colRect l).toLoadRect (View.loadsAt_vmem h_S128x512)) fun _ =>
  .op (.store (st0_8 t) (colRect l) (lastVal g p r) Finset.univ (View.stores_vmem_bits_univ h_S128x512 rfl) (.inl rfl))
    fun _ => k

/-- The four lanes one after another. -/
def lanesP (f : Fin 4 → BodyProg F → BodyProg F) (k : BodyProg F) : BodyProg F := f 0 <| f 1 <| f 2 <| f 3 k

/-- The middle rounds, `n` of them left: round `30 - n` next. -/
def midP (t : Fin cfg0.N) (a b : Dev nD) (w₁ w₂ : Vec F S128x1024 .fp8e5m2) (k : BodyProg F) (n : ℕ) : BodyProg F :=
  Nat.rec k (fun n ih =>
    chunksP t (Fin.ofNat 32 (29 - n)) fun x₁ x₂ =>
    lanesP (fun l => laneMidP (downOf a b l) (upOf a b l) l (par (28 - n)) (par (29 - n)) (part x₁ x₂ w₁ w₂ l)) ih) n

/-- The waits at the end: the last two copies out of each lane. -/
def drainP (k : BodyProg F) : BodyProg F :=
  lanesP (fun l k => sentP l 1 <| sentP l 0 k) k

/-- All thirty-two rounds. -/
def roundsP (t : Fin cfg0.N) (a b : Dev nD) (w₁ w₂ : Vec F S128x1024 .fp8e5m2) (g : F .f32) : BodyProg F :=
  chunksP t 0 fun x₁ x₂ => lanesP (fun l => lane0P (downOf a b l) l (part x₁ x₂ w₁ w₂ l)) <|
  chunksP t 1 fun x₁ x₂ => lanesP (fun l => lane1P (downOf a b l) (upOf a b l) l (part x₁ x₂ w₁ w₂ l)) <|
  midP t a b w₁ w₂ (n := 28) <|
  chunksP t 30 fun x₁ x₂ => lanesP (fun l => lane30P (downOf a b l) l (part x₁ x₂ w₁ w₂ l)) <|
  chunksP t 31 fun x₁ x₂ => lanesP (fun l => lane31P t g l (part x₁ x₂ w₁ w₂ l)) <|
  drainP (.ret ⟨⟩)

/-- The barrier every device passes before it sends. -/
abbrev barSem : Sem sig := (SemArray.scalar (sig.barrier 0 rfl) : Sems sig S_).sem

/-- The body: read the neighbours, meet them, read the weights and the scales, run the rounds. -/
def bodyP (t : Fin cfg0.N) : BodyProg F :=
  smemLoadElt (st0_4 t) (Rect.unit (s := S1) ![0] S1.size inb_S1_S1_0) (View.loads_smem_one rfl numel1_S1)
    (Shape.Idx.first (numel1_S1.symm ▸ Nat.one_pos)) fun v₀ =>
  .op (.assume (k0_chk1 v₀) (k0_chk1.dec v₀)) fun h₀ =>
  smemLoadElt (st0_5 t) (Rect.unit (s := S1) ![0] S1.size inb_S1_S1_0) (View.loads_smem_one rfl numel1_S1)
    (Shape.Idx.first (numel1_S1.symm ▸ Nat.one_pos)) fun v₁ =>
  .op (.assume (k0_chk2 v₁) (k0_chk2.dec v₁)) fun h₁ =>
  .op (.semSignal (devOf v₀ (k0_dev1_lt v₀ h₀.down), .tc) barSem 1) fun _ =>
  .op (.semSignal (devOf v₁ (k0_dev2_lt v₁ h₁.down), .tc) barSem 1) fun _ =>
  .op (.semWait barSem 2) fun _ =>
  .op (.load (st0_1 t) (Rect.unit (s := S128x2048) ![0, 0] S128x1024.size inb_S128x2048_S128x1024_0_0).toLoadRect
    (View.loadsAt_vmem h_S128x1024)) fun w₁ =>
  .op (.load (st0_1 t) (Rect.unit (s := S128x2048) ![0, 1024] S128x1024.size
    inb_S128x2048_S128x1024_0_1024).toLoadRect (View.loadsAt_vmem h_S128x1024)) fun w₂ =>
  .op (.load (st0_2 t) (Rect.unit (s := S1) ![0] S1.size inb_S1_S1_0).toLoadRect (View.loadsAt_vmem h_S1)) fun a =>
  .op (.load (st0_3 t) (Rect.unit (s := S1) ![0] S1.size inb_S1_S1_0).toLoadRect (View.loadsAt_vmem h_S1)) fun b =>
  roundsP t (devOf v₀ (k0_dev1_lt v₀ h₀.down)) (devOf v₁ (k0_dev2_lt v₁ h₁.down)) w₁ w₂ (k0_pay3 a b)

end Cert.Proof

end
-- ==== Proof.Cells.lean ====
/- The ring's geography, the values each device sends, and the cells of the protocol. -/
module

public import proofs.«01_k».proof.Proof.Program
public import Idealize.ShloMosaic.Lib.Release
public import Idealize.ShloMosaic.Lib.Tactic
public import Idealize.ShloMosaic.Lib.Pipeline.RegionTalk
public import Idealize.ShloMosaic.Lib.Pipeline.Value

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-! ## The ring -/

/-- The device at each place of the ring. -/
def ring : Fin 32 → Fin 32 :=
  ![0, 8, 16, 24, 27, 19, 11, 3, 4, 12, 20, 28, 31, 23, 15, 7, 6, 14, 22, 30, 29, 21, 13, 5, 2, 10, 18, 26, 25, 17, 9, 1]

/-- The place of each device on the ring. -/
def place : Fin 32 → Fin 32 :=
  ![0, 31, 24, 7, 8, 23, 16, 15, 1, 30, 25, 6, 9, 22, 17, 14, 2, 29, 26, 5, 10, 21, 18, 13, 3, 28, 27, 4, 11, 20, 19, 12]

/-- The device one place before `c` on the ring. -/
def leftOf (c : Dev nD) : Dev nD := ring (place c - 1)
/-- The device one place after `c` on the ring. -/
def rightOf (c : Dev nD) : Dev nD := ring (place c + 1)

/-- The device lane `l` of `c` sends to. -/
def down (l : Fin 4) (c : Dev nD) : Dev nD := downOf (leftOf c) (rightOf c) l
/-- The device lane `l` of `c` receives from. -/
def up (l : Fin 4) (c : Dev nD) : Dev nD := upOf (leftOf c) (rightOf c) l

theorem right_left : ∀ c, rightOf (leftOf c) = c := by decide +kernel
theorem left_right : ∀ c, leftOf (rightOf c) = c := by decide +kernel
theorem up_down : ∀ l c, up l (down l c) = c := by decide +kernel
theorem down_up : ∀ l c, down l (up l c) = c := by decide +kernel

/-- The chunk of rows that lanes 0 and 1 of `c` take in round `s`. -/
def cwChunk (c : Dev nD) (s : Fin 32) : Fin 32 := ring (place c - 1 - s)
/-- The chunk of rows that lanes 2 and 3 of `c` take in round `s`. -/
def ccwChunk (c : Dev nD) (s : Fin 32) : Fin 32 := ring (place c + 1 + s)

/-- A device or chunk number as the word the tables hold. -/
abbrev word (c : Fin 32) : BitVec 32 := BitVec.ofNat 32 c.val

theorem chk1_word : ∀ c : Fin 32, k0_chk1 (word c) := by decide +kernel
theorem chk2_word : ∀ c : Fin 32, k0_chk2 (word c) := by decide +kernel
theorem chk3_word : ∀ c : Fin 32, k0_chk3 (word c) := by decide +kernel
theorem dev1_word : ∀ c : Fin 32, k0_dev1 (word c) = c.val := by decide +kernel

theorem devOf_word (c : Fin 32) (h : k0_dev1 (word c) < nD) : devOf (word c) h = c := Fin.ext (dev1_word c)

/-! ## The inputs and the values sent -/

/-- What every device is given: its columns of `x`, its rows of `w` and the two scales. -/
structure Ins (F : FTy → Type) where
  x : Dev nD → Vec F S4096x128 .fp8e5m2
  w : Dev nD → Vec F S128x2048 .fp8e5m2
  sx : Dev nD → Vec F S1 .f32
  sw : Dev nD → Vec F S1 .f32

variable {F : FTy → Type} [FloatOps F]

/-- A chunk of 128 rows. -/
def chunk (x : Vec F S4096x128 .fp8e5m2) (j : Fin 32) : Vec F S128x128 .fp8e5m2 := fun i =>
  x ((Rect.unit (s := S4096x128) (k0_off1 (word j)) S128x128.size (chk3_word j)).toLoadRect.idx i)

/-- The left half of the columns. -/
def leftHalf (w : Vec F S128x2048 .fp8e5m2) : Vec F S128x1024 .fp8e5m2 := fun i =>
  w ((Rect.unit (s := S128x2048) ![0, 0] S128x1024.size inb_S128x2048_S128x1024_0_0).toLoadRect.idx i)
/-- The right half of the columns. -/
def rightHalf (w : Vec F S128x2048 .fp8e5m2) : Vec F S128x1024 .fp8e5m2 := fun i =>
  w ((Rect.unit (s := S128x2048) ![0, 1024] S128x1024.size inb_S128x2048_S128x1024_0_1024).toLoadRect.idx i)

namespace Ins

variable (I : Ins F)

/-- What lane `l` of device `c` adds in round `s`. -/
def part (l : Fin 4) (c : Dev nD) (s : ℕ) : FVec F S128x512 .f32 :=
  Cert.Proof.part (chunk (I.x c) (cwChunk c (Fin.ofNat 32 s))) (chunk (I.x c) (ccwChunk c (Fin.ofNat 32 s)))
    (leftHalf (I.w c)) (rightHalf (I.w c)) l

/-- What lane `l` of device `c` sends in round `s`: its own part, added to what its upstream neighbour sent the round
    before. -/
def val (l : Fin 4) : ℕ → Dev nD → FVec F S1x128x512 .bf16
  | 0, c => firstVal (I.part l c 0)
  | s + 1, c => nextVal (I.part l c (s + 1)) (val l s (up l c))

/-- The product of the scales, as device `c` forms it. -/
def scale (c : Dev nD) : F .f32 := k0_pay3 (I.sx c) (I.sw c)

/-- What device `c` stores in lane `l`'s columns of its result. -/
def out (l : Fin 4) (c : Dev nD) : FVec F S128x512 .f32 := lastVal (I.scale c) (I.part l c 31) (I.val l 30 (up l c))

end Ins

/-! ## The cells -/

/-- What a semaphore is for. -/
inductive Kind
  | bar
  | credit (l : Fin 4)
  | send (l : Fin 4) (p : Fin 2)
  | recv (l : Fin 4) (p : Fin 2)
  | other
  deriving DecidableEq

/-- A pair of a lane and a slot, each pair once. -/
def slots : List (Fin 4 × Fin 2) := [(0, 0), (0, 1), (1, 0), (1, 1), (2, 0), (2, 1), (3, 0), (3, 1)]

/-- What each semaphore is for. -/
def kindOf (sm : SemLoc sig) : Kind :=
  if sm = .reg barSem then .bar
  else match [0, 1, 2, 3].find? fun l : Fin 4 => decide (sm = .reg (creditSem l)) with
    | some l => .credit l
    | none => match slots.find? fun a => decide (sm = .dma (ssem a.1 a.2)) with
      | some a => .send a.1 a.2
      | none => match slots.find? fun a => decide (sm = .dma (rsem a.1 a.2)) with
        | some a => .recv a.1 a.2
        | none => .other

theorem kind_bar : kindOf (.reg barSem) = .bar := by decide +kernel
theorem kind_credit : ∀ l, kindOf (.reg (creditSem l)) = .credit l := by decide +kernel
theorem kind_send : ∀ l p, kindOf (.dma (ssem l p)) = .send l p := by decide +kernel
theorem kind_recv : ∀ l p, kindOf (.dma (rsem l p)) = .recv l p := by decide +kernel

abbrev barCell (c : Dev nD) : GSem nD τ sig := ((c : Thread nD τ), .reg barSem)
abbrev creditCell (l : Fin 4) (c : Dev nD) : GSem nD τ sig := ((c : Thread nD τ), .reg (creditSem l))
abbrev sendCell (l : Fin 4) (p : Fin 2) (c : Dev nD) : GSem nD τ sig := ((c : Thread nD τ), .dma (ssem l p))
abbrev recvCell (l : Fin 4) (p : Fin 2) (c : Dev nD) : GSem nD τ sig := ((c : Thread nD τ), .dma (rsem l p))

/-- The units one copy moves a semaphore by. -/
abbrev N : ℕ := (rslot 0 0).view.dmaCredit
theorem N_pos : 0 < N := View.dmaCredit_pos _ (by decide)

theorem credit_rslot : ∀ l p, (rslot l p).view.dmaCredit = N
  | 0, _ => rfl | 1, _ => rfl | 2, _ => rfl | 3, _ => rfl
theorem credit_sslot : ∀ l p, (sslot l p).view.dmaCredit = N
  | 0, _ => rfl | 1, _ => rfl | 2, _ => rfl | 3, _ => rfl

/-! ## The ghost state -/

/-- A receive slot, as the name of an exclusive resource: device, lane, slot. -/
abbrev Key : Type := Dev nD × Fin 4 × Fin 2

abbrev U₂ : Type := URounds (GSem nD τ sig) ℕ × Release.USlots Key
abbrev UU : Type := UR sig nD τ × U₂

abbrev M₀ (F : FTy → Type) : Type := MT nD τ sig ℕ (Elt F) ℕ UU ℕ

abbrev EP : Emb (UR sig nD τ) (M₀ F) := embL
abbrev ER : Emb (URounds (GSem nD τ sig) ℕ) (M₀ F) :=
  (Emb.inl : Emb (URounds (GSem nD τ sig) ℕ) U₂).trans (embR : Emb U₂ (M₀ F))
abbrev ES : Emb (Release.USlots Key) (M₀ F) :=
  (Emb.inr : Emb (Release.USlots Key) U₂).trans (embR : Emb U₂ (M₀ F))

local notation "𝕄" => M₀ F

/-! ## Slots -/

/-- Receive slot `p` of lane `l` on device `c`, at contents `f`. -/
abbrev rPts (l : Fin 4) (p : Fin 2) (c : Dev nD) (f : Buf (Elt F) ((rslot l p).view.loc (c : Thread nD τ))) : sProp 𝕄 :=
  (rslot l p).view.loc (c : Thread nD τ) ↦[(rslot l p).view.set]{fullShare} f
/-- Send slot `p` of lane `l` on device `c`, at contents `f`. -/
abbrev sPts (l : Fin 4) (p : Fin 2) (c : Dev nD) (f : Buf (Elt F) ((sslot l p).view.loc (c : Thread nD τ))) : sProp 𝕄 :=
  (sslot l p).view.loc (c : Thread nD τ) ↦[(sslot l p).view.set]{fullShare} f

/-- Receive slot `p` of lane `l` on device `c`, at any contents. -/
abbrev rAny (l : Fin 4) (p : Fin 2) (c : Dev nD) : sProp 𝕄 :=
  Release.slot ((rslot l p).view.loc (c : Thread nD τ)) (rslot l p).view.set
/-- Send slot `p` of lane `l` on device `c`, at any contents. -/
abbrev sAny (l : Fin 4) (p : Fin 2) (c : Dev nD) : sProp 𝕄 :=
  Release.slot ((sslot l p).view.loc (c : Thread nD τ)) (sslot l p).view.set

/-- What a load of receive slot `p` reads. -/
abbrev rRead (l : Fin 4) (p : Fin 2) (c : Dev nD) (f : Buf (Elt F) ((rslot l p).view.loc (c : Thread nD τ))) :
    Vec F S1x128x512 .bf16 := (recvBuf l).view.readAt (Elt F) (slotRect p).toLoadRect f
/-- What a load of send slot `p` reads. -/
abbrev sRead (l : Fin 4) (p : Fin 2) (c : Dev nD) (f : Buf (Elt F) ((sslot l p).view.loc (c : Thread nD τ))) :
    Vec F S1x128x512 .bf16 := (sendBuf l).view.readAt (Elt F) (slotRect p).toLoadRect f

/-- Receive slot `p` of lane `l` on device `c`, holding `v`. -/
def rHolds (l : Fin 4) (p : Fin 2) (c : Dev nD) (v : Vec F S1x128x512 .bf16) : sProp 𝕄 :=
  iprop(∃ f, ⌜rRead l p c f = v⌝ ∗ rPts l p c f)
/-- Send slot `p` of lane `l` on device `c`, holding `v`. -/
def sHolds (l : Fin 4) (p : Fin 2) (c : Dev nD) (v : Vec F S1x128x512 .bf16) : sProp 𝕄 :=
  iprop(∃ f, ⌜sRead l p c f = v⌝ ∗ sPts l p c f)

theorem rslot_set (l : Fin 4) (p : Fin 2) : (rslot l p).view.set = ((recvBuf l).access (slotRect p)).set := View.set_reshape _ _
theorem sslot_set (l : Fin 4) (p : Fin 2) : (sslot l p).view.set = ((sendBuf l).access (slotRect p)).set := View.set_reshape _ _

theorem rHolds_any (l : Fin 4) (p : Fin 2) (c : Dev nD) (v : Vec F S1x128x512 .bf16) : rHolds l p c v ⊢ (rAny l p c : sProp 𝕄) := by
  unfold rHolds rAny Release.slot
  iintro ⟨%f, -, H⟩; iexists f; iexact H

theorem rAny_exclusive (l : Fin 4) (p : Fin 2) (c : Dev nD) : iprop(rAny l p c ∗ rAny l p c) ⊢ (False : sProp 𝕄) :=
  Release.slot_slot_false (by
    rw [rslot_set]
    exact ⟨_, Finset.mem_map_of_mem _ (Finset.mem_univ (Shape.Idx.first (s := S1x128x512) (by decide)))⟩)

instance rHolds_storable (l : Fin 4) (p : Fin 2) (c : Dev nD) (v : Vec F S1x128x512 .bf16) :
    BI.Storable (upEmb : UEmb _ 𝕄) (rHolds l p c v) := by unfold rHolds; infer_instance

/-- After a copy the destination reads what the source did. -/
theorem copied_read (l : Fin 4) (p : Fin 2) (c d : Dev nD) (fs : Buf (Elt F) ((sslot l p).view.loc (c : Thread nD τ)))
    (fd : Buf (Elt F) ((rslot l p).view.loc (d : Thread nD τ))) :
    rRead l p d ((rslot l p).view.write (Elt F) fd ((sslot l p).view.read (Elt F) fs) Finset.univ) = sRead l p c fs := by
  have hr := fun f => Memref.read_squeeze_slice (Val := Elt F) (recvBuf l) (slotRect p) (fun _ => rfl)
    squeezes_S1x128x512_S128x512 shapeCasts_S1x128x512_S128x512 f
  have hs := fun f => Memref.read_squeeze_slice (Val := Elt F) (sendBuf l) (slotRect p) (fun _ => rfl)
    squeezes_S1x128x512_S128x512 shapeCasts_S1x128x512_S128x512 f
  have h := (hr _).symm.trans ((View.read_write_univ (v := (rslot l p).view) fd ((sslot l p).view.read (Elt F) fs)).trans (hs fs))
  funext i
  have := congrFun h ((Shape.reshapeEquiv shapeCasts_S1x128x512_S128x512).symm i)
  simpa only [shapeCast, Equiv.apply_symm_apply] using this

end Cert.Proof

end
-- ==== Proof.Protocol.lean ====
/- The protocol: for each semaphore who adds to it, how much, in what order, and what every addition hands over; the
   levels that order the waits.

   * barrier: one round of two signals, one from each neighbour. A signal says that the neighbour's receive slots are
     free and that its cells are open.
   * `recv l p`: round `r` is the copy of the upstream neighbour in round `2 r + p` of the kernel. It hands over the
     receive slot, holding what that neighbour sent.
   * `send l p`: round `r` is the device's own copy in round `2 r + p`. It hands the send slot back.
   * `credit l`: one round of 29 signals from the downstream neighbour, numbered 0 to 28. Signals may arrive out of
     order, so signal `n` says that what was sent in rounds `0` to `n` has been read and its slot is free again. -/
module

public import proofs.«01_k».proof.Proof.Cells
public import Mathlib.Algebra.BigOperators.Intervals
public import Mathlib.Tactic.Abel

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => M₀ F

/-! ## What the signals say -/

/-- What lane `l` of device `d` received in round `n` has been read: the slot was released for the next use and the
    cell's next round is open. -/
def fact (l : Fin 4) (d : Dev nD) (n : ℕ) : sProp 𝕄 :=
  iprop(Release.released ES (d, l, par n) (n / 2 + 2) ∗ reached ER (recvCell l (par n) d) (n / 2 + 1))

/-- The same of every round before `n`. -/
def facts (l : Fin 4) (d : Dev nD) (n : ℕ) : sProp 𝕄 := bigSep (Finset.range n) (fact l d)

/-- A receive slot is free for its first use and its cell is open. -/
def slotReady (d : Dev nD) (a : Fin 4 × Fin 2) : sProp 𝕄 :=
  iprop(Release.released ES (d, a.1, a.2) 1 ∗ reached ER (recvCell a.1 a.2 d) 0)

/-- All receive slots of device `d` are free and its cells are open. -/
def ready (d : Dev nD) : sProp 𝕄 :=
  iprop(bigSep Finset.univ (slotReady d) ∗ bigSep Finset.univ (fun l : Fin 4 => reached ER (creditCell l d) 0))

instance fact_persistent (l : Fin 4) (d : Dev nD) (n : ℕ) : BI.Persistent (fact l d n : sProp 𝕄) := by
  unfold fact; infer_instance
instance facts_persistent (l : Fin 4) (d : Dev nD) (n : ℕ) : BI.Persistent (facts l d n : sProp 𝕄) := by
  unfold facts; infer_instance
instance slotReady_persistent (d : Dev nD) (a : Fin 4 × Fin 2) : BI.Persistent (slotReady d a : sProp 𝕄) := by
  unfold slotReady; infer_instance
instance ready_persistent (d : Dev nD) : BI.Persistent (ready d : sProp 𝕄) := by
  unfold ready; infer_instance
instance fact_storable (l : Fin 4) (d : Dev nD) (n : ℕ) : BI.Storable (upEmb : UEmb _ 𝕄) (fact l d n) := by
  unfold fact; infer_instance
instance facts_storable (l : Fin 4) (d : Dev nD) (n : ℕ) : BI.Storable (upEmb : UEmb _ 𝕄) (facts l d n) := by
  unfold facts; infer_instance
instance slotReady_storable (d : Dev nD) (a : Fin 4 × Fin 2) : BI.Storable (upEmb : UEmb _ 𝕄) (slotReady d a) := by
  unfold slotReady; infer_instance
instance ready_storable (d : Dev nD) : BI.Storable (upEmb : UEmb _ 𝕄) (ready d) := by
  unfold ready; infer_instance

theorem facts_elim (l : Fin 4) (d : Dev nD) {m n : ℕ} (h : m < n) : facts l d n ⊢ (fact l d m : sProp 𝕄) :=
  bigSep_elim (Finset.mem_range.mpr h)
theorem facts_succ (l : Fin 4) (d : Dev nD) (n : ℕ) : iprop(fact l d n ∗ facts l d n) ⊢ (facts l d (n + 1) : sProp 𝕄) :=
  Entails.of_eq (by unfold facts; rw [Finset.range_add_one, bigSep_insert Finset.notMem_range_self]; rfl)
theorem ready_slot (d : Dev nD) (l : Fin 4) (p : Fin 2) : ready d ⊢ (slotReady d (l, p) : sProp 𝕄) := by
  unfold ready
  exact (sep_elim_left).trans (bigSep_elim (Φ := slotReady d) (Finset.mem_univ (l, p)))
theorem ready_credit (d : Dev nD) (l : Fin 4) : ready d ⊢ (reached ER (creditCell l d) 0 : sProp 𝕄) := by
  unfold ready
  exact (sep_elim_right).trans (bigSep_elim (Φ := fun l : Fin 4 => reached ER (creditCell l d) 0) (Finset.mem_univ l))

/-! ## The schedule -/

/-- The additions that make up round `r` of a cell. -/
def duties (k : Kind) (r : ℕ) : Finset ℕ :=
  match k with
  | .bar => if r = 0 then {0, 1} else ∅
  | .credit _ => if r = 0 then Finset.range 29 else ∅
  | .send _ p => if 2 * r + p.val ≤ 30 then {0} else ∅
  | .recv _ p => if 2 * r + p.val ≤ 30 then {0} else ∅
  | .other => ∅

/-- How much one addition adds. -/
def amount : Kind → ℕ
  | .bar => 1
  | .credit _ => 1
  | .send _ _ => N
  | .recv _ _ => N
  | .other => 1

theorem amount_pos : ∀ k, 0 < amount k
  | .bar => Nat.one_pos
  | .credit _ => Nat.one_pos
  | .send _ _ => N_pos
  | .recv _ _ => N_pos
  | .other => Nat.one_pos

variable (I : Ins F)

/-- What addition `d` of round `r` hands over to the owner `c` of a cell. -/
def payload (k : Kind) (c : Dev nD) (r d : ℕ) : sProp 𝕄 :=
  match k with
  | .bar => ready (if d = 0 then leftOf c else rightOf c)
  | .credit l => facts l (down l c) (d + 1)
  | .send l p => sAny l p c
  | .recv l p => rHolds l p c (I.val l (2 * r + p.val) (up l c))
  | .other => iprop(emp)

instance payload_storable (k : Kind) (c : Dev nD) (r d : ℕ) : BI.Storable (upEmb : UEmb _ 𝕄) (payload I k c r d) := by
  cases k <;> (unfold payload; infer_instance)

/-- The whole schedule: the cells are the TensorCores' semaphores. -/
def rd : Rounds.Schedule (GSem nD τ sig) ℕ 𝕄 where
  duties g r := if g.1.2 = .tc then duties (kindOf g.2) r else ∅
  unitless _ := False
  amount g _ _ := amount (kindOf g.2)
  payload g r d := payload I (kindOf g.2) g.1.1 r d
  amount_pos g _ _ _ := amount_pos _

instance rd_payload_storable (g : GSem nD τ sig) (r : ℕ) (d : ℕ) :
    BI.Storable (upEmb : UEmb _ 𝕄) ((rd I).payload g r d) := payload_storable I _ _ _ _

section Sched
variable (c : Dev nD) (l : Fin 4) (p : Fin 2) (r d : ℕ)

theorem rd_duties (sm : SemLoc sig) {k : Kind} (h : kindOf sm = k) : (rd I).duties ((c : Thread nD τ), sm) r = duties k r := by
  subst h; dsimp only [rd]; exact if_pos rfl
theorem rd_amount (sm : SemLoc sig) {k : Kind} (h : kindOf sm = k) : (rd I).amount ((c : Thread nD τ), sm) r d = amount k := by
  subst h; rfl
theorem rd_payload (sm : SemLoc sig) {k : Kind} (h : kindOf sm = k) :
    (rd I).payload ((c : Thread nD τ), sm) r d = payload I k c r d := by
  subst h; rfl
theorem rd_expect (sm : SemLoc sig) {k : Kind} (h : kindOf sm = k) :
    (rd I).expect ((c : Thread nD τ), sm) r = (duties k r).card * amount k := by
  unfold Schedule.expect Schedule.amountOf
  rw [rd_duties I c r sm h, Finset.sum_congr rfl fun d _ => rd_amount I c r d sm h, Finset.sum_const, smul_eq_mul]

variable {t : ℕ}

/-- The number of the kernel's round from the slot's and the cell's. -/
theorem two_mul_par (t : ℕ) : 2 * (t / 2) + (par t).val = t := Nat.div_add_mod t 2
theorem par_add_two (t : ℕ) : par (t + 2) = par t := Fin.ext (Nat.add_mod_right t 2)
theorem div_add_two (t : ℕ) : (t + 2) / 2 = t / 2 + 1 := Nat.add_div_right t Nat.two_pos

theorem duties_recv (h : t ≤ 30) : (rd I).duties (recvCell l (par t) c) (t / 2) = {0} := by
  rw [rd_duties I c _ _ (kind_recv l _)]; exact if_pos (by rw [two_mul_par]; exact h)
theorem duties_send (h : t ≤ 30) : (rd I).duties (sendCell l (par t) c) (t / 2) = {0} := by
  rw [rd_duties I c _ _ (kind_send l _)]; exact if_pos (by rw [two_mul_par]; exact h)
theorem duties_credit : (rd I).duties (creditCell l c) 0 = Finset.range 29 := by
  rw [rd_duties I c _ _ (kind_credit l)]; rfl
theorem duties_bar : (rd I).duties (barCell c) 0 = {0, 1} := by
  rw [rd_duties I c _ _ kind_bar]; rfl
theorem amount_recv : (rd I).amount (recvCell l p c) r d = N := rd_amount I c r d _ (kind_recv l p)
theorem amount_send : (rd I).amount (sendCell l p c) r d = N := rd_amount I c r d _ (kind_send l p)
theorem amount_credit : (rd I).amount (creditCell l c) r d = 1 := rd_amount I c r d _ (kind_credit l)
theorem amount_bar : (rd I).amount (barCell c) r d = 1 := rd_amount I c r d _ kind_bar
theorem expect_recv (h : t ≤ 30) : (rd I).expect (recvCell l (par t) c) (t / 2) = N := by
  rw [rd_expect I c _ _ (kind_recv l _), ← rd_duties I c _ _ (kind_recv l _), duties_recv I c l h]; exact Nat.one_mul N
theorem expect_send (h : t ≤ 30) : (rd I).expect (sendCell l (par t) c) (t / 2) = N := by
  rw [rd_expect I c _ _ (kind_send l _), ← rd_duties I c _ _ (kind_send l _), duties_send I c l h]; exact Nat.one_mul N
theorem expect_credit : (rd I).expect (creditCell l c) 0 = 29 := rd_expect I c 0 _ (kind_credit l)
theorem expect_bar : (rd I).expect (barCell c) 0 = 2 := rd_expect I c 0 _ kind_bar
theorem payload_recv : (rd I).payload (recvCell l (par t) c) (t / 2) d = rHolds l (par t) c (I.val l t (up l c)) := by
  rw [rd_payload I c _ _ _ (kind_recv l _)]
  show rHolds l (par t) c (I.val l (2 * (t / 2) + (par t).val) (up l c)) = _
  rw [two_mul_par]
theorem payload_send : (rd I).payload (sendCell l p c) r d = sAny l p c := rd_payload I c r d _ (kind_send l p)
theorem payload_credit : (rd I).payload (creditCell l c) r d = facts l (down l c) (d + 1) := rd_payload I c r d _ (kind_credit l)
theorem payload_bar : (rd I).payload (barCell c) r d = ready (if d = 0 then leftOf c else rightOf c) := rd_payload I c r d _ kind_bar

theorem rest_recv (h : t ≤ 30) : bigSep ((rd I).duties (recvCell l (par t) c) (t / 2) \ ∅)
    (fun d => (rd I).payload (recvCell l (par t) c) (t / 2) d) = rHolds l (par t) c (I.val l t (up l c)) := by
  rw [Finset.sdiff_empty, duties_recv I c l h, bigSep_singleton, payload_recv]
theorem rest_send (h : t ≤ 30) : bigSep ((rd I).duties (sendCell l (par t) c) (t / 2) \ ∅)
    (fun d => (rd I).payload (sendCell l (par t) c) (t / 2) d) = sAny l (par t) c := by
  rw [Finset.sdiff_empty, duties_send I c l h, bigSep_singleton, payload_send]
theorem rest_bar : bigSep ((rd I).duties (barCell c) 0 \ ∅)
    (fun d => (rd I).payload (barCell c) 0 d) = iprop(ready (leftOf c) ∗ ready (rightOf c)) := by
  rw [Finset.sdiff_empty, duties_bar, bigSep_insert (by decide), bigSep_singleton, payload_bar, payload_bar]; rfl

end Sched

/-! ## Levels -/

/-- The indices with a level: enough for every round, on the TensorCores. -/
def L (g : GSem nD τ sig) : Finset ℕ := if g.1.2 = .tc then Finset.range 64 else ∅
/-- The level of a cell at an index: the rounds in order for arrivals and credits, above the barrier; the copies out at
    the bottom. -/
def lv (g : GSem nD τ sig) (i : ℕ) : ℕ :=
  match kindOf g.2 with
  | .bar => 1
  | .credit _ => i + 2
  | .recv _ _ => i + 2
  | _ => 0

theorem L_of_ne (g : GSem nD τ sig) (h : g.1.2 ≠ .tc) : L g = ∅ := if_neg h
theorem mem_L (c : Dev nD) (sm : SemLoc sig) {i : ℕ} (h : i < 64) : i ∈ L ((c : Thread nD τ), sm) := by
  rw [L, if_pos rfl]; exact Finset.mem_range.mpr h
theorem lv_bar (c : Dev nD) (i : ℕ) : lv (barCell c) i = 1 := by rw [lv, kind_bar]
theorem lv_credit (l : Fin 4) (c : Dev nD) (i : ℕ) : lv (creditCell l c) i = i + 2 := by rw [lv, kind_credit]
theorem lv_recv (l : Fin 4) (p : Fin 2) (c : Dev nD) (i : ℕ) : lv (recvCell l p c) i = i + 2 := by rw [lv, kind_recv]
theorem lv_send (l : Fin 4) (p : Fin 2) (c : Dev nD) (i : ℕ) : lv (sendCell l p c) i = 0 := by rw [lv, kind_send]

/-- Everything owed has a level, above `n`. -/
def Above (n : ℕ) (O : CellTallies nD τ sig ℕ) : Prop := ∀ g i, 0 < O g i → i ∈ L g ∧ n < lv g i

theorem above_zero (n : ℕ) : Above n 0 := fun _ _ h => absurd h (Nat.lt_irrefl 0)
theorem Above.add {n : ℕ} {O O' : CellTallies nD τ sig ℕ} (h : Above n O) (h' : Above n O') : Above n (O + O') := fun g i hg => by
  rcases Nat.add_pos_iff_pos_or_pos.mp (show 0 < O g i + O' g i from hg) with h1 | h1
  · exact h g i h1
  · exact h' g i h1
theorem Above.sum {n : ℕ} {A : Type} (S : Finset A) (f : A → CellTallies nD τ sig ℕ) (h : ∀ a ∈ S, Above n (f a)) :
    Above n (∑ a ∈ S, f a) := by
  classical
  induction S using Finset.induction_on with
  | empty => exact above_zero n
  | insert a S ha ih =>
    rw [Finset.sum_insert ha]
    exact (h a (Finset.mem_insert_self a S)).add (ih fun b hb => h b (Finset.mem_insert_of_mem hb))
theorem above_tally {n : ℕ} (c : Dev nD) (sm : SemLoc sig) {i k : ℕ} (hi : i < 64) (hl : n < lv ((c : Thread nD τ), sm) i) :
    Above n (tallyAt ((c : Thread nD τ), sm) i k) := fun g j hg => by
  rw [tallyAt_apply] at hg
  by_cases h : g = ((c : Thread nD τ), sm) ∧ j = i
  · rw [h.1, h.2]; exact ⟨mem_L c sm hi, hl⟩
  · rw [if_neg h] at hg; exact absurd hg (Nat.lt_irrefl 0)
theorem Above.mono {n n' : ℕ} {O : CellTallies nD τ sig ℕ} (h : Above n O) (hn : n' ≤ n) : Above n' O := fun g i hg =>
  ⟨(h g i hg).1, lt_of_le_of_lt hn (h g i hg).2⟩

/-- A wait at a level no higher than the cut is allowed while everything owed is above it. -/
theorem mayWait (c : Dev nD) (sm : SemLoc sig) {i n : ℕ} {O : CellTallies nD τ sig ℕ} (hi : i < 64)
    (hl : lv ((c : Thread nD τ), sm) i ≤ n) (h : Above n O) : (levAts L lv : sProp 𝕄) ⊢ MayWait (c : Thread nD τ) sm i O :=
  MayOwe.of_cut (L := L) (lev := lv) n (fun p hp => by rw [Finset.mem_singleton.mp hp]; exact mem_L c sm hi)
    (fun g u hg => (h g u hg).1) (fun p hp => by rw [Finset.mem_singleton.mp hp]; exact hl) (fun g u hg => (h g u hg).2)

/-- What lane `l` of device `c` still owes: its copies from round `s` on, its credits from round `t` on. -/
def laneOwes (l : Fin 4) (c : Dev nD) (s t : ℕ) : CellTallies nD τ sig ℕ :=
  (∑ k ∈ Finset.Ico s 31, tallyAt (recvCell l (par k) (down l c)) k N)
    + ∑ j ∈ Finset.Ico t 30, tallyAt (creditCell l (up l c)) j 1

theorem laneOwes_copy (l : Fin 4) (c : Dev nD) {s t : ℕ} (h : s < 31) :
    laneOwes l c s t = laneOwes l c (s + 1) t + tallyAt (recvCell l (par s) (down l c)) s N := by
  unfold laneOwes; rw [Finset.sum_eq_sum_Ico_succ_bot h]; abel
theorem laneOwes_credit (l : Fin 4) (c : Dev nD) {s t : ℕ} (h : t < 30) :
    laneOwes l c s t = laneOwes l c s (t + 1) + tallyAt (creditCell l (up l c)) t 1 := by
  unfold laneOwes; rw [Finset.sum_eq_sum_Ico_succ_bot h]; abel
theorem laneOwes_end (l : Fin 4) (c : Dev nD) : laneOwes l c 31 30 = 0 := by
  unfold laneOwes; simp

theorem above_lane (l : Fin 4) (c : Dev nD) {n s t : ℕ} (hs : n < s + 2) (ht : n < t + 2) : Above n (laneOwes l c s t) := by
  refine (Above.sum _ _ fun k hk => ?_).add (Above.sum _ _ fun k hk => ?_)
  · have := Finset.mem_Ico.mp hk
    exact above_tally _ _ (by omega) (by rw [lv_recv]; omega)
  · have := Finset.mem_Ico.mp hk
    exact above_tally _ _ (by omega) (by rw [lv_credit]; omega)

end Cert.Proof

end
-- ==== Proof.Steps.lean ====
/- One step of a lane at a time: each of the body's actions with what it needs and what it leaves. -/
module

public import proofs.«01_k».proof.Proof.Protocol

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => M₀ F

abbrev 𝒱₀ : Variants := Variants.none

/-- The body's programs run on device `c`. -/
abbrev run (c : Dev nD) (p : BodyProg F) (Q : PUnit → sProp 𝕄) : sProp 𝕄 :=
  wp frame (wpE (defs₀ (F := F)) 𝒱₀ (c : Thread nD τ) none) Set.univ p Q

/-! ## The invariants -/

/-- The semaphores of lane `l`. -/
def siteSem (l : Fin 4) : Fin 5 → SemLoc sig
  | 0 => .reg (creditSem l)
  | 1 => .dma (ssem l 0)
  | 2 => .dma (ssem l 1)
  | 3 => .dma (rsem l 0)
  | 4 => .dma (rsem l 1)

/-- A lane's semaphore on a device. -/
abbrev siteCell (x : Dev nD × Fin 4 × Fin 5) : GSem nD τ sig := ((x.1 : Thread nD τ), siteSem x.2.1 x.2.2)

variable (I : Ins F) (K : GSem nD τ sig → ℕ) (κ : Key → ℕ)

/-- Every cell's invariant. -/
def cells : sProp 𝕄 :=
  iprop(bigSep Finset.univ (fun c : Dev nD => cellInv ER (rd I) (K (barCell c)) (barCell c))
    ∗ bigSep Finset.univ (fun x : Dev nD × Fin 4 × Fin 5 => cellInv ER (rd I) (K (siteCell x)) (siteCell x)))

/-- Every receive slot's invariant. -/
def slotInvs : sProp 𝕄 :=
  bigSep Finset.univ (fun k : Key => Release.slotInv ES (κ k) k (rAny k.2.1 k.2.2 k.1))

/-- What every step may use: the invariants and the levels. -/
def ctx : sProp 𝕄 := iprop(cells I K ∗ slotInvs κ ∗ levAts L lv)

instance cells_persistent : BI.Persistent (cells I K) := by unfold cells; infer_instance
instance slotInvs_persistent : BI.Persistent (slotInvs κ : sProp 𝕄) := by unfold slotInvs; infer_instance
instance ctx_persistent : BI.Persistent (ctx I K κ) := by unfold ctx; infer_instance

theorem cells_bar (c : Dev nD) : cells I K ⊢ cellInv ER (rd I) (K (barCell c)) (barCell c) := by
  unfold cells
  exact sep_elim_left.trans (bigSep_elim (Φ := fun c : Dev nD => cellInv ER (rd I) (K (barCell c)) (barCell c)) (Finset.mem_univ c))
theorem cells_site (x : Dev nD × Fin 4 × Fin 5) : cells I K ⊢ cellInv ER (rd I) (K (siteCell x)) (siteCell x) := by
  unfold cells
  exact sep_elim_right.trans (bigSep_elim
    (Φ := fun x : Dev nD × Fin 4 × Fin 5 => cellInv ER (rd I) (K (siteCell x)) (siteCell x)) (Finset.mem_univ x))

theorem ctx_lev : ctx I K κ ⊢ (levAts L lv : sProp 𝕄) := by
  unfold ctx; iintro ⟨-, -, H⟩; iexact H
set_option maxRecDepth 20000 in
theorem ctx_wait (c : Dev nD) (sm : SemLoc sig) {i n : ℕ} {O : CellTallies nD τ sig ℕ} (hi : i < 64)
    (hl : lv ((c : Thread nD τ), sm) i ≤ n) (h : Above n O) : ctx I K κ ⊢ MayWait (c : Thread nD τ) sm i O := by
  have hw := mayWait (F := F) c sm hi hl h
  exact (ctx_lev I K κ).trans hw
theorem ctx_bar (c : Dev nD) : ctx I K κ ⊢ cellInv ER (rd I) (K (barCell c)) (barCell c) := by
  unfold ctx; exact sep_elim_left.trans (cells_bar I K c)
theorem ctx_credit (l : Fin 4) (c : Dev nD) : ctx I K κ ⊢ cellInv ER (rd I) (K (creditCell l c)) (creditCell l c) := by
  unfold ctx; exact sep_elim_left.trans (cells_site I K (c, l, 0))
theorem ctx_send (l : Fin 4) (p : Fin 2) (c : Dev nD) : ctx I K κ ⊢ cellInv ER (rd I) (K (sendCell l p c)) (sendCell l p c) := by
  unfold ctx
  match p with
  | 0 => exact sep_elim_left.trans (cells_site I K (c, l, 1))
  | 1 => exact sep_elim_left.trans (cells_site I K (c, l, 2))
theorem ctx_recv (l : Fin 4) (p : Fin 2) (c : Dev nD) : ctx I K κ ⊢ cellInv ER (rd I) (K (recvCell l p c)) (recvCell l p c) := by
  unfold ctx
  match p with
  | 0 => exact sep_elim_left.trans (cells_site I K (c, l, 3))
  | 1 => exact sep_elim_left.trans (cells_site I K (c, l, 4))
theorem ctx_slot (l : Fin 4) (p : Fin 2) (c : Dev nD) :
    ctx I K κ ⊢ (Release.slotInv ES (κ (c, l, p)) (c, l, p) (rAny l p c) : sProp 𝕄) := by
  unfold ctx slotInvs
  exact sep_elim_right.trans (sep_elim_left.trans (bigSep_elim
    (Φ := fun k : Key => Release.slotInv ES (κ k) k (rAny k.2.1 k.2.2 k.1)) (Finset.mem_univ (c, l, p))))

/-- Device `c` owes `O`. -/
def owing (c : Dev nD) (O : CellTallies nD τ sig ℕ) : sProp 𝕄 := iprop(∃ W, owes (c : Thread nD τ) O W)

/-! ## The steps -/

section Steps

theorem rslot_read (l : Fin 4) (p : Fin 2) : (recvBuf l).view.setOn (slotRect p).toLoadRect.set ⊆ (rslot l p).view.set := by
  rw [rslot_set, View.set_slice]; exact Finset.Subset.refl _
theorem sslot_read (l : Fin 4) (p : Fin 2) : (sendBuf l).view.setOn (slotRect p).toLoadRect.set ⊆ (sslot l p).view.set := by
  rw [sslot_set, View.set_slice]; exact Finset.Subset.refl _
theorem sslot_write (l : Fin 4) (p : Fin 2) : ((sendBuf l).access (slotRect p)).setOn Finset.univ ⊆ (sslot l p).view.set := by
  rw [sslot_set, View.setOn_univ]

variable (c : Dev nD) (l : Fin 4) {O : CellTallies nD τ sig ℕ}

/-- Taking what the upstream neighbour sent in round `t`. -/
theorem take_run {t : ℕ} (ht : t ≤ 30) (hO : Above (t + 2) O) {k : Vec F S1x128x512 .bf16 → BodyProg F} {Q : PUnit → sProp 𝕄} :
    iprop(ctx I K κ ∗ cred (tallyAt (recvCell l (par t) c) t N) ∗ owing c O ∗ atPos ER (recvCell l (par t) c) (t / 2) ∅ 0)
      ⊢ iprop(((owing c O ∗ atPos ER (recvCell l (par t) c) (t / 2 + 1) ∅ 0 ∗ reached ER (recvCell l (par t) c) (t / 2 + 1)
          ∗ rHolds l (par t) c (I.val l t (up l c))) -∗ run c (k (I.val l t (up l c))) Q)
        -∗ run c (takeP l (par t) k) Q) := by
  unfold takeP owing
  have hw := ctx_wait I K κ c (.dma (rsem l (par t))) (i := t) (n := t + 2) (by omega) (lv_recv l (par t) c t).le hO
  iintro ⟨#Hc, Hcr, ⟨%W, HO⟩, Hat⟩ Hk
  iapply (Rounds.wp_wait_rest_token 𝒱₀ ER (rd I) (c : Thread nD τ) none (κ := K (recvCell l (par t) c))
      (wpE_waitDma2_eq 𝒱₀ (c : Thread nD τ) none Set.univ) (Set.mem_univ _) t (O := O) (W := W) (R := t / 2) (m := 0) (T := ∅)
      ((Nat.zero_add _).trans ((credit_rslot l (par t)).trans (expect_recv I c l ht).symm))) $$ [Hcr HO Hat]
  · isplitr; · iapply (ctx_recv I K κ l (par t) c); iexact Hc
    isplitl [Hcr]; · rw [credit_rslot]; iexact Hcr
    isplitl [HO]; · iexact HO
    isplitr
    · iapply hw; iexact Hc
    iexact Hat
  iintro ⟨HO, Hat, #Hr, Hpay⟩
  ihave Hp := (Entails.of_eq (rest_recv I c l ht)) $$ Hpay
  unfold rHolds
  icases Hp with ⟨%f, %hf, Hp⟩
  iapply (wp_load 𝒱₀ (c : Thread nD τ) none Set.univ (m := recvBuf l) (r := (slotRect (par t)).toLoadRect) (q := fullShare)
      (f := f) (S := (rslot l (par t)).view.set) (rslot_read l (par t))) $$ Hp
  iintro Hp
  rw [show (recvBuf l).view.readAt (Elt F) (slotRect (par t)).toLoadRect f = I.val l t (up l c) from hf]
  iapply Hk
  isplitl [HO]; · iexists _; iexact HO
  isplitl [Hat]; · iexact Hat
  isplitr; · iexact Hr
  iexists f
  isplitr; · ipureintro; exact hf
  iexact Hp

/-- Saying that what was received up to round `n` has been read. -/
theorem credit_run {n : ℕ} (hn : n < 29) {k : BodyProg F} {Q : PUnit → sProp 𝕄} :
    iprop(ctx I K κ ∗ ready (up l c) ∗ facts l c (n + 1) ∗ owing c (O + tallyAt (creditCell l (up l c)) (n + 1) 1)
        ∗ dutyTok ER (creditCell l (up l c)) 0 n)
      ⊢ iprop((owing c O -∗ run c k Q) -∗ run c (creditP (up l c) l k) Q) := by
  unfold creditP owing
  have hd : n ∈ (rd I).duties (creditCell l (up l c)) 0 := by rw [duties_credit]; exact Finset.mem_range.mpr hn
  iintro ⟨#Hc, #Hrd, #Hf, ⟨%W, HO⟩, Ht⟩ Hk
  iapply (Rounds.wp_signal 𝒱₀ ER (rd I) (c : Thread nD τ) none (dst := ((up l c : Dev nD) : Thread nD τ)) (sem := creditSem l) (r := 0) (d := n)
      (κ := K (creditCell l (up l c)))
      hd (amount_credit I (up l c) l 0 n) (n + 1) O rfl) $$ [HO Ht]
  · isplitr; · iapply (ctx_credit I K κ l (up l c)); iexact Hc
    isplitl [HO]; · iexact HO
    isplitl [Ht]; · iexact Ht
    isplitr
    · rw [payload_credit, down_up]; iexact Hf
    · iapply (ready_credit (up l c) l); iexact Hrd
  iintro HO
  iapply Hk; iexists W; iexact HO

/-- Giving a receive slot back for its next use. -/
theorem free_slot (p : Fin 2) (n : ℕ) :
    iprop(ctx I K κ ∗ Release.readerAt ES (c, l, p) n ∗ rAny l p c)
      ⊢ iprop(|={Set.univ}=> (Release.readerAt ES (c, l, p) (n + 1) ∗ Release.released ES (c, l, p) (n + 1)) : sProp 𝕄) := by
  iintro ⟨#Hc, Hr, Hs⟩
  iapply (Release.slot_release ES (Set.mem_univ (κ (c, l, p))) (rAny_exclusive l p c) n)
  isplitr; · iapply (ctx_slot I K κ l p c); iexact Hc
  isplitl [Hr] <;> iassumption

/-- Waiting for the device's own copy of round `t` to be out. -/
theorem sent_run {t : ℕ} (ht : t ≤ 30) (hO : Above 0 O) {k : BodyProg F} {Q : PUnit → sProp 𝕄} :
    iprop(ctx I K κ ∗ cred (tallyAt (sendCell l (par t) c) 0 N) ∗ owing c O ∗ atPos ER (sendCell l (par t) c) (t / 2) ∅ 0)
      ⊢ iprop(((owing c O ∗ atPos ER (sendCell l (par t) c) (t / 2 + 1) ∅ 0 ∗ reached ER (sendCell l (par t) c) (t / 2 + 1)
          ∗ sAny l (par t) c) -∗ run c k Q)
        -∗ run c (sentP l (par t) k) Q) := by
  unfold sentP owing
  have hw := ctx_wait I K κ c (.dma (ssem l (par t))) (i := 0) (n := 0) (by omega) (lv_send l (par t) c 0).le hO
  iintro ⟨#Hc, Hcr, ⟨%W, HO⟩, Hat⟩ Hk
  iapply (Rounds.wp_wait_rest_token 𝒱₀ ER (rd I) (c : Thread nD τ) none (κ := K (sendCell l (par t) c))
      (wpE_waitDma2_eq 𝒱₀ (c : Thread nD τ) none Set.univ) (Set.mem_univ _) 0 (O := O) (W := W) (R := t / 2) (m := 0) (T := ∅)
      ((Nat.zero_add _).trans ((credit_sslot l (par t)).trans (expect_send I c l ht).symm))) $$ [Hcr HO Hat]
  · isplitr; · iapply (ctx_send I K κ l (par t) c); iexact Hc
    isplitl [Hcr]; · rw [credit_sslot]; iexact Hcr
    isplitl [HO]; · iexact HO
    isplitr
    · iapply hw; iexact Hc
    iexact Hat
  iintro ⟨HO, Hat, #Hr, Hpay⟩
  ihave Hp := (Entails.of_eq (rest_send I c l ht)) $$ Hpay
  iapply Hk
  isplitl [HO]; · iexists _; iexact HO
  isplitl [Hat]; · iexact Hat
  isplitr; · iexact Hr
  iexact Hp

/-- Storing `v` in a send slot. -/
theorem put_run (p : Fin 2) (v : FVec F S1x128x512 .bf16) {k : BodyProg F} {Q : PUnit → sProp 𝕄} :
    sAny l p c ⊢ iprop((sHolds l p c v -∗ run c k Q) -∗ run c (putP l p v k) Q) := by
  unfold putP sAny Release.slot sHolds
  iintro ⟨%f, Hs⟩ Hk
  iapply (wp_load 𝒱₀ (c : Thread nD τ) none Set.univ (m := sendBuf l) (r := (slotRect p).toLoadRect) (q := fullShare)
      (f := f) (S := (sslot l p).view.set) (sslot_read l p)) $$ Hs
  iintro Hs
  iapply (wp_store 𝒱₀ (c : Thread nD τ) none Set.univ (m := sendBuf l) (r := slotRect p) (w := v) (Mk := Finset.univ)
      (f := f) (S := (sslot l p).view.set) (sslot_write l p)) $$ Hs
  iintro Hs
  iapply Hk
  iexists _
  isplitr
  · ipureintro
    exact View.read_write_univ (v := (sendBuf l).access (slotRect p)) f v
  iexact Hs

/-- After `n` waits for credits: some of the credits have been consumed, each with what it says. -/
def granted (l : Fin 4) (c : Dev nD) (n : ℕ) : sProp 𝕄 :=
  iprop(∃ T : Finset ℕ, ⌜T ⊆ Finset.range 29 ∧ n ≤ T.card⌝ ∗ atPos ER (creditCell l c) 0 T n
    ∗ bigSep T (fun d => facts l (down l c) (d + 1)))

/-- A set of at least `n + 1` credits holds one numbered `n` or more. -/
theorem exists_credit {S : Finset ℕ} {n : ℕ} (h : n < S.card) : ∃ d ∈ S, n ≤ d := by
  by_contra hc
  push Not at hc
  have : S ⊆ Finset.range n := fun d hd => Finset.mem_range.mpr (hc d hd)
  have := Finset.card_le_card this
  rw [Finset.card_range] at this
  omega

/-- Facts gathered over two sets are gathered over their union. -/
theorem facts_union (l : Fin 4) (d : Dev nD) (S T : Finset ℕ) :
    iprop(bigSep S (fun n => (facts l d (n + 1) : sProp 𝕄)) ∗ bigSep T (fun n => facts l d (n + 1)))
      ⊢ (bigSep (S ∪ T) (fun n => facts l d (n + 1)) : sProp 𝕄) :=
  bigSep_sep_union S T

theorem facts_mem (l : Fin 4) (d : Dev nD) {S : Finset ℕ} {m n : ℕ} (hm : m ∈ S) (h : n ≤ m) :
    bigSep S (fun n => (facts l d (n + 1) : sProp 𝕄)) ⊢ (fact l d n : sProp 𝕄) :=
  (bigSep_elim (Φ := fun n => (facts l d (n + 1) : sProp 𝕄)) hm).trans (facts_elim l d (by omega))

/-- Waiting for one more credit, not the last: what was sent in round `n` has been read. -/
theorem grant_run {n : ℕ} (hn : n < 28) (hO : Above (n + 3) O) {k : BodyProg F} {Q : PUnit → sProp 𝕄} :
    iprop(ctx I K κ ∗ cred (tallyAt (creditCell l c) (n + 1) 1) ∗ owing c O ∗ granted l c n)
      ⊢ iprop(((owing c O ∗ granted l c (n + 1) ∗ fact l (down l c) n) -∗ run c k Q) -∗ run c (grantP l k) Q) := by
  unfold grantP owing granted
  have hw := ctx_wait I K κ c (.reg (creditSem l)) (i := n + 1) (n := n + 3) (by omega) (lv_credit l c (n + 1)).le hO
  iintro ⟨#Hc, Hcr, ⟨%W, HO⟩, ⟨%T, %hT, Hat, #HT⟩⟩ Hk
  iapply (Rounds.wp_wait 𝒱₀ ER (rd I) (c : Thread nD τ) none (κ := K (creditCell l c))
      (wpE_semWait_eq 𝒱₀ (c : Thread nD τ) none Set.univ) (Set.mem_univ _) (cr := Finsupp.single (n + 1) 1) (O := O) (W := W)
      {(SemLoc.reg (creditSem l), n + 1)} (R := 0) (m := n) (T := T) (Util.total_single _ _)
      (image_single_subset (SemLoc.reg (creditSem l)) (n + 1) 1)) $$ [Hcr HO Hat]
  · isplitr; · iapply (ctx_credit I K κ l c); iexact Hc
    isplitl [Hcr]; · iexact Hcr
    isplitl [HO]; · iexact HO
    isplitr
    · iapply hw; iexact Hc
    iexact Hat
  iintro %S ⟨%hS, HO, Hat, Hpay⟩
  have hS2 : S ⊆ Finset.range 29 := by have := hS.2.1; rwa [duties_credit] at this
  have hcard : n + 1 ≤ S.card := by
    have h : n + 1 + (Finset.range 29 \ S).card ≤ 29 := by
      have h := hS.2.2
      rwa [expect_credit, duties_credit] at h
    rw [Finset.card_sdiff_of_subset hS2, Finset.card_range] at h
    have := Finset.card_le_card hS2
    rw [Finset.card_range] at this
    omega
  obtain ⟨d, hd, hnd⟩ := exists_credit (n := n) (S := S) (by omega)
  ihave Hpay' := (Entails.of_eq (bigSep_congr fun d _ => payload_credit I c l 0 d)) $$ Hpay
  ihave #Hall := (facts_union l (down l c) T (S \ T)) $$ [Hpay']
  · isplitr; · iexact HT
    iexact Hpay'
  rw [Finset.union_sdiff_of_subset hS.1]
  iapply Hk
  isplitl [HO]; · iexists _; iexact HO
  isplitl [Hat]
  · iexists S
    isplitr; · ipureintro; exact ⟨hS2, hcard⟩
    isplitl [Hat]; · iexact Hat
    iexact Hall
  iapply (facts_mem l (down l c) hd hnd)
  iexact Hall

/-- Waiting for the last credit: the round of credits is over. -/
theorem grant_last (hO : Above 31 O) {k : BodyProg F} {Q : PUnit → sProp 𝕄} :
    iprop(ctx I K κ ∗ cred (tallyAt (creditCell l c) 29 1) ∗ owing c O ∗ granted l c 28)
      ⊢ iprop(((owing c O ∗ atPos ER (creditCell l c) 1 ∅ 0 ∗ fact l (down l c) 28) -∗ run c k Q) -∗ run c (grantP l k) Q) := by
  unfold grantP owing granted
  have hw := ctx_wait I K κ c (.reg (creditSem l)) (i := 29) (n := 31) (by omega) (lv_credit l c 29).le hO
  iintro ⟨#Hc, Hcr, ⟨%W, HO⟩, ⟨%T, %hT, Hat, #HT⟩⟩ Hk
  iapply (Rounds.wp_wait_rest_token 𝒱₀ ER (rd I) (c : Thread nD τ) none (κ := K (creditCell l c))
      (wpE_semWait_eq 𝒱₀ (c : Thread nD τ) none Set.univ) (Set.mem_univ _) 29 (O := O) (W := W) (R := 0) (m := 28) (T := T)
      (expect_credit I c l).symm) $$ [Hcr HO Hat]
  · isplitr; · iapply (ctx_credit I K κ l c); iexact Hc
    isplitl [Hcr]; · iexact Hcr
    isplitl [HO]; · iexact HO
    isplitr
    · iapply hw; iexact Hc
    iexact Hat
  iintro ⟨HO, Hat, -, Hpay⟩
  ihave Hpay' := (Entails.of_eq (bigSep_congr fun d _ => payload_credit I c l 0 d)) $$ Hpay
  ihave #Hall := (facts_union l (down l c) T ((rd I).duties (creditCell l c) 0 \ T)) $$ [Hpay']
  · isplitr; · iexact HT
    iexact Hpay'
  rw [duties_credit, Finset.union_sdiff_of_subset hT.1]
  iapply Hk
  isplitl [HO]; · iexists _; iexact HO
  isplitl [Hat]; · iexact Hat
  iapply (facts_mem l (down l c) (Finset.mem_range.mpr (by omega : 28 < 29)) (le_refl 28))
  iexact Hall

/-- Starting the copy of round `t`. -/
theorem copy_run {t : ℕ} (ht : t ≤ 30) {k : BodyProg F} {Q : PUnit → sProp 𝕄} :
    iprop(ctx I K κ ∗ sHolds l (par t) c (I.val l t c)
        ∗ Release.released ES (down l c, l, par t) (t / 2 + 1) ∗ Release.writeTok ES (down l c, l, par t) (t / 2 + 1)
        ∗ dutyTok ER (recvCell l (par t) (down l c)) (t / 2) 0 ∗ reached ER (recvCell l (par t) (down l c)) (t / 2)
        ∗ dutyTok ER (sendCell l (par t) c) (t / 2) 0 ∗ reached ER (sendCell l (par t) c) (t / 2)
        ∗ owing c (O + tallyAt (recvCell l (par t) (down l c)) t N))
      ⊢ iprop(((owing c O ∗ cred (tallyAt (sendCell l (par t) c) 0 N)) -∗ run c k Q)
        -∗ run c (copyP (down l c) l (par t) k) Q) := by
  unfold copyP owing sHolds
  have hdS : 0 ∈ (rd I).duties (sendCell l (par t) c) (t / 2) := by rw [duties_send I c l ht]; exact Finset.mem_singleton_self _
  have hdR : 0 ∈ (rd I).duties (recvCell l (par t) (down l c)) (t / 2) := by
    rw [duties_recv I _ l ht]; exact Finset.mem_singleton_self _
  iintro ⟨#Hc, ⟨%fs, %hfs, Hs⟩, #Hrel, Hw, HtR, #HrR, HtS, #HrS, ⟨%W, HO⟩⟩ Hk
  imod (Release.slot_take ES (Set.mem_univ (κ (down l c, l, par t))) (t / 2 + 1)) $$ [Hw] with Hd
  · isplitr; · iapply (ctx_slot I K κ l (par t) (down l c)); iexact Hc
    isplitr; · iexact Hrel
    iexact Hw
  unfold rAny Release.slot
  icases Hd with ⟨%fd, Hd⟩
  have hpS : sPts l (par t) c fs ⊢ (rd I).payload (sendCell l (par t) c) (t / 2) 0 := by
    rw [payload_send]; unfold sAny Release.slot; iintro H; iexists fs; iexact H
  have hpR : rPts l (par t) (down l c) ((rslot l (par t)).view.write (Elt F) fd ((sslot l (par t)).view.read (Elt F) fs) Finset.univ)
      ⊢ (rd I).payload (recvCell l (par t) (down l c)) (t / 2) 0 := by
    rw [payload_recv, up_down]; unfold rHolds
    iintro H; iexists _
    isplitr
    · ipureintro; exact (copied_read l (par t) c (down l c) fs fd).trans hfs
    iexact H
  iapply (Rounds.wp_send_pointsTo 𝒱₀ ER (rd I) (c : Thread nD τ) none (c' := ((down l c : Dev nD) : Thread nD τ)) (src := sslot l (par t))
      (dst := rslot l (par t)) (sS := .dma (ssem l (par t))) (sem := .dma (rsem l (par t))) (q := fullShare) (fs := fs)
      (κ₁ := K (sendCell l (par t) c)) (κ₂ := K (recvCell l (par t) (down l c))) (r₁ := t / 2) (r₂ := t / 2) (d₁ := 0) (d₂ := 0) (fd := fd)
      hdS hdR
      t 0 N (credit_rslot l (par t)) (amount_send I c l (par t) _ _) (amount_recv I _ l (par t) _ _) O rfl (W := W)
      hpS hpR) $$ [Hs Hd HO HtS HtR]
  · isplitr; · iapply (ctx_send I K κ l (par t) c); iexact Hc
    isplitr; · iapply (ctx_recv I K κ l (par t) (down l c)); iexact Hc
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hcr, HO⟩
  iapply Hk
  isplitl [HO]; · iexists _; iexact HO
  iexact Hcr

end Steps

end Cert.Proof

end
-- ==== Proof.Lanes.lean ====
/- One lane in each kind of round: what it holds before and after. -/
module

public import proofs.«01_k».proof.Proof.Steps
public import Idealize.SL.BI.BigOpNat

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => M₀ F

/-! ## What a lane holds -/

/-- Ready to take what arrives in round `k`. -/
def recvAt (l : Fin 4) (c : Dev nD) (k : ℕ) : sProp 𝕄 :=
  iprop(atPos ER (recvCell l (par k) c) (k / 2) ∅ 0 ∗ Release.readerAt ES (c, l, par k) (k / 2 + 1))
/-- Ready to see the copy of round `k` out. -/
def sendAt (l : Fin 4) (c : Dev nD) (k : ℕ) : sProp 𝕄 := atPos ER (sendCell l (par k) c) (k / 2) ∅ 0
/-- The send cell's round for the copy of round `k` is open. -/
def sendOpen (l : Fin 4) (c : Dev nD) (k : ℕ) : sProp 𝕄 := reached ER (sendCell l (par k) c) (k / 2)
/-- The receive slot on device `d` is free for round `k`. -/
def slotFree (l : Fin 4) (d : Dev nD) (k : ℕ) : sProp 𝕄 :=
  iprop(Release.released ES (d, l, par k) (k / 2 + 1) ∗ reached ER (recvCell l (par k) d) (k / 2))
/-- The arrival of round `k` is promised. -/
def recvCred (l : Fin 4) (c : Dev nD) (k : ℕ) : sProp 𝕄 := cred (tallyAt (recvCell l (par k) c) k N)
/-- Credit `j` is promised. -/
def grantCred (l : Fin 4) (c : Dev nD) (j : ℕ) : sProp 𝕄 := cred (tallyAt (creditCell l c) j 1)
/-- The copy of round `k` is on its way. -/
def sentCred (l : Fin 4) (c : Dev nD) (k : ℕ) : sProp 𝕄 := cred (tallyAt (sendCell l (par k) c) 0 N)
/-- The right to make the copy of round `k`. -/
def copyTok (l : Fin 4) (c : Dev nD) (k : ℕ) : sProp 𝕄 :=
  iprop(Release.writeTok ES (down l c, l, par k) (k / 2 + 1) ∗ dutyTok ER (recvCell l (par k) (down l c)) (k / 2) 0
    ∗ dutyTok ER (sendCell l (par k) c) (k / 2) 0)
/-- The right to give credit `n`. -/
def creditTok (l : Fin 4) (c : Dev nD) (n : ℕ) : sProp 𝕄 := dutyTok ER (creditCell l (up l c)) 0 n

instance sendOpen_persistent (l : Fin 4) (c : Dev nD) (k : ℕ) : BI.Persistent (sendOpen l c k : sProp 𝕄) := by
  unfold sendOpen; infer_instance
instance slotFree_persistent (l : Fin 4) (d : Dev nD) (k : ℕ) : BI.Persistent (slotFree l d k : sProp 𝕄) := by
  unfold slotFree; infer_instance

theorem recvAt_add_two (l : Fin 4) (c : Dev nD) (k : ℕ) : (recvAt l c (k + 2) : sProp 𝕄)
    = iprop(atPos ER (recvCell l (par k) c) (k / 2 + 1) ∅ 0 ∗ Release.readerAt ES (c, l, par k) (k / 2 + 2)) := by
  unfold recvAt; rw [par_add_two, div_add_two]
theorem sendAt_add_two (l : Fin 4) (c : Dev nD) (k : ℕ) :
    (sendAt l c (k + 2) : sProp 𝕄) = atPos ER (sendCell l (par k) c) (k / 2 + 1) ∅ 0 := by
  unfold sendAt; rw [par_add_two, div_add_two]
theorem sendOpen_add_two (l : Fin 4) (c : Dev nD) (k : ℕ) :
    (sendOpen l c (k + 2) : sProp 𝕄) = reached ER (sendCell l (par k) c) (k / 2 + 1) := by
  unfold sendOpen; rw [par_add_two, div_add_two]
theorem fact_slotFree (l : Fin 4) (d : Dev nD) (k : ℕ) : (fact l d k : sProp 𝕄) = slotFree l d (k + 2) := by
  unfold fact slotFree; rw [par_add_two, div_add_two]
theorem ready_first (l : Fin 4) (d : Dev nD) {k : ℕ} (h : k < 2) : ready d ⊢ (slotFree l d k : sProp 𝕄) := by
  have e : k / 2 = 0 := by omega
  unfold slotFree; rw [e]; exact ready_slot d l (par k)

variable (I : Ins F) (K : GSem nD τ sig → ℕ) (κ : Key → ℕ)

section Rounds

variable (c : Dev nD) (l : Fin 4) {O : CellTallies nD τ sig ℕ}

/-- Taking what arrives in round `t`, and giving the slot back. -/
theorem recv_run {t : ℕ} (ht : t ≤ 30) (hO : Above (t + 2) O) {k : Vec F S1x128x512 .bf16 → BodyProg F} {Q : PUnit → sProp 𝕄} :
    iprop(ctx I K κ ∗ recvAt l c t ∗ recvCred l c t ∗ facts l c t ∗ owing c O)
      ⊢ iprop(((recvAt l c (t + 2) ∗ facts l c (t + 1) ∗ owing c O) -∗ run c (k (I.val l t (up l c))) Q)
        -∗ run c (takeP l (par t) k) Q) := by
  rw [recvAt_add_two]
  unfold recvAt recvCred
  iintro ⟨#Hc, ⟨Hat, Hrd⟩, Hcr, #Hf, HO⟩ Hk
  iapply (take_run I K κ c l ht hO) $$ [Hcr HO Hat]
  · isplitr; · iexact Hc
    isplitl [Hcr]; · iexact Hcr
    isplitl [HO]; · iexact HO
    iexact Hat
  iintro ⟨HO, Hat, #Hr, Hh⟩
  imod (free_slot I K κ c l (par t) (t / 2 + 1)) $$ [Hrd Hh] with ⟨Hrd, #Hrel⟩
  · isplitr; · iexact Hc
    isplitl [Hrd]; · iexact Hrd
    iapply (rHolds_any l (par t) c (I.val l t (up l c))); iexact Hh
  iapply Hk
  isplitl [Hat Hrd]
  · isplitl [Hat]; · iexact Hat
    iexact Hrd
  isplitr
  · iapply (facts_succ l c t)
    isplitr
    · unfold fact
      isplitr; · iexact Hrel
      iexact Hr
    iexact Hf
  iexact HO

/-- A receive slot after its last use. -/
def recvDone (l : Fin 4) (c : Dev nD) (k : ℕ) : sProp 𝕄 :=
  iprop(atPos ER (recvCell l (par k) c) (k / 2 + 1) ∅ 0 ∗ rAny l (par k) c)

/-- Taking what arrives in round `t`, the slot's last use. -/
theorem recv_last {t : ℕ} (ht : t ≤ 30) (hO : Above (t + 2) O) {k : Vec F S1x128x512 .bf16 → BodyProg F} {Q : PUnit → sProp 𝕄} :
    iprop(ctx I K κ ∗ recvAt l c t ∗ recvCred l c t ∗ owing c O)
      ⊢ iprop(((recvDone l c t ∗ owing c O) -∗ run c (k (I.val l t (up l c))) Q) -∗ run c (takeP l (par t) k) Q) := by
  unfold recvAt recvCred recvDone
  iintro ⟨#Hc, ⟨Hat, -⟩, Hcr, HO⟩ Hk
  iapply (take_run I K κ c l ht hO) $$ [Hcr HO Hat]
  · isplitr; · iexact Hc
    isplitl [Hcr]; · iexact Hcr
    isplitl [HO]; · iexact HO
    iexact Hat
  iintro ⟨HO, Hat, -, Hh⟩
  iapply Hk
  isplitl [Hat Hh]
  · isplitl [Hat]; · iexact Hat
    iapply (rHolds_any l (par t) c (I.val l t (up l c))); iexact Hh
  iexact HO

/-- Seeing the copy of round `t` out. -/
theorem out_run {t : ℕ} {p : Fin 2} (hp : par t = p) (ht : t ≤ 30) (hO : Above 0 O) {k : BodyProg F} {Q : PUnit → sProp 𝕄} :
    iprop(ctx I K κ ∗ sendAt l c t ∗ sentCred l c t ∗ owing c O)
      ⊢ iprop(((sendAt l c (t + 2) ∗ sendOpen l c (t + 2) ∗ sAny l p c ∗ owing c O) -∗ run c k Q)
        -∗ run c (sentP l p k) Q) := by
  subst hp
  rw [sendAt_add_two, sendOpen_add_two]
  unfold sendAt sentCred
  iintro ⟨#Hc, Hat, Hcr, HO⟩ Hk
  iapply (sent_run I K κ c l ht hO) $$ [Hcr HO Hat]
  · isplitr; · iexact Hc
    isplitl [Hcr]; · iexact Hcr
    isplitl [HO]; · iexact HO
    iexact Hat
  iintro ⟨HO, Hat, #Hr, Hs⟩
  iapply Hk
  isplitl [Hat]; · iexact Hat
  isplitr; · iexact Hr
  isplitl [Hs] <;> iassumption

/-- Starting the copy of round `k`. -/
theorem start_run {t u : ℕ} {p : Fin 2} (hp : par t = p) (ht : t ≤ 30) {k : BodyProg F} {Q : PUnit → sProp 𝕄} :
    iprop(ctx I K κ ∗ sHolds l p c (I.val l t c) ∗ slotFree l (down l c) t ∗ copyTok l c t ∗ sendOpen l c t
        ∗ owing c (O + laneOwes l c t u))
      ⊢ iprop(((sentCred l c t ∗ owing c (O + laneOwes l c (t + 1) u)) -∗ run c k Q)
        -∗ run c (copyP (down l c) l p k) Q) := by
  subst hp
  rw [laneOwes_copy l c (by omega : t < 31), ← add_assoc]
  unfold slotFree copyTok sendOpen sentCred
  iintro ⟨#Hc, Hs, ⟨#Hrel, #HrR⟩, ⟨Hw, HtR, HtS⟩, #HrS, HO⟩ Hk
  iapply (copy_run I K κ c l ht) $$ [Hs Hw HtR HtS HO]
  · isplitr; · iexact Hc
    isplitl [Hs]; · iexact Hs
    isplitr; · iexact Hrel
    isplitl [Hw]; · iexact Hw
    isplitl [HtR]; · iexact HtR
    isplitr; · iexact HrR
    isplitl [HtS]; · iexact HtS
    isplitr; · iexact HrS
    iexact HO
  iintro ⟨HO, Hcr⟩
  iapply Hk
  isplitl [Hcr] <;> iassumption

/-- Saying that what arrived up to round `n` has been read. -/
theorem say_run {n s : ℕ} (hn : n < 29) {k : BodyProg F} {Q : PUnit → sProp 𝕄} :
    iprop(ctx I K κ ∗ ready (up l c) ∗ facts l c (n + 1) ∗ creditTok l c n ∗ owing c (O + laneOwes l c s (n + 1)))
      ⊢ iprop((owing c (O + laneOwes l c s (n + 2)) -∗ run c k Q) -∗ run c (creditP (up l c) l k) Q) := by
  rw [laneOwes_credit l c (by omega : n + 1 < 30), ← add_assoc]
  unfold creditTok
  iintro ⟨#Hc, #Hrd, #Hf, Ht, HO⟩ Hk
  iapply (credit_run I K κ c l hn) $$ [Ht HO]
  · isplitr; · iexact Hc
    isplitr; · iexact Hrd
    isplitr; · iexact Hf
    isplitl [HO]; · iexact HO
    iexact Ht
  iexact Hk

/-! ## The rounds -/

/-- Before round 0. -/
def startSt (l : Fin 4) (c : Dev nD) : sProp 𝕄 :=
  iprop(recvAt l c 0 ∗ recvAt l c 1 ∗ bigSep (Finset.Ico 0 31) (recvCred l c) ∗ sendAt l c 0 ∗ sendAt l c 1
    ∗ sendOpen l c 0 ∗ sAny l 0 c ∗ sendOpen l c 1 ∗ sAny l 1 c ∗ granted l c 0 ∗ bigSep (Finset.Ico 1 30) (grantCred l c)
    ∗ bigSep (Finset.Ico 0 31) (copyTok l c) ∗ bigSep (Finset.Ico 0 29) (creditTok l c))

/-- Before round 1. -/
def firstSt (l : Fin 4) (c : Dev nD) : sProp 𝕄 :=
  iprop(recvAt l c 0 ∗ recvAt l c 1 ∗ bigSep (Finset.Ico 0 31) (recvCred l c) ∗ sendAt l c 0 ∗ sendAt l c 1
    ∗ sentCred l c 0 ∗ sendOpen l c 1 ∗ sAny l 1 c ∗ granted l c 0 ∗ bigSep (Finset.Ico 1 30) (grantCred l c)
    ∗ bigSep (Finset.Ico 1 31) (copyTok l c) ∗ bigSep (Finset.Ico 0 29) (creditTok l c))

/-- Before round `t + 2`. -/
def midSt (t : ℕ) (l : Fin 4) (c : Dev nD) : sProp 𝕄 :=
  iprop(recvAt l c (t + 1) ∗ recvAt l c (t + 2) ∗ bigSep (Finset.Ico (t + 1) 31) (recvCred l c) ∗ sendAt l c t ∗ sendAt l c (t + 1)
    ∗ sentCred l c t ∗ sentCred l c (t + 1) ∗ granted l c t ∗ bigSep (Finset.Ico (t + 1) 30) (grantCred l c)
    ∗ bigSep (Finset.Ico (t + 2) 31) (copyTok l c) ∗ bigSep (Finset.Ico (t + 1) 29) (creditTok l c) ∗ facts l c (t + 1))

/-- Before round 31. -/
def lastSt (l : Fin 4) (c : Dev nD) : sProp 𝕄 :=
  iprop(recvAt l c 30 ∗ recvCred l c 30 ∗ recvDone l c 29 ∗ sendAt l c 29 ∗ sendAt l c 30 ∗ sentCred l c 29 ∗ sentCred l c 30
    ∗ atPos ER (creditCell l c) 1 ∅ 0)

/-- After round 31. -/
def storedSt (l : Fin 4) (c : Dev nD) : sProp 𝕄 :=
  iprop(recvDone l c 30 ∗ recvDone l c 29 ∗ sendAt l c 29 ∗ sendAt l c 30 ∗ sentCred l c 29 ∗ sentCred l c 30
    ∗ atPos ER (creditCell l c) 1 ∅ 0)

/-- At the end. -/
def endSt (l : Fin 4) (c : Dev nD) : sProp 𝕄 :=
  iprop(recvDone l c 30 ∗ recvDone l c 29 ∗ sendAt l c 31 ∗ sendAt l c 32 ∗ sAny l 1 c ∗ sAny l 0 c
    ∗ atPos ER (creditCell l c) 1 ∅ 0)

/-- Round 0. -/
theorem lane0_run {k : BodyProg F} {Q : PUnit → sProp 𝕄} :
    iprop((ctx I K κ ∗ ready (down l c) ∗ ready (up l c)) ∗ startSt l c ∗ owing c (O + laneOwes l c 0 1))
      ⊢ iprop(((firstSt l c ∗ owing c (O + laneOwes l c 1 1)) -∗ run c k Q)
        -∗ run c (lane0P (down l c) l (I.part l c 0) k) Q) := by
  unfold startSt firstSt lane0P
  rw [bigSep_Ico_succ_bot (by omega : 0 < 31) (copyTok l c)]
  iintro ⟨⟨#Hc, #Hd, -⟩, ⟨Hr0, Hr1, Hrc, Ha0, Ha1, #Ho0, Hs0, Ho1, Hs1, Hg, Hgc, ⟨Hct, Hcts⟩, Hk⟩, HO⟩ HQ
  iapply (put_run c l 0 (firstVal (I.part l c 0))) $$ Hs0
  iintro Hs0
  iapply (start_run I K κ c l (t := 0) (u := 1) rfl (Nat.zero_le _)) $$ [Hs0 Hct HO]
  · isplitr; · iexact Hc
    isplitl [Hs0]; · iexact Hs0
    isplitr; · iapply (ready_first l (down l c) Nat.two_pos); iexact Hd
    isplitl [Hct]; · iexact Hct
    isplitr; · iexact Ho0
    iexact HO
  iintro ⟨Hsc, HO⟩
  iapply HQ
  isplitr [HO]
  · isplitl [Hr0]; · iexact Hr0
    isplitl [Hr1]; · iexact Hr1
    isplitl [Hrc]; · iexact Hrc
    isplitl [Ha0]; · iexact Ha0
    isplitl [Ha1]; · iexact Ha1
    isplitl [Hsc]; · iexact Hsc
    isplitl [Ho1]; · iexact Ho1
    isplitl [Hs1]; · iexact Hs1
    isplitl [Hg]; · iexact Hg
    isplitl [Hgc]; · iexact Hgc
    isplitl [Hcts]; · iexact Hcts
    iexact Hk
  iexact HO

theorem facts_zero (l : Fin 4) (d : Dev nD) : (facts l d 0 : sProp 𝕄) = iprop(emp) := by
  unfold facts; rw [Finset.range_zero, bigSep_empty]; rfl

/-- Round 1. -/
theorem lane1_run (hO : Above 2 O) {k : BodyProg F} {Q : PUnit → sProp 𝕄} :
    iprop((ctx I K κ ∗ ready (down l c) ∗ ready (up l c)) ∗ firstSt l c ∗ owing c (O + laneOwes l c 1 1))
      ⊢ iprop(((midSt 0 l c ∗ owing c (O + laneOwes l c 2 2)) -∗ run c k Q)
        -∗ run c (lane1P (down l c) (up l c) l (I.part l c 1) k) Q) := by
  unfold firstSt midSt lane1P
  rw [bigSep_Ico_succ_bot (by omega : 1 < 31) (copyTok l c), bigSep_Ico_succ_bot (by omega : 0 < 31) (recvCred l c),
    bigSep_Ico_succ_bot (by omega : 0 < 29) (creditTok l c)]
  have hA : Above (0 + 2) (O + laneOwes l c 1 1) := hO.add (above_lane l c (by omega) (by omega))
  iintro ⟨⟨#Hc, #Hd, #Hu⟩, ⟨Hr0, Hr1, ⟨Hrc, Hrcs⟩, Ha0, Ha1, Hsc0, #Ho1, Hs1, Hg, Hgc, ⟨Hct, Hcts⟩, ⟨Hk, Hks⟩⟩, HO⟩ HQ
  iapply (recv_run I K κ c l (t := 0) (Nat.zero_le _) hA) $$ [Hr0 Hrc HO]
  · isplitr; · iexact Hc
    isplitl [Hr0]; · iexact Hr0
    isplitl [Hrc]; · iexact Hrc
    isplitr; · rw [facts_zero]; iempintro
    iexact HO
  iintro ⟨Hr0, #Hf, HO⟩
  iapply (say_run I K κ c l (n := 0) (s := 1) (by omega : 0 < 29)) $$ [Hk HO]
  · isplitr; · iexact Hc
    isplitr; · iexact Hu
    isplitr; · iexact Hf
    isplitl [Hk]; · iexact Hk
    iexact HO
  iintro HO
  iapply (put_run c l 1 (nextVal (I.part l c 1) (I.val l 0 (up l c)))) $$ Hs1
  iintro Hs1
  iapply (start_run I K κ c l (t := 1) (u := 2) rfl (by omega)) $$ [Hs1 Hct HO]
  · isplitr; · iexact Hc
    isplitl [Hs1]; · iexact Hs1
    isplitr; · iapply (ready_first l (down l c) Nat.one_lt_two); iexact Hd
    isplitl [Hct]; · iexact Hct
    isplitr; · iexact Ho1
    iexact HO
  iintro ⟨Hsc, HO⟩
  iapply HQ
  isplitr [HO]
  · isplitl [Hr1]; · iexact Hr1
    isplitl [Hr0]; · iexact Hr0
    isplitl [Hrcs]; · iexact Hrcs
    isplitl [Ha0]; · iexact Ha0
    isplitl [Ha1]; · iexact Ha1
    isplitl [Hsc0]; · iexact Hsc0
    isplitl [Hsc]; · iexact Hsc
    isplitl [Hg]; · iexact Hg
    isplitl [Hgc]; · iexact Hgc
    isplitl [Hcts]; · iexact Hcts
    isplitl [Hks]; · iexact Hks
    iexact Hf
  iexact HO

/-- Round `t + 2`, from 2 to 29. -/
theorem laneMid_run {t : ℕ} (ht : t < 28) (hO : Above (t + 3) O) {k : BodyProg F} {Q : PUnit → sProp 𝕄} :
    iprop((ctx I K κ ∗ ready (down l c) ∗ ready (up l c)) ∗ midSt t l c ∗ owing c (O + laneOwes l c (t + 2) (t + 2)))
      ⊢ iprop(((midSt (t + 1) l c ∗ owing c (O + laneOwes l c (t + 3) (t + 3))) -∗ run c k Q)
        -∗ run c (laneMidP (down l c) (up l c) l (par (t + 1)) (par t) (I.part l c (t + 2)) k) Q) := by
  unfold midSt laneMidP
  rw [bigSep_Ico_succ_bot (by omega : t + 2 < 31) (copyTok l c), bigSep_Ico_succ_bot (by omega : t + 1 < 31) (recvCred l c),
    bigSep_Ico_succ_bot (by omega : t + 1 < 29) (creditTok l c), bigSep_Ico_succ_bot (by omega : t + 1 < 30) (grantCred l c)]
  have hA : Above (t + 1 + 2) (O + laneOwes l c (t + 2) (t + 2)) := hO.add (above_lane l c (by omega) (by omega))
  have hB : Above 0 (O + laneOwes l c (t + 2) (t + 3)) := (hO.mono (by omega)).add (above_lane l c (by omega) (by omega))
  have hC : Above (t + 3) (O + laneOwes l c (t + 2) (t + 3)) := hO.add (above_lane l c (by omega) (by omega))
  iintro ⟨⟨#Hc, #Hd, #Hu⟩, ⟨Hr0, Hr1, ⟨Hrc, Hrcs⟩, Ha0, Ha1, Hsc0, Hsc1, Hg, ⟨Hgc, Hgcs⟩, ⟨Hct, Hcts⟩, ⟨Hk, Hks⟩, #Hf⟩, HO⟩ HQ
  iapply (recv_run I K κ c l (t := t + 1) (by omega) hA) $$ [Hr0 Hrc HO]
  · isplitr; · iexact Hc
    isplitl [Hr0]; · iexact Hr0
    isplitl [Hrc]; · iexact Hrc
    isplitr; · iexact Hf
    iexact HO
  iintro ⟨Hr0, #Hf', HO⟩
  iapply (say_run I K κ c l (n := t + 1) (s := t + 2) (by omega : t + 1 < 29)) $$ [Hk HO]
  · isplitr; · iexact Hc
    isplitr; · iexact Hu
    isplitr; · iexact Hf'
    isplitl [Hk]; · iexact Hk
    iexact HO
  iintro HO
  iapply (out_run I K κ c l (t := t) rfl (by omega) hB) $$ [Ha0 Hsc0 HO]
  · isplitr; · iexact Hc
    isplitl [Ha0]; · iexact Ha0
    isplitl [Hsc0]; · iexact Hsc0
    iexact HO
  iintro ⟨Ha0, #Ho, Hs, HO⟩
  iapply (put_run c l (par t) (nextVal (I.part l c (t + 2)) (I.val l (t + 1) (up l c)))) $$ Hs
  iintro Hs
  iapply (grant_run I K κ c l ht hC) $$ [Hgc Hg HO]
  · isplitr; · iexact Hc
    isplitl [Hgc]; · unfold grantCred; iexact Hgc
    isplitl [HO]; · iexact HO
    iexact Hg
  iintro ⟨HO, Hg, #Hfree⟩
  ihave #Hfree := (Entails.of_eq (fact_slotFree l (down l c) t)) $$ Hfree
  iapply (start_run I K κ c l (t := t + 2) (u := t + 3) (par_add_two t) (by omega)) $$ [Hs Hct HO]
  · isplitr; · iexact Hc
    isplitl [Hs]; · iexact Hs
    isplitr; · iexact Hfree
    isplitl [Hct]; · iexact Hct
    isplitr; · iexact Ho
    iexact HO
  iintro ⟨Hsc, HO⟩
  iapply HQ
  isplitr [HO]
  · isplitl [Hr1]; · iexact Hr1
    isplitl [Hr0]; · iexact Hr0
    isplitl [Hrcs]; · iexact Hrcs
    isplitl [Ha1]; · iexact Ha1
    isplitl [Ha0]; · iexact Ha0
    isplitl [Hsc1]; · iexact Hsc1
    isplitl [Hsc]; · iexact Hsc
    isplitl [Hg]; · iexact Hg
    isplitl [Hgcs]; · iexact Hgcs
    isplitl [Hcts]; · iexact Hcts
    isplitl [Hks]; · iexact Hks
    iexact Hf'
  iexact HO

/-- Round 30. -/
theorem lane30_run (hO : Above 31 O) {k : BodyProg F} {Q : PUnit → sProp 𝕄} :
    iprop((ctx I K κ ∗ ready (down l c) ∗ ready (up l c)) ∗ midSt 28 l c ∗ owing c (O + laneOwes l c 30 30))
      ⊢ iprop(((lastSt l c ∗ owing c (O + laneOwes l c 31 30)) -∗ run c k Q)
        -∗ run c (lane30P (down l c) l (I.part l c 30) k) Q) := by
  unfold midSt lastSt lane30P
  rw [bigSep_Ico_succ_bot (by omega : 28 + 1 < 31) (recvCred l c), bigSep_Ico_one 30 (recvCred l c), bigSep_Ico_one 30 (copyTok l c),
    bigSep_Ico_one 29 (grantCred l c)]
  have hA : Above (29 + 2) (O + laneOwes l c 30 30) := hO.add (above_lane l c (by omega) (by omega))
  have hB : Above 0 (O + laneOwes l c 30 30) := hA.mono (by omega)
  iintro ⟨⟨#Hc, -, -⟩, ⟨Hr0, Hr1, ⟨Hrc, Hrc'⟩, Ha0, Ha1, Hsc0, Hsc1, Hg, Hgc, Hct, -, -⟩, HO⟩ HQ
  iapply (recv_last I K κ c l (t := 29) (by omega) hA) $$ [Hr0 Hrc HO]
  · isplitr; · iexact Hc
    isplitl [Hr0]; · iexact Hr0
    isplitl [Hrc]; · iexact Hrc
    iexact HO
  iintro ⟨Hr0, HO⟩
  iapply (out_run I K κ c l (t := 28) (p := 0) rfl (by omega) hB) $$ [Ha0 Hsc0 HO]
  · isplitr; · iexact Hc
    isplitl [Ha0]; · iexact Ha0
    isplitl [Hsc0]; · iexact Hsc0
    iexact HO
  iintro ⟨Ha0, #Ho, Hs, HO⟩
  iapply (put_run c l 0 (nextVal (I.part l c 30) (I.val l 29 (up l c)))) $$ Hs
  iintro Hs
  iapply (grant_last I K κ c l hA) $$ [Hgc Hg HO]
  · isplitr; · iexact Hc
    isplitl [Hgc]; · unfold grantCred; iexact Hgc
    isplitl [HO]; · iexact HO
    iexact Hg
  iintro ⟨HO, Hg, #Hfree⟩
  ihave #Hfree := (Entails.of_eq (fact_slotFree l (down l c) 28)) $$ Hfree
  iapply (start_run I K κ c l (t := 30) (u := 30) rfl (by omega)) $$ [Hs Hct HO]
  · isplitr; · iexact Hc
    isplitl [Hs]; · iexact Hs
    isplitr; · iexact Hfree
    isplitl [Hct]; · iexact Hct
    isplitr; · iexact Ho
    iexact HO
  iintro ⟨Hsc, HO⟩
  iapply HQ
  isplitr [HO]
  · isplitl [Hr1]; · iexact Hr1
    isplitl [Hrc']; · iexact Hrc'
    isplitl [Hr0]; · iexact Hr0
    isplitl [Ha1]; · iexact Ha1
    isplitl [Ha0]; · iexact Ha0
    isplitl [Hsc1]; · iexact Hsc1
    isplitl [Hsc]; · iexact Hsc
    iexact Hg
  iexact HO

/-- The last two waits. -/
theorem drain_run (hO : Above 0 O) {k : BodyProg F} {Q : PUnit → sProp 𝕄} :
    iprop(ctx I K κ ∗ storedSt l c ∗ owing c O)
      ⊢ iprop(((endSt l c ∗ owing c O) -∗ run c k Q) -∗ run c (sentP l 1 <| sentP l 0 k) Q) := by
  unfold storedSt endSt
  iintro ⟨#Hc, ⟨Hr0, Hr1, Ha0, Ha1, Hsc0, Hsc1, Hg⟩, HO⟩ HQ
  iapply (out_run I K κ c l (t := 29) (p := 1) rfl (by omega) hO) $$ [Ha0 Hsc0 HO]
  · isplitr; · iexact Hc
    isplitl [Ha0]; · iexact Ha0
    isplitl [Hsc0]; · iexact Hsc0
    iexact HO
  iintro ⟨Ha0, -, Hs0, HO⟩
  iapply (out_run I K κ c l (t := 30) (p := 0) rfl (by omega) hO) $$ [Ha1 Hsc1 HO]
  · isplitr; · iexact Hc
    isplitl [Ha1]; · iexact Ha1
    isplitl [Hsc1]; · iexact Hsc1
    iexact HO
  iintro ⟨Ha1, -, Hs1, HO⟩
  iapply HQ
  isplitr [HO]
  · isplitl [Hr0]; · iexact Hr0
    isplitl [Hr1]; · iexact Hr1
    isplitl [Ha0]; · iexact Ha0
    isplitl [Ha1]; · iexact Ha1
    isplitl [Hs0]; · iexact Hs0
    isplitl [Hs1]; · iexact Hs1
    iexact Hg
  iexact HO

end Rounds

end Cert.Proof

end
-- ==== Proof.Unroll.lean ====
/- The printed body is the loop. -/
module

public import proofs.«01_k».proof.Proof.Program

@[expose] public section

noncomputable section

namespace Cert.Proof

open Idealize.ShloMosaic Idealize.SL.Sem
open Cert.KernelIdeal Cert.KernelIdeal.Gen

variable {F : FTy → Type} [FloatOps F]

set_option maxRecDepth 100000 in
set_option maxHeartbeats 0 in
/-- The printed body is the loop: its rounds written out one after another. -/
theorem bodyAt0_eq (t : Fin cfg0.N) : bodyAt0 (F := F) t = bodyP t := rfl

end Cert.Proof

end
-- ==== Proof.Body.lean ====
/- The body: the windows it reads, the four lanes of a round together, the rounds in order. -/
module

public import proofs.«01_k».proof.Proof.Lanes
public import proofs.«01_k».proof.Proof.Unroll

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => M₀ F

/-! ## Reading and writing a memref by its contents -/

/-- A load reads the contents at the rectangle. -/
theorem load_owns (c : Dev nD) {sp : CoreSpace} {s : Shape} {e : EltTy} (m : Memref sig .tc sp s e) (r : LoadRect s) (X : s.Idx → Elt F e)
    {hl : m.view.LoadsAt r} {k : (r.shape.Idx → Elt F e) → BodyProg F} {Q : PUnit → sProp 𝕄} :
    (owns (c : Thread nD τ) m fullShare X : sProp 𝕄)
      ⊢ iprop((owns (c : Thread nD τ) m fullShare X -∗ run c (k fun i => X (r.idx i)) Q) -∗ run c (.op (.load m r hl) k) Q) := by
  have hS : m.view.setOn r.set ⊆ m.view.set := m.view.setOn_subset_set _
  unfold owns
  iintro ⟨%f, %hf, H⟩ Hk
  subst hf
  iapply (wp_load 𝒱₀ (c : Thread nD τ) none Set.univ (m := m) (r := r) (q := fullShare) (f := f) (S := m.view.set) hS) $$ H
  iintro H
  iapply Hk
  iexists f
  isplitr; · ipureintro; rfl
  iexact H

/-- Reading one word reads the contents at its index. -/
theorem word_owns (c : Dev nD) {s : Shape} {e : EltTy} (m : Memref sig .tc .smem s e) (r : Rect s) (X : s.Idx → Elt F e)
    {hl : (m.access r).Loads} (x : r.shape.Idx) {k : Elt F e → BodyProg F} {Q : PUnit → sProp 𝕄} :
    (owns (c : Thread nD τ) m fullShare X : sProp 𝕄)
      ⊢ iprop((owns (c : Thread nD τ) m fullShare X -∗ run c (k (X (r.emb x))) Q) -∗ run c (smemLoadElt m r hl x k) Q) := by
  have hS : (m.access r).set ⊆ m.view.set := by
    show (m.view.slice r).set ⊆ m.view.set
    rw [View.set_slice]; exact m.view.setOn_subset_set _
  unfold owns
  iintro ⟨%f, %hf, H⟩ Hk
  subst hf
  iapply (wp_smemLoadElt 𝒱₀ (c : Thread nD τ) none Set.univ (m := m) (r := r) (x := x) (q := fullShare) (f := f) (S := m.view.set) hS) $$ H
  iintro H
  iapply Hk
  iexists f
  isplitr; · ipureintro; rfl
  iexact H

/-- A store into a rectangle: the contents there are the payload, elsewhere what they were. -/
theorem store_owns (c : Dev nD) {sp : CoreSpace} {s : Shape} {e : EltTy} (m : Memref sig .tc sp s e) (r : Rect s) (X : s.Idx → Elt F e)
    (w : r.shape.Idx → Elt F e) {h1 : (m.access r).Stores Finset.univ} {h2} {k : PUnit → BodyProg F} {Q : PUnit → sProp 𝕄} :
    (owns (c : Thread nD τ) m fullShare X : sProp 𝕄)
      ⊢ iprop(((∃ Y, ⌜(∀ x, Y (r.emb x) = w x) ∧ ∀ y, (∀ x, r.emb x ≠ y) → Y y = X y⌝ ∗ owns (c : Thread nD τ) m fullShare Y) -∗ run c (k ⟨⟩) Q)
        -∗ run c (.op (.store m r w Finset.univ h1 h2) k) Q) := by
  have hS : (m.access r).setOn Finset.univ ⊆ m.view.set := by
    show (m.view.slice r).setOn Finset.univ ⊆ m.view.set
    rw [View.setOn_univ, View.set_slice]; exact m.view.setOn_subset_set _
  unfold owns
  iintro ⟨%f, %hf, H⟩ Hk
  subst hf
  iapply (wp_store 𝒱₀ (c : Thread nD τ) none Set.univ (m := m) (r := r) (w := w) (Mk := Finset.univ) (f := f) (S := m.view.set) hS) $$ H
  iintro H
  iapply Hk
  iexists (m.view.read (Elt F) ((m.view.slice r).write (Elt F) f w Finset.univ))
  isplitr
  · ipureintro
    refine ⟨fun x => View.read_slice_write_emb _ f w (Finset.mem_univ x), fun y hy => View.read_slice_write_of_not_mem _ f w _ ?_⟩
    rw [Finset.mem_map]
    rintro ⟨x, -, hx⟩
    exact hy x hx
  iexists _
  isplitr; · ipureintro; rfl
  iexact H

/-! ## The windows -/

/-- The word tables: the neighbours and the order of the chunks. -/
def leftTab (c : Dev nD) : Vec F S1 .i32 := fun _ => word (leftOf c)
def rightTab (c : Dev nD) : Vec F S1 .i32 := fun _ => word (rightOf c)
def cwTab (c : Dev nD) : Vec F S32 .i32 := fun i => word (cwChunk c (Fin.ofNat 32 (i 0).val))
def ccwTab (c : Dev nD) : Vec F S32 .i32 := fun i => word (ccwChunk c (Fin.ofNat 32 (i 0).val))

variable (I : Ins F) (K : GSem nD τ sig → ℕ) (κ : Key → ℕ)

/-- What the rounds read: the columns of `x` and the two orders of the chunks. -/
def tabs (c : Dev nD) (t : Fin cfg0.N) : sProp 𝕄 :=
  iprop(owns (c : Thread nD τ) (st0_0 t) fullShare (I.x c) ∗ owns (c : Thread nD τ) (st0_6 t) fullShare (cwTab c)
    ∗ owns (c : Thread nD τ) (st0_7 t) fullShare (ccwTab c))

/-- Reading the two chunks of a round. -/
theorem chunks_run (c : Dev nD) (t : Fin cfg0.N) (s : Fin 32)
    {k : Vec F S128x128 .fp8e5m2 → Vec F S128x128 .fp8e5m2 → BodyProg F} {Q : PUnit → sProp 𝕄} :
    tabs I c t ⊢ iprop((tabs I c t -∗ run c (k (chunk (I.x c) (cwChunk c s)) (chunk (I.x c) (ccwChunk c s))) Q)
      -∗ run c (chunksP t s k) Q) := by
  have e1 : ∀ x, cwTab (F := F) c ((Rect.unit (s := S32) ![s.val] S1.size (x_inb s)).emb x) = word (cwChunk c s) := fun x => by
    unfold cwTab
    have hx : (x 0).val = 0 := by have : (x 0).val < 1 := (x 0).isLt; omega
    have : ((Rect.unit (s := S32) ![s.val] S1.size (x_inb s)).emb x 0).val = s.val + 1 * (x 0).val := rfl
    rw [this, hx, Nat.mul_zero, Nat.add_zero]
    congr 2
    exact Fin.ext (Nat.mod_eq_of_lt s.isLt)
  have e2 : ∀ x, ccwTab (F := F) c ((Rect.unit (s := S32) ![s.val] S1.size (x_inb s)).emb x) = word (ccwChunk c s) := fun x => by
    unfold ccwTab
    have hx : (x 0).val = 0 := by have : (x 0).val < 1 := (x 0).isLt; omega
    have : ((Rect.unit (s := S32) ![s.val] S1.size (x_inb s)).emb x 0).val = s.val + 1 * (x 0).val := rfl
    rw [this, hx, Nat.mul_zero, Nat.add_zero]
    congr 2
    exact Fin.ext (Nat.mod_eq_of_lt s.isLt)
  unfold tabs chunksP
  iintro ⟨Hx, Hcw, Hccw⟩ Hk
  iapply (word_owns c (st0_6 t) (Rect.unit (s := S32) ![s.val] S1.size (x_inb s)) (cwTab c)
    (Shape.Idx.first (numel1_S1.symm ▸ Nat.one_pos))) $$ Hcw
  iintro Hcw
  rw [e1]
  iapply (wp_assume 𝒱₀ (c : Thread nD τ) none Set.univ (chk3_word (cwChunk c s)))
  iapply (word_owns c (st0_7 t) (Rect.unit (s := S32) ![s.val] S1.size (x_inb s)) (ccwTab c)
    (Shape.Idx.first (numel1_S1.symm ▸ Nat.one_pos))) $$ Hccw
  iintro Hccw
  rw [e2]
  iapply (wp_assume 𝒱₀ (c : Thread nD τ) none Set.univ (chk3_word (ccwChunk c s)))
  iapply (load_owns c (st0_0 t) _ (I.x c)) $$ Hx
  iintro Hx
  iapply (load_owns c (st0_0 t) _ (I.x c)) $$ Hx
  iintro Hx
  iapply Hk
  isplitl [Hx]; · iexact Hx
  isplitl [Hcw] <;> iassumption

/-! ## Four lanes -/

/-- A round of four lanes, from one lane's run under whatever the others owe. -/
theorem lanes_run (c : Dev nD) (n : ℕ) {Γ : sProp 𝕄} [BI.Persistent Γ] {A B : Fin 4 → sProp 𝕄} {X Y : Fin 4 → CellTallies nD τ sig ℕ}
    {f : Fin 4 → BodyProg F → BodyProg F} (hX : ∀ l, Above n (X l)) (hY : ∀ l, Above n (Y l))
    (hf : ∀ l O (k : BodyProg F) (Q : PUnit → sProp 𝕄), Above n O →
      iprop(Γ ∗ A l ∗ owing c (O + X l)) ⊢ iprop(((B l ∗ owing c (O + Y l)) -∗ run c k Q) -∗ run c (f l k) Q))
    {k : BodyProg F} {Q : PUnit → sProp 𝕄} :
    iprop(Γ ∗ bigSep Finset.univ A ∗ owing c (∑ l, X l))
      ⊢ iprop(((bigSep Finset.univ B ∗ owing c (∑ l, Y l)) -∗ run c k Q) -∗ run c (lanesP f k) Q) := by
  have h4 : ∀ Φ : Fin 4 → sProp 𝕄, bigSep Finset.univ Φ = iprop(Φ 0 ∗ Φ 1 ∗ Φ 2 ∗ Φ 3) := fun Φ =>
    bigSep_univ_eq_bigSepL [0, 1, 2, 3] (by decide) (by decide) Φ
  have q1 : ∑ l, X l = X 1 + X 2 + X 3 + X 0 := by rw [Fin.sum_univ_four]; abel
  have q2 : X 1 + X 2 + X 3 + Y 0 = Y 0 + X 2 + X 3 + X 1 := by abel
  have q3 : Y 0 + X 2 + X 3 + Y 1 = Y 0 + Y 1 + X 3 + X 2 := by abel
  have q4 : Y 0 + Y 1 + X 3 + Y 2 = Y 0 + Y 1 + Y 2 + X 3 := by abel
  have q5 : ∑ l, Y l = Y 0 + Y 1 + Y 2 + Y 3 := Fin.sum_univ_four _
  rw [h4 A, h4 B, q1, q5]
  unfold lanesP
  iintro ⟨#HΓ, ⟨A0, A1, A2, A3⟩, HO⟩ HQ
  iapply (hf 0 _ _ _ (((hX 1).add (hX 2)).add (hX 3))) $$ [A0 HO]
  · isplitr; · iexact HΓ
    isplitl [A0] <;> iassumption
  rw [q2]
  iintro ⟨B0, HO⟩
  iapply (hf 1 _ _ _ (((hY 0).add (hX 2)).add (hX 3))) $$ [A1 HO]
  · isplitr; · iexact HΓ
    isplitl [A1] <;> iassumption
  rw [q3]
  iintro ⟨B1, HO⟩
  iapply (hf 2 _ _ _ (((hY 0).add (hY 1)).add (hX 3))) $$ [A2 HO]
  · isplitr; · iexact HΓ
    isplitl [A2] <;> iassumption
  rw [q4]
  iintro ⟨B2, HO⟩
  iapply (hf 3 _ _ _ (((hY 0).add (hY 1)).add (hY 2))) $$ [A3 HO]
  · isplitr; · iexact HΓ
    isplitl [A3] <;> iassumption
  iintro ⟨B3, HO⟩
  iapply HQ
  isplitr [HO]
  · isplitl [B0]; · iexact B0
    isplitl [B1]; · iexact B1
    isplitl [B2] <;> iassumption
  iexact HO

/-- What the lanes know throughout: the invariants, and that the neighbours are ready. -/
def around (c : Dev nD) : sProp 𝕄 := iprop(ctx I K κ ∗ ready (leftOf c) ∗ ready (rightOf c))

instance around_persistent (c : Dev nD) : BI.Persistent (around I K κ c) := by unfold around; infer_instance

theorem around_lane (c : Dev nD) (l : Fin 4) : around I K κ c ⊢ iprop(ctx I K κ ∗ ready (down l c) ∗ ready (up l c)) := by
  unfold around
  iintro ⟨#Hc, #Hl, #Hr⟩
  isplitr; · iexact Hc
  match l with
  | 0 | 1 =>
    isplitr; · iexact Hr
    iexact Hl
  | 2 | 3 =>
    isplitr; · iexact Hl
    iexact Hr

/-- All lanes together owe this. -/
def allOwe (c : Dev nD) (s t : ℕ) : CellTallies nD τ sig ℕ := ∑ l : Fin 4, laneOwes l c s t

/-- One round: the chunks and the four lanes. -/
theorem round_run (c : Dev nD) (t : Fin cfg0.N) (s : ℕ) (n : ℕ) {s₁ s₂ t₁ t₂ : ℕ} {A B : Fin 4 → Dev nD → sProp 𝕄}
    {g : (l : Fin 4) → FVec F S128x512 .f32 → BodyProg F → BodyProg F} (h1 : n < s₁ + 2) (h2 : n < t₁ + 2) (h3 : s₁ ≤ s₂) (h4 : t₁ ≤ t₂)
    (hg : ∀ l O (k : BodyProg F) (Q : PUnit → sProp 𝕄), Above n O →
      iprop((ctx I K κ ∗ ready (down l c) ∗ ready (up l c)) ∗ A l c ∗ owing c (O + laneOwes l c s₁ t₁))
        ⊢ iprop(((B l c ∗ owing c (O + laneOwes l c s₂ t₂)) -∗ run c k Q) -∗ run c (g l (I.part l c s) k) Q))
    {k : BodyProg F} {Q : PUnit → sProp 𝕄} :
    iprop(around I K κ c ∗ tabs I c t ∗ bigSep Finset.univ (fun l => A l c) ∗ owing c (allOwe c s₁ t₁))
      ⊢ iprop(((tabs I c t ∗ bigSep Finset.univ (fun l => B l c) ∗ owing c (allOwe c s₂ t₂)) -∗ run c k Q)
        -∗ run c (chunksP t (Fin.ofNat 32 s) fun x₁ x₂ =>
            lanesP (fun l => g l (part x₁ x₂ (leftHalf (I.w c)) (rightHalf (I.w c)) l)) k) Q) := by
  unfold allOwe
  iintro ⟨#Hc, Ht, HA, HO⟩ HQ
  iapply (chunks_run I c t (Fin.ofNat 32 s)) $$ Ht
  iintro Ht
  iapply (lanes_run c n (Γ := around I K κ c) (A := fun l => A l c) (B := fun l => B l c) (X := fun l => laneOwes l c s₁ t₁)
    (Y := fun l => laneOwes l c s₂ t₂) (f := fun l => g l (I.part l c s)) (fun l => above_lane l c h1 h2)
    (fun l => above_lane l c (by omega) (by omega))
    (fun l O k Q hO => (sep_mono_left (around_lane I K κ c l)).trans (hg l O k Q hO))) $$ [HA HO]
  · isplitr; · iexact Hc
    isplitl [HA] <;> iassumption
  iintro ⟨HB, HO⟩
  iapply HQ
  isplitl [Ht]; · iexact Ht
  isplitl [HB] <;> iassumption

/-- The rounds from 2 to 29. -/
theorem mid_run (c : Dev nD) (t : Fin cfg0.N) {k : BodyProg F} {Q : PUnit → sProp 𝕄} : ∀ n u : ℕ, u + n = 28 →
    (iprop(around I K κ c ∗ tabs I c t ∗ bigSep Finset.univ (fun l => midSt u l c) ∗ owing c (allOwe c (u + 2) (u + 2)))
      ⊢ iprop(((tabs I c t ∗ bigSep Finset.univ (fun l => midSt 28 l c) ∗ owing c (allOwe c 30 30)) -∗ run c k Q)
        -∗ run c (midP t (leftOf c) (rightOf c) (leftHalf (I.w c)) (rightHalf (I.w c)) k n) Q))
  | 0, u, h => by
    obtain rfl : u = 28 := h
    iintro ⟨-, Ht, HA, HO⟩ HQ
    iapply HQ
    isplitl [Ht]; · iexact Ht
    isplitl [HA] <;> iassumption
  | n + 1, u, h => by
    have e1 : 29 - n = u + 2 := by omega
    have e2 : 28 - n = u + 1 := by omega
    show _ ⊢ iprop(_ -∗ run c (chunksP t (Fin.ofNat 32 (29 - n)) fun x₁ x₂ =>
      lanesP (fun l => laneMidP (down l c) (up l c) l (par (28 - n)) (par (29 - n))
        (part x₁ x₂ (leftHalf (I.w c)) (rightHalf (I.w c)) l))
        (midP t (leftOf c) (rightOf c) (leftHalf (I.w c)) (rightHalf (I.w c)) k n)) Q)
    rw [e1, e2, par_add_two]
    iintro ⟨#Hc, Ht, HA, HO⟩ HQ
    iapply (round_run I K κ c t (u + 2) (u + 3) (A := midSt u) (B := midSt (u + 1)) (s₂ := u + 1 + 2) (t₂ := u + 1 + 2)
      (g := fun l p k => laneMidP (down l c) (up l c) l (par (u + 1)) (par u) p k) (by omega) (by omega) (by omega) (by omega)
      (fun l O k Q hO => laneMid_run I K κ c l (by omega) hO)) $$ [Ht HA HO]
    · isplitr; · iexact Hc
      isplitl [Ht]; · iexact Ht
      isplitl [HA] <;> iassumption
    iintro ⟨Ht, HA, HO⟩
    iapply (mid_run c t n (u + 1) (by omega)) $$ [Ht HA HO]
    · isplitr; · iexact Hc
      isplitl [Ht]; · iexact Ht
      isplitl [HA] <;> iassumption
    iexact HQ

end Cert.Proof

end
-- ==== Proof.BodyRun.lean ====
/- The body from its first word to its last wait. -/
module

public import proofs.«01_k».proof.Proof.Body

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => M₀ F

variable (I : Ins F) (K : GSem nD τ sig → ℕ) (κ : Key → ℕ)

/-! ## The result -/

/-- What device `c` stores as its result: lane `l` gives columns `512 l` to `512 l + 511`. -/
def result (c : Dev nD) : Vec F S128x2048 .f32 := fun i =>
  I.out (Fin.ofNat 4 ((i 1).val / 512)) c (Shape.pair (d := ![128, 512]) (i 0) ⟨(i 1).val % 512, Nat.mod_lt _ (by decide)⟩)

theorem colOff_zero : ∀ l, colOff l 0 = 0 := by decide
theorem colOff_one : ∀ l, colOff l 1 = 512 * l.val := by decide

theorem colRect_zero (l : Fin 4) (x : S128x512.Idx) : ((colRect l).emb x 0).val = (x 0).val := by
  have : ((colRect l).emb x 0).val = colOff l 0 + 1 * (x 0).val := rfl
  rw [this, colOff_zero]; omega
theorem colRect_one (l : Fin 4) (x : S128x512.Idx) : ((colRect l).emb x 1).val = 512 * l.val + (x 1).val := by
  have : ((colRect l).emb x 1).val = colOff l 1 + 1 * (x 1).val := rfl
  rw [this, colOff_one]; omega

theorem col_lt (x : S128x512.Idx) : (x 1).val < 512 := (x 1).isLt

/-- Different lanes store different columns. -/
theorem colRect_ne {l l' : Fin 4} (h : l' ≠ l) (x x' : S128x512.Idx) : (colRect l).emb x ≠ (colRect l').emb x' := fun e => by
  have h1 := colRect_one l x
  have h2 := colRect_one l' x'
  rw [e] at h1
  have h3 := col_lt x
  have h4 := col_lt x'
  exact h (Fin.ext (by omega))

/-- The first `n` lanes have stored their columns. -/
def Stored (c : Dev nD) (n : ℕ) (Y : Vec F S128x2048 .f32) : Prop :=
  ∀ l : Fin 4, l.val < n → ∀ x, Y ((colRect l).emb x) = I.out l c x

/-- When all four have, the result is there. -/
theorem Stored.eq {c : Dev nD} {Y : Vec F S128x2048 .f32} (h : Stored I c 4 Y) : Y = result I c := by
  funext i
  have hi : (i 1).val < 2048 := (i 1).isLt
  have hl : (Fin.ofNat 4 ((i 1).val / 512)).val = (i 1).val / 512 := Nat.mod_eq_of_lt (by omega)
  have := h (Fin.ofNat 4 ((i 1).val / 512)) (by rw [hl]; omega)
    (Shape.pair (d := ![128, 512]) (i 0) ⟨(i 1).val % 512, Nat.mod_lt _ (by decide)⟩)
  unfold result
  rw [← this]
  congr 1
  funext a
  match a with
  | 0 =>
    refine Fin.ext (Eq.trans ?_ (colRect_zero (Fin.ofNat 4 ((i 1).val / 512))
      (Shape.pair (d := ![128, 512]) (i 0) ⟨(i 1).val % 512, Nat.mod_lt _ (by decide)⟩)).symm)
    rfl
  | 1 =>
    refine Fin.ext ((colRect_one _ _).trans ?_).symm
    rw [hl]
    show 512 * ((i 1).val / 512) + (i 1).val % 512 = _
    omega

/-- The result's window while the lanes store: the first `n` have. -/
def outSt (c : Dev nD) (t : Fin cfg0.N) (n : ℕ) : sProp 𝕄 :=
  iprop(∃ Y, ⌜Stored I c n Y⌝ ∗ owns (c : Thread nD τ) (st0_8 t) fullShare Y)

/-- Lane `l` in round 31. -/
theorem lane31_run (c : Dev nD) (t : Fin cfg0.N) (l : Fin 4) {k : BodyProg F} {Q : PUnit → sProp 𝕄} :
    iprop(ctx I K κ ∗ lastSt l c ∗ outSt I c t l.val ∗ owing c 0)
      ⊢ iprop(((storedSt l c ∗ outSt I c t (l.val + 1) ∗ owing c 0) -∗ run c k Q)
        -∗ run c (lane31P t (I.scale c) l (I.part l c 31) k) Q) := by
  unfold lastSt storedSt outSt lane31P
  iintro ⟨#Hc, ⟨Hr, Hrc, Hrest⟩, ⟨%Y, %hY, Hout⟩, HO⟩ HQ
  iapply (recv_last I K κ c l (t := 30) (le_refl 30) (above_zero 32)) $$ [Hr Hrc HO]
  · isplitr; · iexact Hc
    isplitl [Hr]; · iexact Hr
    isplitl [Hrc]; · iexact Hrc
    iexact HO
  iintro ⟨Hr, HO⟩
  iapply (load_owns c (st0_8 t) (colRect l).toLoadRect Y) $$ Hout
  iintro Hout
  iapply (store_owns c (st0_8 t) (colRect l) Y (lastVal (I.scale c) (I.part l c 31) (I.val l 30 (up l c)))) $$ Hout
  iintro ⟨%Y', %hY', Hout⟩
  iapply HQ
  isplitl [Hr Hrest]
  · isplitl [Hr]; · iexact Hr
    iexact Hrest
  isplitl [Hout]
  · iexists Y'
    isplitr
    · ipureintro
      intro l' hl' x
      by_cases e : l' = l
      · subst e; exact hY'.1 x
      · have hne : l'.val ≠ l.val := fun h => e (Fin.ext h)
        rw [hY'.2 _ fun x' => colRect_ne e x' x]
        exact hY l' (by omega) x
    iexact Hout
  iexact HO

theorem allOwe_end (c : Dev nD) : allOwe c 31 30 = 0 := by
  unfold allOwe
  exact Finset.sum_eq_zero fun l _ => laneOwes_end l c

/-- All rounds. -/
theorem rounds_run (c : Dev nD) (t : Fin cfg0.N) {Q : PUnit → sProp 𝕄} :
    iprop(around I K κ c ∗ tabs I c t ∗ bigSep Finset.univ (fun l => startSt l c) ∗ outSt I c t 0 ∗ owing c (allOwe c 0 1))
      ⊢ iprop(((tabs I c t ∗ bigSep Finset.univ (fun l => endSt l c) ∗ owns (c : Thread nD τ) (st0_8 t) fullShare (result I c) ∗ owing c 0)
          -∗ Q ⟨⟩)
        -∗ run c (roundsP t (leftOf c) (rightOf c) (leftHalf (I.w c)) (rightHalf (I.w c)) (I.scale c)) Q) := by
  have h4 : ∀ Φ : Fin 4 → sProp 𝕄, bigSep Finset.univ Φ = iprop(Φ 0 ∗ Φ 1 ∗ Φ 2 ∗ Φ 3) := fun Φ =>
    bigSep_univ_eq_bigSepL [0, 1, 2, 3] (by decide) (by decide) Φ
  have hd : ∀ (l : Fin 4) (O : CellTallies nD τ sig ℕ) (k : BodyProg F) (Q : PUnit → sProp 𝕄), Above 0 O →
      iprop(ctx I K κ ∗ storedSt l c ∗ owing c (O + 0))
        ⊢ iprop(((endSt l c ∗ owing c (O + 0)) -∗ run c k Q) -∗ run c (sentP l 1 <| sentP l 0 k) Q) := fun l O k Q hO => by
    rw [add_zero]; exact drain_run I K κ c l hO
  have hs : ∑ _l : Fin 4, (0 : CellTallies nD τ sig ℕ) = 0 := Finset.sum_const_zero
  unfold roundsP
  iintro ⟨#Hc, Ht, HA, Hout, HO⟩ HQ
  iapply (round_run I K κ c t 0 0 (A := startSt) (B := firstSt) (s₁ := 0) (t₁ := 1) (s₂ := 1) (t₂ := 1)
    (g := fun l p k => lane0P (down l c) l p k) (by omega) (by omega) (by omega) (by omega)
    (fun l O k Q _ => lane0_run I K κ c l)) $$ [Ht HA HO]
  · isplitr; · iexact Hc
    isplitl [Ht]; · iexact Ht
    isplitl [HA] <;> iassumption
  iintro ⟨Ht, HA, HO⟩
  iapply (round_run I K κ c t 1 2 (A := firstSt) (B := midSt 0) (s₁ := 1) (t₁ := 1) (s₂ := 2) (t₂ := 2)
    (g := fun l p k => lane1P (down l c) (up l c) l p k) (by omega) (by omega) (by omega) (by omega)
    (fun l O k Q hO => lane1_run I K κ c l hO)) $$ [Ht HA HO]
  · isplitr; · iexact Hc
    isplitl [Ht]; · iexact Ht
    isplitl [HA] <;> iassumption
  iintro ⟨Ht, HA, HO⟩
  iapply (mid_run I K κ c t 28 0 rfl) $$ [Ht HA HO]
  · isplitr; · iexact Hc
    isplitl [Ht]; · iexact Ht
    isplitl [HA] <;> iassumption
  iintro ⟨Ht, HA, HO⟩
  iapply (round_run I K κ c t 30 31 (A := midSt 28) (B := lastSt) (s₁ := 30) (t₁ := 30) (s₂ := 31) (t₂ := 30)
    (g := fun l p k => lane30P (down l c) l p k) (by omega) (by omega) (by omega) (by omega)
    (fun l O k Q hO => lane30_run I K κ c l hO)) $$ [Ht HA HO]
  · isplitr; · iexact Hc
    isplitl [Ht]; · iexact Ht
    isplitl [HA] <;> iassumption
  rw [allOwe_end, h4 fun l => lastSt l c]
  iintro ⟨Ht, ⟨A0, A1, A2, A3⟩, HO⟩
  iapply (chunks_run I c t (Fin.ofNat 32 31)) $$ Ht
  iintro Ht
  unfold around
  icases Hc with ⟨#Hc, -⟩
  unfold lanesP
  iapply (lane31_run I K κ c t 0) $$ [A0 Hout HO]
  · isplitr; · iexact Hc
    isplitl [A0]; · iexact A0
    isplitl [Hout]; · iexact Hout
    iexact HO
  iintro ⟨A0, Hout, HO⟩
  iapply (lane31_run I K κ c t 1) $$ [A1 Hout HO]
  · isplitr; · iexact Hc
    isplitl [A1]; · iexact A1
    isplitl [Hout]; · iexact Hout
    iexact HO
  iintro ⟨A1, Hout, HO⟩
  iapply (lane31_run I K κ c t 2) $$ [A2 Hout HO]
  · isplitr; · iexact Hc
    isplitl [A2]; · iexact A2
    isplitl [Hout]; · iexact Hout
    iexact HO
  iintro ⟨A2, Hout, HO⟩
  iapply (lane31_run I K κ c t 3) $$ [A3 Hout HO]
  · isplitr; · iexact Hc
    isplitl [A3]; · iexact A3
    isplitl [Hout]; · iexact Hout
    iexact HO
  iintro ⟨A3, Hout, HO⟩
  unfold drainP
  iapply (lanes_run c 0 (Γ := ctx I K κ) (A := fun l => storedSt l c) (B := fun l => endSt l c) (X := fun _ => 0) (Y := fun _ => 0)
    (fun _ => above_zero 0) (fun _ => above_zero 0) hd) $$ [A0 A1 A2 A3 HO]
  · rw [hs, h4 fun l => storedSt l c]
    isplitr; · iexact Hc
    isplitr [HO]
    · isplitl [A0]; · iexact A0
      isplitl [A1]; · iexact A1
      isplitl [A2] <;> iassumption
    iexact HO
  rw [hs]
  unfold run
  rw [wp_ret]
  iintro ⟨HA, HO⟩
  unfold outSt
  icases Hout with ⟨%Y, %hY, Hout⟩
  rw [show Y = result I c from Stored.eq I hY]
  imodintro
  iapply HQ
  isplitl [Ht]; · iexact Ht
  isplitl [HA]; · iexact HA
  isplitl [Hout] <;> iassumption

/-! ## The whole body -/

/-- Device `c` owes its neighbours a signal at the barrier, and everything its lanes do. -/
def owesAll (c : Dev nD) : CellTallies nD τ sig ℕ :=
  allOwe c 0 1 + tallyAt (barCell (rightOf c)) 0 1 + tallyAt (barCell (leftOf c)) 0 1

theorem above_allOwe (c : Dev nD) : Above 1 (allOwe c 0 1) :=
  Above.sum _ _ fun l _ => above_lane l c (by omega) (by omega)

/-- The rights at the barrier. -/
def barSt (c : Dev nD) : sProp 𝕄 :=
  iprop(dutyTok ER (barCell (leftOf c)) 0 1 ∗ reached ER (barCell (leftOf c)) 0
    ∗ dutyTok ER (barCell (rightOf c)) 0 0 ∗ reached ER (barCell (rightOf c)) 0
    ∗ atPos ER (barCell c) 0 ∅ 0 ∗ cred (tallyAt (barCell c) 0 2))

/-- A signal to a neighbour at the barrier. -/
theorem meet_run (c d : Dev nD) (i : ℕ) (O : CellTallies nD τ sig ℕ) (hi : i ∈ ({0, 1} : Finset ℕ))
    (hp : (if i = 0 then leftOf d else rightOf d) = c) {k : BodyProg F} {Q : PUnit → sProp 𝕄} :
    iprop(ctx I K κ ∗ ready c ∗ reached ER (barCell d) 0 ∗ dutyTok ER (barCell d) 0 i ∗ owing c (O + tallyAt (barCell d) 0 1))
      ⊢ iprop((owing c O -∗ run c k Q) -∗ run c (.op (.semSignal (d, .tc) barSem 1) fun _ => k) Q) := by
  have hd : i ∈ (rd I).duties (barCell d) 0 := by rw [duties_bar]; exact hi
  unfold owing
  iintro ⟨#Hc, #Hr, #Hre, Ht, ⟨%W, HO⟩⟩ Hk
  iapply (Rounds.wp_signal 𝒱₀ ER (rd I) (c : Thread nD τ) none (dst := (d : Thread nD τ)) (sem := barSem) (r := 0) (d := i)
      (κ := K (barCell d)) hd (amount_bar I d 0 i) 0 O rfl) $$ [HO Ht]
  · isplitr; · iapply (ctx_bar I K κ d); iexact Hc
    isplitl [HO]; · iexact HO
    isplitl [Ht]; · iexact Ht
    isplitr
    · rw [payload_bar, hp]; iexact Hr
    iexact Hre
  iintro HO
  iapply Hk; iexists W; iexact HO

/-- The wait at the barrier. -/
theorem met_run (c : Dev nD) (O : CellTallies nD τ sig ℕ) (hO : Above 1 O) {k : BodyProg F} {Q : PUnit → sProp 𝕄} :
    iprop(ctx I K κ ∗ cred (tallyAt (barCell c) 0 2) ∗ atPos ER (barCell c) 0 ∅ 0 ∗ owing c O)
      ⊢ iprop(((atPos ER (barCell c) 1 ∅ 0 ∗ ready (leftOf c) ∗ ready (rightOf c) ∗ owing c O) -∗ run c k Q)
        -∗ run c (.op (.semWait barSem 2) fun _ => k) Q) := by
  have hw := ctx_wait I K κ c (.reg barSem) (i := 0) (n := 1) (by omega) (lv_bar c 0).le hO
  unfold owing
  iintro ⟨#Hc, Hcr, Hat, ⟨%W, HO⟩⟩ Hk
  iapply (Rounds.wp_wait_rest_token 𝒱₀ ER (rd I) (c : Thread nD τ) none (κ := K (barCell c))
      (wpE_semWait_eq 𝒱₀ (c : Thread nD τ) none Set.univ) (Set.mem_univ _) 0 (O := O) (W := W) (R := 0) (m := 0) (T := ∅)
      (expect_bar I c).symm) $$ [Hcr HO Hat]
  · isplitr; · iapply (ctx_bar I K κ c); iexact Hc
    isplitl [Hcr]; · iexact Hcr
    isplitl [HO]; · iexact HO
    isplitr; · iapply hw; iexact Hc
    iexact Hat
  iintro ⟨HO, Hat, -, Hpay⟩
  ihave Hp := (Entails.of_eq (rest_bar I c)) $$ Hpay
  icases Hp with ⟨Hl, Hr⟩
  iapply Hk
  isplitl [Hat]; · iexact Hat
  isplitl [Hl]; · iexact Hl
  isplitl [Hr]; · iexact Hr
  iexists _; iexact HO

/-- The windows that only the beginning reads. -/
def heads (c : Dev nD) (t : Fin cfg0.N) : sProp 𝕄 :=
  iprop(owns (c : Thread nD τ) (st0_1 t) fullShare (I.w c) ∗ owns (c : Thread nD τ) (st0_2 t) fullShare (I.sx c)
    ∗ owns (c : Thread nD τ) (st0_3 t) fullShare (I.sw c) ∗ owns (c : Thread nD τ) (st0_4 t) fullShare (leftTab c)
    ∗ owns (c : Thread nD τ) (st0_5 t) fullShare (rightTab c))

theorem one_idx (i j : S1.Idx) : i = j := by
  funext a
  match a with
  | 0 =>
    have h1 : (i 0).val < 1 := (i 0).isLt
    have h2 : (j 0).val < 1 := (j 0).isLt
    exact Fin.ext (by omega)

/-- The word of the left neighbour, read, checked and used as a device. -/
theorem left_run (c d : Dev nD) (t : Fin cfg0.N) {k : Dev nD → BodyProg F} {Q : PUnit → sProp 𝕄} :
    (owns (c : Thread nD τ) (st0_4 t) fullShare (fun _ => word d) : sProp 𝕄)
      ⊢ iprop((owns (c : Thread nD τ) (st0_4 t) fullShare (fun _ => word d) -∗ run c (k d) Q)
        -∗ run c (smemLoadElt (st0_4 t) (Rect.unit (s := S1) ![0] S1.size inb_S1_S1_0) (View.loads_smem_one rfl numel1_S1)
            (Shape.Idx.first (numel1_S1.symm ▸ Nat.one_pos)) fun v =>
          .op (.assume (k0_chk1 v) (k0_chk1.dec v)) fun h => k (devOf v (k0_dev1_lt v h.down))) Q) := by
  iintro H Hk
  iapply (word_owns c (st0_4 t) _ (fun _ => word d) _
    (k := fun v => .op (.assume (k0_chk1 v) (k0_chk1.dec v)) fun h => k (devOf v (k0_dev1_lt v h.down)))) $$ H
  iintro H
  iapply (wp_assume 𝒱₀ (c : Thread nD τ) none Set.univ (chk1_word d))
  rw [devOf_word]
  iapply Hk $$ H

/-- The word of the right neighbour, read, checked and used as a device. -/
theorem right_run (c d : Dev nD) (t : Fin cfg0.N) {k : Dev nD → BodyProg F} {Q : PUnit → sProp 𝕄} :
    (owns (c : Thread nD τ) (st0_5 t) fullShare (fun _ => word d) : sProp 𝕄)
      ⊢ iprop((owns (c : Thread nD τ) (st0_5 t) fullShare (fun _ => word d) -∗ run c (k d) Q)
        -∗ run c (smemLoadElt (st0_5 t) (Rect.unit (s := S1) ![0] S1.size inb_S1_S1_0) (View.loads_smem_one rfl numel1_S1)
            (Shape.Idx.first (numel1_S1.symm ▸ Nat.one_pos)) fun v =>
          .op (.assume (k0_chk2 v) (k0_chk2.dec v)) fun h => k (devOf v (k0_dev2_lt v h.down))) Q) := by
  iintro H Hk
  iapply (word_owns c (st0_5 t) _ (fun _ => word d) _
    (k := fun v => .op (.assume (k0_chk2 v) (k0_chk2.dec v)) fun h => k (devOf v (k0_dev2_lt v h.down)))) $$ H
  iintro H
  iapply (wp_assume 𝒱₀ (c : Thread nD τ) none Set.univ (chk2_word d))
  iapply (show run c (k d) Q ⊢ run c (k (devOf (word d) (k0_dev2_lt (word d) (chk2_word d)))) Q from
    Entails.of_eq (congrArg (fun x => run c (k x) Q) (devOf_word d _).symm))
  iapply Hk $$ H

/-- The two halves of the rows of `w` and the two scales, read. -/
theorem halves_run (c : Dev nD) {p q r : CoreSpace} (mw : Memref sig .tc p S128x2048 .fp8e5m2) (mx : Memref sig .tc q S1 .f32)
    (my : Memref sig .tc r S1 .f32) {h₁ h₂ h₃ h₄} {k : Vec F S128x1024 .fp8e5m2 → Vec F S128x1024 .fp8e5m2 → F .f32 → BodyProg F}
    {Q : PUnit → sProp 𝕄} :
    (iprop(owns (c : Thread nD τ) mw fullShare (I.w c) ∗ owns (c : Thread nD τ) mx fullShare (I.sx c)
        ∗ owns (c : Thread nD τ) my fullShare (I.sw c)) : sProp 𝕄)
      ⊢ iprop(((owns (c : Thread nD τ) mw fullShare (I.w c) ∗ owns (c : Thread nD τ) mx fullShare (I.sx c)
          ∗ owns (c : Thread nD τ) my fullShare (I.sw c)) -∗ run c (k (leftHalf (I.w c)) (rightHalf (I.w c)) (I.scale c)) Q)
        -∗ run c (.op (.load mw (Rect.unit (s := S128x2048) ![0, 0] S128x1024.size inb_S128x2048_S128x1024_0_0).toLoadRect h₁) fun w₁ =>
          .op (.load mw (Rect.unit (s := S128x2048) ![0, 1024] S128x1024.size inb_S128x2048_S128x1024_0_1024).toLoadRect h₂) fun w₂ =>
          .op (.load mx (Rect.unit (s := S1) ![0] S1.size inb_S1_S1_0).toLoadRect h₃) fun x =>
          .op (.load my (Rect.unit (s := S1) ![0] S1.size inb_S1_S1_0).toLoadRect h₄) fun y => k w₁ w₂ (k0_pay3 x y)) Q) := by
  have hx : (fun i => I.sx c ((Rect.unit (s := S1) ![0] S1.size inb_S1_S1_0).toLoadRect.idx i)) = I.sx c :=
    funext fun i => congrArg (I.sx c) (one_idx _ _)
  have hy : (fun i => I.sw c ((Rect.unit (s := S1) ![0] S1.size inb_S1_S1_0).toLoadRect.idx i)) = I.sw c :=
    funext fun i => congrArg (I.sw c) (one_idx _ _)
  iintro ⟨Hw, Hx, Hy⟩ Hk
  iapply (load_owns c mw _ (I.w c)) $$ Hw
  iintro Hw
  iapply (load_owns c mw _ (I.w c)) $$ Hw
  iintro Hw
  iapply (load_owns c mx _ (I.sx c)) $$ Hx
  iintro Hx
  iapply (load_owns c my _ (I.sw c)) $$ Hy
  iintro Hy
  rw [hx, hy]
  iapply Hk
  isplitl [Hw]; · iexact Hw
  isplitl [Hx] <;> iassumption

/-- The body once the neighbours are known. -/
def knownP (t : Fin cfg0.N) (a b : Dev nD) : BodyProg F :=
  .op (.semSignal (a, .tc) barSem 1) fun _ =>
  .op (.semSignal (b, .tc) barSem 1) fun _ =>
  .op (.semWait barSem 2) fun _ =>
  .op (.load (st0_1 t) (Rect.unit (s := S128x2048) ![0, 0] S128x1024.size inb_S128x2048_S128x1024_0_0).toLoadRect
    (View.loadsAt_vmem h_S128x1024)) fun w₁ =>
  .op (.load (st0_1 t) (Rect.unit (s := S128x2048) ![0, 1024] S128x1024.size
    inb_S128x2048_S128x1024_0_1024).toLoadRect (View.loadsAt_vmem h_S128x1024)) fun w₂ =>
  .op (.load (st0_2 t) (Rect.unit (s := S1) ![0] S1.size inb_S1_S1_0).toLoadRect (View.loadsAt_vmem h_S1)) fun x =>
  .op (.load (st0_3 t) (Rect.unit (s := S1) ![0] S1.size inb_S1_S1_0).toLoadRect (View.loadsAt_vmem h_S1)) fun y =>
  roundsP t a b w₁ w₂ (k0_pay3 x y)

/-- What the body works with once it has read the neighbours' words. -/
def inputs (c : Dev nD) (t : Fin cfg0.N) : sProp 𝕄 :=
  iprop(owns (c : Thread nD τ) (st0_1 t) fullShare (I.w c) ∗ owns (c : Thread nD τ) (st0_2 t) fullShare (I.sx c)
    ∗ owns (c : Thread nD τ) (st0_3 t) fullShare (I.sw c))

/-- The body once the neighbours are known. -/
theorem known_run (c : Dev nD) (t : Fin cfg0.N) {Q : PUnit → sProp 𝕄} :
    iprop(ctx I K κ ∗ ready c ∗ barSt c ∗ inputs I c t ∗ tabs I c t ∗ bigSep Finset.univ (fun l => startSt l c)
        ∗ (∃ Y, owns (c : Thread nD τ) (st0_8 t) fullShare Y) ∗ owing c (owesAll c))
      ⊢ iprop(((atPos ER (barCell c) 1 ∅ 0 ∗ inputs I c t ∗ tabs I c t ∗ bigSep Finset.univ (fun l => endSt l c)
          ∗ owns (c : Thread nD τ) (st0_8 t) fullShare (result I c) ∗ owing c 0) -∗ Q ⟨⟩)
        -∗ run c (knownP t (leftOf c) (rightOf c)) Q) := by
  unfold barSt inputs knownP owesAll
  iintro ⟨#Hc, #Hrd, ⟨HtL, #HrL, HtR, #HrR, Hat, Hcr⟩, ⟨Hw, Hsx, Hsw⟩, Ht, HA, ⟨%Y, Hout⟩, HO⟩ HQ
  iapply (meet_run I K κ c (leftOf c) 1 _ (by decide) (right_left c)) $$ [HtL HO]
  · isplitr; · iexact Hc
    isplitr; · iexact Hrd
    isplitr; · iexact HrL
    isplitl [HtL] <;> iassumption
  iintro HO
  iapply (meet_run I K κ c (rightOf c) 0 _ (by decide) (left_right c)) $$ [HtR HO]
  · isplitr; · iexact Hc
    isplitr; · iexact Hrd
    isplitr; · iexact HrR
    isplitl [HtR] <;> iassumption
  iintro HO
  iapply (met_run I K κ c _ (above_allOwe c)) $$ [Hcr Hat HO]
  · isplitr; · iexact Hc
    isplitl [Hcr]; · iexact Hcr
    isplitl [Hat] <;> iassumption
  iintro ⟨Hat, #HL, #HR, HO⟩
  iapply (halves_run I c (st0_1 t) (st0_2 t) (st0_3 t) (k := roundsP t (leftOf c) (rightOf c))) $$ [Hw Hsx Hsw]
  · isplitl [Hw]; · iexact Hw
    isplitl [Hsx] <;> iassumption
  iintro ⟨Hw, Hsx, Hsw⟩
  iapply (rounds_run I K κ c t (Q := Q)) $$ [Ht HA Hout HO]
  · isplitr
    · unfold around
      isplitr; · iexact Hc
      isplitr; · iexact HL
      iexact HR
    isplitl [Ht]; · iexact Ht
    isplitl [HA]; · iexact HA
    isplitl [Hout]
    · unfold outSt
      iexists Y
      isplitr; · ipureintro; exact fun l h => absurd h (Nat.not_lt_zero _)
      iexact Hout
    iexact HO
  iintro ⟨Ht, HA, Hout, HO⟩
  iapply HQ
  isplitl [Hat]; · iexact Hat
  isplitl [Hw Hsx Hsw]
  · isplitl [Hw]; · iexact Hw
    isplitl [Hsx] <;> iassumption
  isplitl [Ht]; · iexact Ht
  isplitl [HA]; · iexact HA
  isplitl [Hout] <;> iassumption

/-- The body. -/
theorem body_run (c : Dev nD) (t : Fin cfg0.N) {Q : PUnit → sProp 𝕄} :
    iprop(ctx I K κ ∗ ready c ∗ barSt c ∗ heads I c t ∗ tabs I c t ∗ bigSep Finset.univ (fun l => startSt l c)
        ∗ (∃ Y, owns (c : Thread nD τ) (st0_8 t) fullShare Y) ∗ owing c (owesAll c))
      ⊢ iprop(((atPos ER (barCell c) 1 ∅ 0 ∗ heads I c t ∗ tabs I c t ∗ bigSep Finset.univ (fun l => endSt l c)
          ∗ owns (c : Thread nD τ) (st0_8 t) fullShare (result I c) ∗ owing c 0) -∗ Q ⟨⟩)
        -∗ run c (bodyP t) Q) := by
  unfold heads leftTab rightTab
  iintro ⟨#Hc, Hrd, Hb, ⟨Hw, Hsx, Hsw, Hl, Hr⟩, Ht, HA, Hout, HO⟩ HQ
  iapply (left_run c (leftOf c) t (k := fun a =>
    smemLoadElt (st0_5 t) (Rect.unit (s := S1) ![0] S1.size inb_S1_S1_0) (View.loads_smem_one rfl numel1_S1)
      (Shape.Idx.first (numel1_S1.symm ▸ Nat.one_pos)) fun v₁ =>
    .op (.assume (k0_chk2 v₁) (k0_chk2.dec v₁)) fun h₁ => knownP t a (devOf v₁ (k0_dev2_lt v₁ h₁.down)))) $$ Hl
  iintro Hl
  iapply (right_run c (rightOf c) t (k := fun b => knownP t (leftOf c) b)) $$ Hr
  iintro Hr
  iapply (known_run I K κ c t (Q := Q)) $$ [Hrd Hb Hw Hsx Hsw Ht HA Hout HO]
  · isplitr; · iexact Hc
    isplitl [Hrd]; · iexact Hrd
    isplitl [Hb]; · iexact Hb
    isplitl [Hw Hsx Hsw]
    · unfold inputs
      isplitl [Hw]; · iexact Hw
      isplitl [Hsx] <;> iassumption
    isplitl [Ht]; · iexact Ht
    isplitl [HA]; · iexact HA
    isplitl [Hout] <;> iassumption
  unfold inputs
  iintro ⟨Hat, ⟨Hw, Hsx, Hsw⟩, Ht, HA, Hout, HO⟩
  iapply HQ
  isplitl [Hat]; · iexact Hat
  isplitl [Hw Hsx Hsw Hl Hr]
  · isplitl [Hw]; · iexact Hw
    isplitl [Hsx]; · iexact Hsx
    isplitl [Hsw]; · iexact Hsw
    isplitl [Hl] <;> iassumption
  isplitl [Ht]; · iexact Ht
  isplitl [HA]; · iexact HA
  isplitl [Hout] <;> iassumption

end Cert.Proof

end
-- ==== Proof.Slots.lean ====
/- The scratch buffers as slots, and the cells opened and closed. -/
module

public import proofs.«01_k».proof.Proof.BodyRun
public import proofs.«01_k».proof.Proof.Gen.KernelIdeal.Launch

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => M₀ F

/-! ## A buffer is its two slots -/

theorem slots_disjoint : Disjoint (slotRect 0).set (slotRect 1).set :=
  Rect.unit_disjoint (0 : Fin 3) (Or.inl (by decide))

theorem slots_cover : (slotRect 0).set ∪ (slotRect 1).set = Finset.univ := by
  ext i
  simp only [Finset.mem_union, Finset.mem_univ, iff_true]
  have h0 : (i 0).val < 2 := (i 0).isLt
  have h1 : (i 1).val < 128 := (i 1).isLt
  have h2 : (i 2).val < 512 := (i 2).isLt
  by_cases h : (i 0).val = 0
  · left
    refine Rect.mem_set_unit.mpr fun a => ?_
    match a with
    | 0 => exact ⟨Nat.zero_le _, by show (i 0).val < 0 + 1; omega⟩
    | 1 => exact ⟨Nat.zero_le _, by show (i 1).val < 0 + 128; omega⟩
    | 2 => exact ⟨Nat.zero_le _, by show (i 2).val < 0 + 512; omega⟩
  · right
    refine Rect.mem_set_unit.mpr fun a => ?_
    match a with
    | 0 => exact ⟨by show 1 ≤ (i 0).val; omega, by show (i 0).val < 1 + 1; omega⟩
    | 1 => exact ⟨Nat.zero_le _, by show (i 1).val < 0 + 128; omega⟩
    | 2 => exact ⟨Nat.zero_le _, by show (i 2).val < 0 + 512; omega⟩

theorem both {P Q : sProp 𝕄} (h : P ⊢ Q) (h' : Q ⊢ P) : P = Q := Entails.antisymm h h'

theorem buf_slots {sp : Space} (v : View sig .tc sp S2x128x512 .bf16) (hv : v.set = Finset.univ) (c : Dev nD) :
    (iprop(∃ f : Buf (Elt F) (v.loc (c : Thread nD τ)), v.loc (c : Thread nD τ) ↦{fullShare} f) : sProp 𝕄)
      = iprop(Release.slot (v.loc (c : Thread nD τ)) (v.slice (slotRect 0)).set
        ∗ Release.slot (v.loc (c : Thread nD τ)) (v.slice (slotRect 1)).set) := by
  have hd : Disjoint (v.slice (slotRect 0)).set (v.slice (slotRect 1)).set := by
    rw [View.set_slice, View.set_slice]; exact (Finset.disjoint_map _).mpr slots_disjoint
  have hu : (v.slice (slotRect 0)).set ∪ (v.slice (slotRect 1)).set = Finset.univ := by
    rw [View.set_slice, View.set_slice, ← Finset.map_union, slots_cover]; exact hv
  unfold Release.slot
  refine both ?_ ?_
  · iintro ⟨%f, H⟩
    ihave H := (show ((v.loc (c : Thread nD τ) ↦{fullShare} f) : sProp 𝕄)
      ⊢ iprop((v.loc (c : Thread nD τ) ↦[(v.slice (slotRect 0)).set]{fullShare} f)
        ∗ v.loc (c : Thread nD τ) ↦[(v.slice (slotRect 1)).set]{fullShare} f) from by
          rw [← hu]; exact (pointsTo_union hd).1) $$ H
    icases H with ⟨H0, H1⟩
    isplitl [H0]
    · iexists f; iexact H0
    · iexists f; iexact H1
  · iintro ⟨⟨%f, H0⟩, ⟨%g, H1⟩⟩
    ihave H := (show iprop((v.loc (c : Thread nD τ) ↦[(v.slice (slotRect 0)).set]{fullShare} f)
        ∗ v.loc (c : Thread nD τ) ↦[(v.slice (slotRect 1)).set]{fullShare} g)
      ⊢ ((v.loc (c : Thread nD τ) ↦{fullShare} ((v.slice (slotRect 1)).set.piecewise g f)) : sProp 𝕄) from by
          rw [← hu]; exact pointsTo_join hd) $$ [H0 H1]
    · isplitl [H0] <;> iassumption
    iexists _; iexact H

theorem recvBuf_set : ∀ l, (recvBuf l).view.set = Finset.univ
  | 0 | 1 | 2 | 3 => View.set_whole _
theorem sendBuf_set : ∀ l, (sendBuf l).view.set = Finset.univ
  | 0 | 1 | 2 | 3 => View.set_whole _

theorem recv_slots (l : Fin 4) (c : Dev nD) :
    (iprop(∃ f : Buf (Elt F) ((recvBuf l).view.loc (c : Thread nD τ)), (recvBuf l).view.loc (c : Thread nD τ) ↦{fullShare} f) : sProp 𝕄)
      = iprop(rAny l 0 c ∗ rAny l 1 c) := by
  rw [buf_slots (recvBuf l).view (recvBuf_set l) c]
  unfold rAny
  rw [rslot_set, rslot_set]
theorem send_slots (l : Fin 4) (c : Dev nD) :
    (iprop(∃ f : Buf (Elt F) ((sendBuf l).view.loc (c : Thread nD τ)), (sendBuf l).view.loc (c : Thread nD τ) ↦{fullShare} f) : sProp 𝕄)
      = iprop(sAny l 0 c ∗ sAny l 1 c) := by
  rw [buf_slots (sendBuf l).view (sendBuf_set l) c]
  unfold sAny
  rw [sslot_set, sslot_set]

/-- Lane `l`'s four slots on device `c`. -/
def laneSlots (l : Fin 4) (c : Dev nD) : sProp 𝕄 := iprop((sAny l 0 c ∗ sAny l 1 c) ∗ rAny l 0 c ∗ rAny l 1 c)

theorem four {Φ : Fin 4 → sProp 𝕄} : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl
theorem five {Φ : Fin 5 → sProp 𝕄} : bigSep Finset.univ Φ = iprop(Φ 0 ∗ Φ 1 ∗ Φ 2 ∗ Φ 3 ∗ Φ 4) := by
  rw [show (Finset.univ : Finset (Fin 5)) = {0, 1, 2, 3, 4} from by decide, bigSep_insert (by decide), bigSep_insert (by decide),
    bigSep_insert (by decide), bigSep_insert (by decide), bigSep_singleton]
  rfl

/-- The scratch buffers of the region are the lanes' slots. -/
theorem scoped_slots (c : Dev nD) :
    (Pipeline.scopedRest (Ix := ℕ) (Name := ℕ) (U := UU) (Lvl := ℕ) (Val := Elt F) spec0 c : sProp 𝕄)
      = bigSep Finset.univ fun l => laneSlots l c := by
  rw [scopedRest0_eq, four]
  unfold laneSlots
  rw [← recv_slots, ← recv_slots, ← recv_slots, ← recv_slots, ← send_slots, ← send_slots, ← send_slots, ← send_slots]
  refine both ?_ ?_
  · iintro ⟨H0, H1, H2, H3, H4, H5, H6, H7⟩
    isplitl [H0 H1]; · isplitl [H0]; · iexact H0
                       iexact H1
    isplitl [H2 H3]; · isplitl [H2]; · iexact H2
                       iexact H3
    isplitl [H4 H5]; · isplitl [H4]; · iexact H4
                       iexact H5
    isplitl [H6]; · iexact H6
    iexact H7
  · iintro ⟨⟨H0, H1⟩, ⟨H2, H3⟩, ⟨H4, H5⟩, H6, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-! ## Opening a device's cells -/

variable (I : Ins F) (K : GSem nD τ sig → ℕ) (κ : Key → ℕ)

/-- A site cell at its start, its first round open. -/
def siteStart (x : Dev nD × Fin 4 × Fin 5) : sProp 𝕄 := iprop(atPos ER (siteCell x) 0 ∅ 0 ∗ reached ER (siteCell x) 0)

/-- What lane `l` of device `c` holds before its slots and cells are there. -/
def laneGhost (l : Fin 4) (c : Dev nD) : sProp 𝕄 :=
  iprop(Release.readerAt ES (c, l, 0) 0 ∗ Release.readerAt ES (c, l, 1) 0
    ∗ bigSep (Finset.Ico 0 31) (recvCred l c) ∗ bigSep (Finset.Ico 1 30) (grantCred l c)
    ∗ bigSep (Finset.Ico 0 31) (copyTok l c) ∗ bigSep (Finset.Ico 0 29) (creditTok l c))

theorem open_site (x : Dev nD × Fin 4 × Fin 5) :
    iprop(cells I K ∗ openTok ER (siteCell x) ∗ semVal (siteCell x) 0) ⊢ (iprop(|={Set.univ}=> siteStart x) : sProp 𝕄) := by
  unfold siteStart
  iintro ⟨#Hc, Ho, Hv⟩
  iapply (cell_open ER (rd I) (Set.mem_univ (K (siteCell x))))
  isplitr; · iapply (cells_site I K x); iexact Hc
  isplitl [Ho] <;> iassumption

/-- Every site cell of a device opened. -/
theorem open_sites (c : Dev nD) :
    iprop(cells I K ∗ bigSep Finset.univ (fun x : Fin 4 × Fin 5 => openTok ER (siteCell (c, x)))
        ∗ bigSep Finset.univ (fun x : Fin 4 × Fin 5 => semVal (siteCell (c, x)) 0))
      ⊢ (iprop(|={Set.univ}=> bigSep Finset.univ (fun x : Fin 4 × Fin 5 => siteStart (c, x))) : sProp 𝕄) := by
  rw [← bigSep_sep']
  exact (bigSep_with_persistent (S := Finset.univ) fun (x : Fin 4 × Fin 5) _ => open_site I K (c, x)).trans
    (bigSep_fupd Finset.univ fun x : Fin 4 × Fin 5 => (siteStart (c, x) : sProp 𝕄))

/-! ## A lane's start -/

theorem lane_start (l : Fin 4) (c : Dev nD) :
    iprop(ctx I K κ ∗ bigSep Finset.univ (fun k : Fin 5 => siteStart (c, l, k)) ∗ laneGhost l c ∗ laneSlots l c)
      ⊢ (iprop(|={Set.univ}=> (startSt l c ∗ (slotReady c (l, 0) ∗ slotReady c (l, 1)) ∗ reached ER (creditCell l c) 0)) : sProp 𝕄) := by
  rw [five]
  unfold siteStart laneGhost laneSlots
  iintro ⟨#Hc, ⟨⟨Hp0, #Hr0⟩, ⟨Hp1, #Hr1⟩, ⟨Hp2, #Hr2⟩, ⟨Hp3, #Hr3⟩, ⟨Hp4, #Hr4⟩⟩, ⟨Hq0, Hq1, Hrc, Hgc, Hct, Hdt⟩, ⟨Hs0, Hs1⟩, Hv0, Hv1⟩
  imod (free_slot I K κ c l 0 0) $$ [Hq0 Hv0] with ⟨Hq0, #Hf0⟩
  · isplitr; · iexact Hc
    isplitl [Hq0] <;> iassumption
  imod (free_slot I K κ c l 1 0) $$ [Hq1 Hv1] with ⟨Hq1, #Hf1⟩
  · isplitr; · iexact Hc
    isplitl [Hq1] <;> iassumption
  imodintro
  isplitl [Hp0 Hp1 Hp2 Hp3 Hp4 Hq0 Hq1 Hrc Hgc Hct Hdt Hs0 Hs1]
  · unfold startSt
    isplitl [Hp3 Hq0]
    · unfold recvAt
      isplitl [Hp3]; · iexact Hp3
      iexact Hq0
    isplitl [Hp4 Hq1]
    · unfold recvAt
      isplitl [Hp4]; · iexact Hp4
      iexact Hq1
    isplitl [Hrc]; · iexact Hrc
    isplitl [Hp1]; · unfold sendAt; iexact Hp1
    isplitl [Hp2]; · unfold sendAt; iexact Hp2
    isplitr; · unfold sendOpen; iexact Hr1
    isplitl [Hs0]; · iexact Hs0
    isplitr; · unfold sendOpen; iexact Hr2
    isplitl [Hs1]; · iexact Hs1
    isplitl [Hp0]
    · unfold granted
      iexists ∅
      isplitr; · ipureintro; exact ⟨Finset.empty_subset _, Nat.zero_le _⟩
      isplitl [Hp0]; · iexact Hp0
      rw [bigSep_empty]; iempintro
    isplitl [Hgc]; · iexact Hgc
    isplitl [Hct]; · iexact Hct
    iexact Hdt
  isplitr
  · unfold slotReady
    isplitr
    · isplitr; · iexact Hf0
      iexact Hr3
    · isplitr; · iexact Hf1
      iexact Hr4
  iexact Hr0

/-! ## Closing a device's cells -/

theorem close_site (x : Dev nD × Fin 4 × Fin 5) {R : ℕ} (hR : ∀ r, R ≤ r → (rd I).duties (siteCell x) r = ∅) :
    iprop(cells I K ∗ atPos ER (siteCell x) R ∅ 0) ⊢ (iprop(|={Set.univ}=> semVal (siteCell x) 0) : sProp 𝕄) := by
  iintro ⟨#Hc, Ha⟩
  iapply (cell_close ER (rd I) (Set.mem_univ (K (siteCell x))) (fun h => h) hR)
  isplitr; · iapply (cells_site I K x); iexact Hc
  iexact Ha

theorem close_bar (c : Dev nD) :
    iprop(cells I K ∗ atPos ER (barCell c) 1 ∅ 0) ⊢ (iprop(|={Set.univ}=> semVal (barCell c) 0) : sProp 𝕄) := by
  iintro ⟨#Hc, Ha⟩
  iapply (cell_close ER (rd I) (R := 1) (Set.mem_univ (K (barCell c))) (fun h => h) (fun r hr => by
    rw [rd_duties I c r _ kind_bar]; exact if_neg (by show ¬r = 0; omega)))
  isplitr; · iapply (cells_bar I K c); iexact Hc
  iexact Ha

theorem lane_end (l : Fin 4) (c : Dev nD) :
    iprop(cells I K ∗ endSt l c)
      ⊢ (iprop(|={Set.univ}=> (bigSep Finset.univ (fun k : Fin 5 => semVal (siteCell (c, l, k)) 0) ∗ laneSlots l c)) : sProp 𝕄) := by
  have hd : ∀ p : Fin 2, ∀ R, 30 < 2 * R + p.val → ∀ r, R ≤ r → (rd I).duties (sendCell l p c) r = ∅ := fun p R h r hr => by
    rw [rd_duties I c r _ (kind_send l p)]; exact if_neg (by show ¬2 * r + p.val ≤ 30; omega)
  have he : ∀ p : Fin 2, ∀ R, 30 < 2 * R + p.val → ∀ r, R ≤ r → (rd I).duties (recvCell l p c) r = ∅ := fun p R h r hr => by
    rw [rd_duties I c r _ (kind_recv l p)]; exact if_neg (by show ¬2 * r + p.val ≤ 30; omega)
  have hc : ∀ r, 1 ≤ r → (rd I).duties (creditCell l c) r = ∅ := fun r hr => by
    rw [rd_duties I c r _ (kind_credit l)]; exact if_neg (by show ¬r = 0; omega)
  have h0 := close_site I K (c, l, 0) (R := 1) hc
  have h1 := close_site I K (c, l, 1) (R := 16) (hd 0 16 (by decide))
  have h2 := close_site I K (c, l, 2) (R := 15) (hd 1 15 (by decide))
  have h3 := close_site I K (c, l, 3) (R := 16) (he 0 16 (by decide))
  have h4 := close_site I K (c, l, 4) (R := 15) (he 1 15 (by decide))
  rw [five]
  unfold endSt recvDone sendAt laneSlots
  iintro ⟨#Hc, ⟨Ha3, Hv0⟩, ⟨Ha4, Hv1⟩, Ha2, Ha1, Hs1, Hs0, Ha0⟩
  imod h0 $$ [Ha0] with Hz0
  · isplitr; · iexact Hc
    iexact Ha0
  imod h1 $$ [Ha1] with Hz1
  · isplitr; · iexact Hc
    iexact Ha1
  imod h2 $$ [Ha2] with Hz2
  · isplitr; · iexact Hc
    iexact Ha2
  imod h3 $$ [Ha3] with Hz3
  · isplitr; · iexact Hc
    iexact Ha3
  imod h4 $$ [Ha4] with Hz4
  · isplitr; · iexact Hc
    iexact Ha4
  imodintro
  isplitl [Hz0 Hz1 Hz2 Hz3 Hz4]
  · isplitl [Hz0]; · iexact Hz0
    isplitl [Hz1]; · iexact Hz1
    isplitl [Hz2]; · iexact Hz2
    isplitl [Hz3]; · iexact Hz3
    iexact Hz4
  isplitl [Hs0 Hs1]
  · isplitl [Hs0] <;> iassumption
  · isplitl [Hv0]; · iexact Hv0
    iexact Hv1

/-! ## All four lanes -/

/-- A resource for every pair is one for every second member, for every first. -/
theorem pairs {A B : Type} [DecidableEq A] [DecidableEq B] (s : Finset A) (t : Finset B) (Φ : A × B → sProp 𝕄) :
    bigSep (s ×ˢ t) Φ = bigSep s fun a => bigSep t fun b => Φ (a, b) := by
  induction s using Finset.induction_on with
  | empty => rw [Finset.empty_product, bigSep_empty, bigSep_empty]
  | insert a s ha ih =>
    have hd : Disjoint ({a} ×ˢ t) (s ×ˢ t) := Finset.disjoint_product.mpr (Or.inl (Finset.disjoint_singleton_left.mpr ha))
    rw [bigSep_insert ha, ← ih, Finset.insert_eq, Finset.union_product, bigSep_union hd, Finset.singleton_product, bigSep_map]
    rfl

/-- The kernel's own semaphores. -/
def ownSem (x : Fin 4 × Fin 5) : SemLoc sig := siteSem x.1 x.2

theorem ownSems0_eq (c : Dev nD) : (Pipeline.ownSems0 ownSem c : sProp 𝕄)
    = bigSep Finset.univ fun l : Fin 4 => bigSep Finset.univ fun k : Fin 5 => semVal (siteCell (c, l, k)) 0 := by
  unfold Pipeline.ownSems0
  rw [← Finset.univ_product_univ, pairs]; rfl

theorem device_start (c : Dev nD) :
    iprop(ctx I K κ ∗ bigSep Finset.univ (fun x : Fin 4 × Fin 5 => siteStart (c, x)) ∗ bigSep Finset.univ (fun l => laneGhost l c)
        ∗ bigSep Finset.univ (fun l => laneSlots l c))
      ⊢ (iprop(|={Set.univ}=> (bigSep Finset.univ (fun l => startSt l c) ∗ ready c)) : sProp 𝕄) := by
  have hs : bigSep Finset.univ (fun x : Fin 4 × Fin 5 => (siteStart (c, x) : sProp 𝕄))
      = bigSep Finset.univ fun l : Fin 4 => bigSep Finset.univ fun k : Fin 5 => siteStart (c, l, k) := by
    rw [← Finset.univ_product_univ]; exact pairs _ _ _
  have hr : iprop(bigSep Finset.univ (fun l : Fin 4 => iprop(slotReady c (l, 0) ∗ slotReady c (l, 1)))
      ∗ bigSep Finset.univ (fun l => reached ER (creditCell l c) 0)) ⊢ (ready c : sProp 𝕄) := by
    unfold ready
    refine sep_mono_left (Entails.of_eq ?_)
    rw [← Finset.univ_product_univ, pairs]
    exact bigSep_congr fun l _ => (BI.bigSep_fin_two (M := 𝕄) fun b => slotReady c (l, b)).symm
  have hl : bigSep Finset.univ (fun l : Fin 4 => iprop(startSt l c ∗ (slotReady c (l, 0) ∗ slotReady c (l, 1)) ∗ reached ER (creditCell l c) 0))
      ⊢ (iprop(bigSep Finset.univ (fun l => startSt l c) ∗ ready c) : sProp 𝕄) := by
    rw [bigSep_sep', bigSep_sep']; exact sep_mono_right hr
  refine BIBase.Entails.trans ?_ (fupd_mono hl)
  rw [hs, ← bigSep_sep', ← bigSep_sep']
  exact (bigSep_with_persistent (S := Finset.univ) fun l _ => lane_start I K κ l c).trans (bigSep_fupd Finset.univ _)

theorem device_end (c : Dev nD) :
    iprop(cells I K ∗ bigSep Finset.univ (fun l => endSt l c))
      ⊢ (iprop(|={Set.univ}=> (Pipeline.ownSems0 ownSem c ∗ bigSep Finset.univ (fun l => laneSlots l c))) : sProp 𝕄) := by
  rw [ownSems0_eq, ← bigSep_sep']
  exact (bigSep_with_persistent (S := Finset.univ) fun l _ => lane_end I K l c).trans (bigSep_fupd Finset.univ _)

end Cert.Proof

end
-- ==== Proof.Tables.lean ====
/-
  The four tables that the program computes for a device before the region starts, from its place on the ring: the
  neighbours before and after it, and the chunks that the clockwise and the counter-clockwise lanes take in each round.
-/
module

public import proofs.«01_k».proof.Proof.Slots
public import proofs.«01_k».proof.Proof.Gen.KernelIdeal.Regions
public import Idealize.ShloMosaic.Lib.StableHlo.RunRead
public import Idealize.ShloMosaic.Lib.StableHlo.RunClose

@[expose] public section

noncomputable section

namespace Cert.Proof

open Idealize.ShloMosaic Idealize.ShloMosaic.TcCoe
open Idealize.SL Idealize.SL.RA Idealize.SL.BI
open Cert.KernelIdeal Cert.KernelIdeal.Gen

variable {F : FTy → Type} [FloatOps F]

/-! ## Words -/

/-- A word as an index into a table of 32: one below zero counts from the end. -/
def wrapW (a : BitVec 32) : BitVec 32 := Scalar.select (IntOp.cmpi .slt a 0#32) (a + 32#32) a

/-- The remainder by 32 that takes the divisor's sign. -/
def remW (a : BitVec 32) : BitVec 32 :=
  let d : BitVec 32 := Scalar.select (IntOp.cmpi .eq 32#32 0#32) 1#32 32#32
  let r : BitVec 32 := IntOp.remsi .host a d
  Scalar.select (IntOp.cmpi .ne (IntOp.cmpi .slt r 0#32) (IntOp.cmpi .slt d 0#32) &&& IntOp.cmpi .ne r 0#32) (r + d) r

/-- The device's number as the program computes it. -/
def ownW (c : Dev nD) : BitVec 32 := IntOp.remui .host (IntOp.divui .host (Dev.word c) 1#32) 32#32

/-- The devices in ring order, as a table of words. -/
def ringTab : S32.Idx → BitVec 32 := fun i => word (ring (i 0))
/-- The devices' places, as a table of words. -/
def placeTab : S32.Idx → BitVec 32 := fun i => word (place (i 0))

theorem wrap_word : ∀ p : Fin 32, wrapW (word p) = word p := by decide +kernel
theorem wrap_own : ∀ c : Fin 32, wrapW (ownW c) = word c := by decide +kernel
theorem word_toInt : ∀ p : Fin 32, (word p).toInt = (p.val : Int) := by decide +kernel
theorem rem_pred : ∀ p : Fin 32, remW (word p - 1#32) = word (p - 1) := by decide +kernel
theorem rem_succ : ∀ p : Fin 32, remW (word p + 1#32) = word (p + 1) := by decide +kernel
theorem rem_back : ∀ p s : Fin 32, remW (word p - 1#32 - word s) = word (p - 1 - s) := by decide +kernel
theorem rem_on : ∀ p s : Fin 32, remW (word p + 1#32 + word s) = word (p + 1 + s) := by decide +kernel

theorem lit0_word : ∀ p : Fin 32, lit0 p = word (ring p) := by decide +kernel
theorem lit1_word : ∀ p : Fin 32, lit1 p = word (place p) := by decide +kernel

theorem rowMajor_32 (i : S32.Idx) : S32.rowMajor i = i 0 := by
  exact Fin.ext (Shape.rowMajor_val_one i)

/-- The index of a table's entry. -/
def entry (n : Fin 32) : S32.Idx := fun a => match a with | ⟨0, _⟩ => n

theorem ring_lit : (fun i : S32.Idx => lit0 (S32.rowMajor i)) = ringTab := by
  funext i; rw [rowMajor_32]; exact lit0_word (i 0)

theorem place_lit : (fun i : S32.Idx => lit1 (S32.rowMajor i)) = placeTab := by
  funext i; rw [rowMajor_32]; exact lit1_word (i 0)

/-- The slice of one element at an index inside the table. -/
theorem slice_at {α : Type} (x : S32.Idx → α) (st : Fin 1 → Int) (n : Fin 32) (h : ∀ k, st k = n.val) :
    Host.dynamicSlice S1 x st sliceFits_S32_S1 = fun _ => x (entry n) := by
  funext j
  unfold Host.dynamicSlice extractStridedSlice
  refine congrArg x (funext fun a => Fin.ext ?_)
  obtain rfl : a = 0 := Subsingleton.elim _ _
  have hj : ((j 0 : Fin 1) : ℕ) = 0 := by have := (j 0).isLt; change _ < 1 at this; omega
  have hn := n.isLt
  show (min (max (st 0) 0) ((32 - 1 : ℕ) : Int)).toNat + ((j 0 : Fin 1) : ℕ) = n.val
  rw [h 0, hj]
  omega

/-- The gather of single elements reads the table at each index's word. -/
theorem gather_at {α : Type} (x : S32.Idx → α) (idx : IVec S32x1 32) (j : S32.Idx) (n : Fin 32)
    (h : idx (fun a => match a with | ⟨0, _⟩ => j 0 | ⟨1, _⟩ => (0 : Fin 1)) = word n) :
    Host.gather gather_S32_S32x1_S32_n_0_n_n_0_1_1 x idx j = x (entry n) := by
  unfold Host.gather
  refine congrArg x (funext fun a => Fin.ext ?_)
  obtain rfl : a = 0 := Subsingleton.elim _ _
  show gather_S32_S32x1_S32_n_0_n_n_0_1_1.start j idx 0 + gather_S32_S32x1_S32_n_0_n_n_0_1_1.batchCoord j 0
    + gather_S32_S32x1_S32_n_0_n_n_0_1_1.offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S32_S32x1_S32_n_0_n_n_0_1_1.startIndexMap from List.mem_singleton.mpr rfl)]
  have hsi : gather_S32_S32x1_S32_n_0_n_n_0_1_1.siIdx j ⟨List.idxOf (0 : Fin 1) gather_S32_S32x1_S32_n_0_n_n_0_1_1.startIndexMap,
      List.idxOf_lt_length_iff.2 (List.mem_singleton.mpr rfl)⟩
      = fun a => match a with | ⟨0, _⟩ => j 0 | ⟨1, _⟩ => (0 : Fin 1) := by
    funext b; refine Fin.ext ?_
    match b with
    | ⟨0, _⟩ => rfl
    | ⟨1, _⟩ => rfl
  rw [hsi, h]
  show min (word n).toInt.toNat (32 - 1) = n.val
  have hn := n.isLt
  rw [word_toInt]
  omega

/-! ## What each stretch of the program leaves, from what it finds -/

section Stretch
variable (c : Dev nD) (V : Valuation τ sig (Elt F))

theorem after0_ring : StableHlo.after (hostOps0 c) V (Proc.devRef .tc main_c) = ringTab := by
  after_reads_simp
  exact ring_lit

theorem slice_word (x : S32.Idx → BitVec 32) (a : BitVec 32) (n : Fin 32) (h : wrapW a = word n) :
    Host.dynamicSlice S1 x (fun _ => (wrapW a).toInt) sliceFits_S32_S1 = fun _ => x (entry n) :=
  slice_at x _ n fun _ => by rw [h, word_toInt]

theorem after0_place : StableHlo.after (hostOps0 c) V (Proc.devRef .tc main_v9) = fun _ => word (place c) := by
  have H := slice_word (fun i => lit1 (S32.rowMajor i)) (ownW c) c (wrap_own c)
  after_results_simp_entrywise
  funext i
  refine (congrFun (congrArg (fun x => shapeCast S_ x shapeCasts_S1_S_) ((congrArg (fun st => Host.dynamicSlice S1 (fun i => lit1 (S32.rowMajor i)) st sliceFits_S32_S1) (funext fun k => ?_)).trans H)) i).trans ?_
  · obtain rfl : k = 0 := Subsingleton.elim _ _
    rfl
  · show lit1 (S32.rowMajor (entry c)) = _
    rw [rowMajor_32]
    exact lit1_word c

theorem after0_v10 : StableHlo.after (hostOps0 c) V (Proc.devRef .tc main_v10) = fun _ => word (place c) - 1#32 := by
  have H := after0_place c V
  have E : StableHlo.after (hostOps0 c) V (Proc.devRef .tc main_v10)
      = subi (StableHlo.after (hostOps0 c) V (Proc.devRef .tc main_v9)) (constantI S_ 32 1#32) := by
    after_results_simp_entrywise
  rw [E, H]
  rfl

theorem after0_c6 : StableHlo.after (hostOps0 c) V (Proc.devRef .tc main_c_6) = fun _ => 32#32 := by
  after_reads_simp
  rfl

theorem after1_v11 (a : BitVec 32) (h10 : V (Proc.devRef .tc main_v10) = fun _ => a)
    (h6 : V (Proc.devRef .tc main_c_6) = fun _ => 32#32) :
    StableHlo.after hostOps0_1 V (Proc.devRef .tc main_v11) = fun _ => remW a := by
  after_reads_simp
  rw [h10, h6]
  rfl

theorem after2_v17 (p : Fin 32) (hc : V (Proc.devRef .tc main_c) = ringTab)
    (h11 : V (Proc.devRef .tc main_v11) = fun _ => word p) :
    StableHlo.after hostOps0_2 V (Proc.devRef .tc main_v17) = fun _ => word (ring p) := by
  have H := slice_word ringTab (word p) p (wrap_word p)
  after_results_simp_entrywise
  rw [hc, h11]
  funext i
  refine (congrFun (congrArg (fun x => shapeCast S1 (shapeCast S_ x shapeCasts_S1_S_) shapeCasts_S_S1) ((congrArg (fun st => Host.dynamicSlice S1 ringTab st sliceFits_S32_S1) (funext fun k => ?_)).trans H)) i).trans rfl
  obtain rfl : k = 0 := Subsingleton.elim _ _
  rfl

theorem after2_v18 (p : Fin 32) (h9 : V (Proc.devRef .tc main_v9) = fun _ => word p) :
    StableHlo.after hostOps0_2 V (Proc.devRef .tc main_v18) = fun _ => word p + 1#32 := by
  after_reads_simp
  rw [h9]
  rfl

theorem after2_c10 : StableHlo.after hostOps0_2 V (Proc.devRef .tc main_c_10) = fun _ => 32#32 := by
  after_reads_simp
  rfl

theorem after3_v19 (a : BitVec 32) (h18 : V (Proc.devRef .tc main_v18) = fun _ => a)
    (h10 : V (Proc.devRef .tc main_c_10) = fun _ => 32#32) :
    StableHlo.after hostOps0_3 V (Proc.devRef .tc main_v19) = fun _ => remW a := by
  after_reads_simp
  rw [h18, h10]
  rfl

theorem after4_v25 (p : Fin 32) (hc : V (Proc.devRef .tc main_c) = ringTab)
    (h19 : V (Proc.devRef .tc main_v19) = fun _ => word p) :
    StableHlo.after hostOps0_4 V (Proc.devRef .tc main_v25) = fun _ => word (ring p) := by
  have H := slice_word ringTab (word p) p (wrap_word p)
  after_results_simp_entrywise
  rw [hc, h19]
  funext i
  refine (congrFun (congrArg (fun x => shapeCast S1 (shapeCast S_ x shapeCasts_S1_S_) shapeCasts_S_S1) ((congrArg (fun st => Host.dynamicSlice S1 ringTab st sliceFits_S32_S1) (funext fun k => ?_)).trans H)) i).trans rfl
  obtain rfl : k = 0 := Subsingleton.elim _ _
  rfl

theorem after4_v26 : StableHlo.after hostOps0_4 V (Proc.devRef .tc main_v26) = fun i => word (i 0) := by
  after_reads_simp
  rfl

theorem after4_v29 (p : Fin 32) (h9 : V (Proc.devRef .tc main_v9) = fun _ => word p) :
    StableHlo.after hostOps0_4 V (Proc.devRef .tc main_v29) = fun i => word p - 1#32 - word (i 0) := by
  after_reads_simp
  rw [h9]
  rfl

theorem after4_c14 : StableHlo.after hostOps0_4 V (Proc.devRef .tc main_c_14) = fun _ => 32#32 := by
  after_reads_simp
  rfl

theorem after5_v30 (a : Fin 32 → BitVec 32) (h29 : V (Proc.devRef .tc main_v29) = fun i => a (i 0))
    (h14 : V (Proc.devRef .tc main_c_14) = fun _ => 32#32) :
    StableHlo.after hostOps0_5 V (Proc.devRef .tc main_v30) = fun i => remW (a (i 0)) := by
  after_reads_simp
  rw [h29, h14]
  rfl

theorem after6_v37 (q : Fin 32 → Fin 32) (hc : V (Proc.devRef .tc main_c) = ringTab)
    (h30 : V (Proc.devRef .tc main_v30) = fun i => word (q (i 0))) :
    StableHlo.after hostOps0_6 V (Proc.devRef .tc main_v37) = fun i => word (ring (q (i 0))) := by
  after_reads_simp
  rw [hc, h30]
  funext i
  refine gather_at ringTab _ i (q (i 0)) ?_
  exact wrap_word (q (i 0))

theorem after6_v40 (p : Fin 32) (h9 : V (Proc.devRef .tc main_v9) = fun _ => word p)
    (h26 : V (Proc.devRef .tc main_v26) = fun i => word (i 0)) :
    StableHlo.after hostOps0_6 V (Proc.devRef .tc main_v40) = fun i => word p + 1#32 + word (i 0) := by
  after_reads_simp
  rw [h9, h26]
  rfl

theorem after6_c18 : StableHlo.after hostOps0_6 V (Proc.devRef .tc main_c_18) = fun _ => 32#32 := by
  after_reads_simp
  rfl

theorem after7_v41 (a : Fin 32 → BitVec 32) (h40 : V (Proc.devRef .tc main_v40) = fun i => a (i 0))
    (h18 : V (Proc.devRef .tc main_c_18) = fun _ => 32#32) :
    StableHlo.after hostOps0_7 V (Proc.devRef .tc main_v41) = fun i => remW (a (i 0)) := by
  after_reads_simp
  rw [h40, h18]
  rfl

theorem after8_v48 (q : Fin 32 → Fin 32) (hc : V (Proc.devRef .tc main_c) = ringTab)
    (h41 : V (Proc.devRef .tc main_v41) = fun i => word (q (i 0))) :
    StableHlo.after hostOps0_8 V (Proc.devRef .tc main_v48) = fun i => word (ring (q (i 0))) := by
  after_reads_simp
  rw [hc, h41]
  funext i
  refine gather_at ringTab _ i (q (i 0)) ?_
  exact wrap_word (q (i 0))

end Stretch

/-! ## The tables when the region starts -/

section Tables
variable (m : (l : Loc nD τ sig) → Buf (Elt F) l) (c : Dev nD)

theorem V2_v11 : V2 m c main_v11 = fun _ => word (place c - 1) :=
  (after1_v11 (V1 m c) _ (after0_v10 c (V0 m c)) (after0_c6 c (V0 m c))).trans (funext fun _ => rem_pred (place c))

theorem V1_c : V1 m c main_c = ringTab := after0_ring c (V0 m c)
theorem V1_v9 : V1 m c main_v9 = fun _ => word (place c) := after0_place c (V0 m c)
theorem V2_c : V2 m c main_c = ringTab := (V2_of m c main_c (by decide)).trans (V1_c m c)
theorem V2_v9 : V2 m c main_v9 = fun _ => word (place c) := (V2_of m c main_v9 (by decide)).trans (V1_v9 m c)
theorem V3_v17 : V3 m c main_v17 = fun _ => word (leftOf c) := after2_v17 (V2 m c) _ (V2_c m c) (V2_v11 m c)

theorem V4_v19 : V4 m c main_v19 = fun _ => word (place c + 1) :=
  (after3_v19 (V3 m c) _ (after2_v18 (V2 m c) _ (V2_v9 m c)) (after2_c10 (V2 m c))).trans
    (funext fun _ => rem_succ (place c))

theorem V4_c : V4 m c main_c = ringTab :=
  (V4_of m c main_c (by decide)).trans ((V3_of m c main_c (by decide)).trans (V2_c m c))
theorem V4_v9 : V4 m c main_v9 = fun _ => word (place c) :=
  (V4_of m c main_v9 (by decide)).trans ((V3_of m c main_v9 (by decide)).trans (V2_v9 m c))
theorem V5_v25 : V5 m c main_v25 = fun _ => word (rightOf c) := after4_v25 (V4 m c) _ (V4_c m c) (V4_v19 m c)

theorem V6_v30 : V6 m c main_v30 = fun i => word (place c - 1 - (i 0 : Fin 32)) :=
  (after5_v30 (V5 m c) (fun s => word (place c) - 1#32 - word s) (after4_v29 (V4 m c) _ (V4_v9 m c))
    (after4_c14 (V4 m c))).trans (funext fun i => rem_back (place c) (i 0))

theorem V6_c : V6 m c main_c = ringTab :=
  (V6_of m c main_c (by decide)).trans ((V5_of m c main_c (by decide)).trans (V4_c m c))
theorem V6_v9 : V6 m c main_v9 = fun _ => word (place c) :=
  (V6_of m c main_v9 (by decide)).trans ((V5_of m c main_v9 (by decide)).trans (V4_v9 m c))
theorem V6_v26 : V6 m c main_v26 = fun i => word (i 0) :=
  (V6_of m c main_v26 (by decide)).trans (after4_v26 (V4 m c))

theorem V7_v37 : V7 m c main_v37 = fun i => word (cwChunk c (i 0)) :=
  after6_v37 (V6 m c) (fun s => place c - 1 - s) (V6_c m c) (V6_v30 m c)

theorem V8_v41 : V8 m c main_v41 = fun i => word (place c + 1 + (i 0 : Fin 32)) :=
  (after7_v41 (V7 m c) (fun s => word (place c) + 1#32 + word s) (after6_v40 (V6 m c) _ (V6_v9 m c) (V6_v26 m c))
    (after6_c18 (V6 m c))).trans (funext fun i => rem_on (place c) (i 0))

theorem V8_c : V8 m c main_c = ringTab :=
  (V8_of m c main_c (by decide)).trans ((V7_of m c main_c (by decide)).trans (V6_c m c))

theorem ofNat_entry (i : S32.Idx) : Fin.ofNat 32 (i 0).val = (i 0 : Fin 32) :=
  Fin.ext (Nat.mod_eq_of_lt (i 0).isLt)

theorem V9_left : V9 m c main_v17 = leftTab c :=
  (V9_of m c main_v17 (by decide)).trans ((V8_of m c main_v17 (by decide)).trans ((V7_of m c main_v17 (by decide)).trans
    ((V6_of m c main_v17 (by decide)).trans ((V5_of m c main_v17 (by decide)).trans
      ((V4_of m c main_v17 (by decide)).trans (V3_v17 m c))))))

theorem V9_right : V9 m c main_v25 = rightTab c :=
  (V9_of m c main_v25 (by decide)).trans ((V8_of m c main_v25 (by decide)).trans ((V7_of m c main_v25 (by decide)).trans
    ((V6_of m c main_v25 (by decide)).trans (V5_v25 m c))))

theorem V9_cw : V9 m c main_v37 = cwTab c :=
  ((V9_of m c main_v37 (by decide)).trans ((V8_of m c main_v37 (by decide)).trans (V7_v37 m c))).trans
    (funext fun i => congrArg (fun s => word (cwChunk c s)) (ofNat_entry i).symm)

theorem V9_ccw : V9 m c main_v48 = ccwTab c :=
  (after8_v48 (V8 m c) (fun s => place c + 1 + s) (V8_c m c) (V8_v41 m c)).trans
    (funext fun i => congrArg (fun s => word (ccwChunk c s)) (ofNat_entry i).symm)

end Tables

end Cert.Proof
-- ==== Proof.Region.lean ====
/-
  The region: the kernel entered from its arrays and what the launch kept for it, left with the result in place, the
  barrier's counter back at zero and nothing owed.
-/
module

public import proofs.«01_k».proof.Proof.Tables
public import proofs.«01_k».proof.Proof.Gen.KernelIdeal.Points
public import Idealize.ShloMosaic.Lib.Pipeline.RegionTalk
public import Idealize.ShloMosaic.Lib.Pipeline.Value

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation)
open Cert.KernelIdeal Cert.KernelIdeal.Gen

variable {F : FTy → Type} [FloatOps F]

local notation "𝕄" => M₀ F

variable (m : (l : Loc nD τ sig) → Buf (Elt F) l)

/-- What the devices are given, read off the memory at launch. -/
def insOf : Ins F where
  x c := m ((c : Thread nD τ).loc main_arg0)
  w c := m ((c : Thread nD τ).loc main_arg1)
  sx c := m ((c : Thread nD τ).loc main_arg2)
  sw c := m ((c : Thread nD τ).loc main_arg3)

/-! ## Each window is its whole array -/

theorem read_0 (X : Vec F S4096x128 .fp8e5m2) : ((cfg0.win 0).blk t0_0).view.read (Elt F) X = X := by
  funext i
  refine congrArg X (funext fun a => Fin.ext ?_)
  have e : ∀ a, win0_0.index t0_0 a * win0_0.size a = 0 := by decide +kernel
  show win0_0.index t0_0 a * win0_0.size a + 1 * (i a).val = (i a).val
  rw [e, Nat.zero_add, Nat.one_mul]
theorem read_1 (X : Vec F S128x2048 .fp8e5m2) : ((cfg0.win 1).blk t0_0).view.read (Elt F) X = X := by
  funext i
  refine congrArg X (funext fun a => Fin.ext ?_)
  have e : ∀ a, win0_1.index t0_0 a * win0_1.size a = 0 := by decide +kernel
  show win0_1.index t0_0 a * win0_1.size a + 1 * (i a).val = (i a).val
  rw [e, Nat.zero_add, Nat.one_mul]
theorem read_2 (X : Vec F S1 .f32) : ((cfg0.win 2).blk t0_0).view.read (Elt F) X = X := by
  funext i
  refine congrArg X (funext fun a => Fin.ext ?_)
  have e : ∀ a, win0_2.index t0_0 a * win0_2.size a = 0 := by decide +kernel
  show win0_2.index t0_0 a * win0_2.size a + 1 * (i a).val = (i a).val
  rw [e, Nat.zero_add, Nat.one_mul]
theorem read_3 (X : Vec F S1 .f32) : ((cfg0.win 3).blk t0_0).view.read (Elt F) X = X := by
  funext i
  refine congrArg X (funext fun a => Fin.ext ?_)
  have e : ∀ a, win0_3.index t0_0 a * win0_3.size a = 0 := by decide +kernel
  show win0_3.index t0_0 a * win0_3.size a + 1 * (i a).val = (i a).val
  rw [e, Nat.zero_add, Nat.one_mul]
theorem read_4 (X : Vec F S1 .i32) : ((cfg0.win 4).blk t0_0).view.read (Elt F) X = X := by
  funext i
  refine congrArg X (funext fun a => Fin.ext ?_)
  have e : ∀ a, win0_4.index t0_0 a * win0_4.size a = 0 := by decide +kernel
  show win0_4.index t0_0 a * win0_4.size a + 1 * (i a).val = (i a).val
  rw [e, Nat.zero_add, Nat.one_mul]
theorem read_5 (X : Vec F S1 .i32) : ((cfg0.win 5).blk t0_0).view.read (Elt F) X = X := by
  funext i
  refine congrArg X (funext fun a => Fin.ext ?_)
  have e : ∀ a, win0_5.index t0_0 a * win0_5.size a = 0 := by decide +kernel
  show win0_5.index t0_0 a * win0_5.size a + 1 * (i a).val = (i a).val
  rw [e, Nat.zero_add, Nat.one_mul]
theorem read_6 (X : Vec F S32 .i32) : ((cfg0.win 6).blk t0_0).view.read (Elt F) X = X := by
  funext i
  refine congrArg X (funext fun a => Fin.ext ?_)
  have e : ∀ a, win0_6.index t0_0 a * win0_6.size a = 0 := by decide +kernel
  show win0_6.index t0_0 a * win0_6.size a + 1 * (i a).val = (i a).val
  rw [e, Nat.zero_add, Nat.one_mul]
theorem read_7 (X : Vec F S32 .i32) : ((cfg0.win 7).blk t0_0).view.read (Elt F) X = X := by
  funext i
  refine congrArg X (funext fun a => Fin.ext ?_)
  have e : ∀ a, win0_7.index t0_0 a * win0_7.size a = 0 := by decide +kernel
  show win0_7.index t0_0 a * win0_7.size a + 1 * (i a).val = (i a).val
  rw [e, Nat.zero_add, Nat.one_mul]
theorem read_8 (X : Vec F S128x2048 .f32) : ((cfg0.win 8).blk t0_0).view.read (Elt F) X = X := by
  funext i
  refine congrArg X (funext fun a => Fin.ext ?_)
  have e : ∀ a, win0_8.index t0_0 a * win0_8.size a = 0 := by decide +kernel
  show win0_8.index t0_0 a * win0_8.size a + 1 * (i a).val = (i a).val
  rw [e, Nat.zero_add, Nat.one_mul]

theorem mem_blk_8 (i : S128x2048.Idx) : i ∈ ((cfg0.win 8).blk t0_0).view.set := by
  show i ∈ ((View.whole main_v49).slice (win0_8.rect t0_0)).set
  rw [View.set_slice_whole, Rect.mem_set_unit]
  have e : ∀ a, win0_8.index t0_0 a * win0_8.size a = 0 ∧ win0_8.xsize (grid0.coords t0_0) a = S128x2048.size a := by decide +kernel
  intro a
  show win0_8.index t0_0 a * win0_8.size a ≤ (i a).val ∧ (i a).val < win0_8.index t0_0 a * win0_8.size a + win0_8.xsize (grid0.coords t0_0) a
  rw [(e a).1, (e a).2]
  exact ⟨Nat.zero_le _, by rw [Nat.zero_add]; exact (i a).isLt⟩

/-! ## The arguments when the region starts -/

/-- Contents that leave every buffer as it was. -/
def sameOuts : Outs (F := F) := fun _ r c => m ((c : Thread nD τ).loc r)

theorem V9_arg0 (c : Dev nD) : V9 m c main_arg0 = (insOf m).x c :=
  (V10_of m (sameOuts m) c main_arg0 (by decide)).symm.trans (V10_main_arg0 m (sameOuts m) c)
theorem V9_arg1 (c : Dev nD) : V9 m c main_arg1 = (insOf m).w c :=
  (V10_of m (sameOuts m) c main_arg1 (by decide)).symm.trans (V10_main_arg1 m (sameOuts m) c)
theorem V9_arg2 (c : Dev nD) : V9 m c main_arg2 = (insOf m).sx c :=
  (V10_of m (sameOuts m) c main_arg2 (by decide)).symm.trans (V10_main_arg2 m (sameOuts m) c)
theorem V9_arg3 (c : Dev nD) : V9 m c main_arg3 = (insOf m).sw c :=
  (V10_of m (sameOuts m) c main_arg3 (by decide)).symm.trans (V10_main_arg3 m (sameOuts m) c)

/-! ## The proof data -/

/-- What the launch keeps for the region on device `c`. -/
def Tk (c : Dev nD) : sProp 𝕄 :=
  iprop(∃ K κ, cells (insOf m) K ∗ slotInvs κ ∗ bigSep Finset.univ (fun x : Fin 4 × Fin 5 => openTok ER (siteCell (c, x)))
    ∗ barSt c ∗ bigSep Finset.univ (fun l => laneGhost l c))

/-- The same with the kernel's own cells opened. -/
def Xk (c : Dev nD) : sProp 𝕄 :=
  iprop(∃ K κ, ctx (insOf m) K κ ∗ bigSep Finset.univ (fun x : Fin 4 × Fin 5 => siteStart (c, x))
    ∗ barSt c ∗ bigSep Finset.univ (fun l => laneGhost l c))

/-- The region's invariant before the body. -/
def Φ₀ (c : Dev nD) : sProp 𝕄 := iprop(Xk m c ∗ bigSep Finset.univ (fun l => laneSlots l c) ∗ ∃ r, prngReg c r)
/-- The region's invariant after the body. -/
def Φ₁ (c : Dev nD) : sProp 𝕄 :=
  iprop(semVal (barCell c) 0 ∗ Pipeline.ownSems0 ownSem c ∗ bigSep Finset.univ (fun l => laneSlots l c) ∗ ∃ r, prngReg c r)

def dat0 (c : Dev nD) : Pipeline.Dat τ (Elt F) ℕ ℕ UU ℕ cfg0 c where
  A w := V9 m c (Proc.devRef .tc (Pipeline.arrRef spec0 w))
  after w _ := match w with
    | ⟨0, _⟩ => (insOf m).x c
    | ⟨1, _⟩ => (insOf m).w c
    | ⟨2, _⟩ => (insOf m).sx c
    | ⟨3, _⟩ => (insOf m).sw c
    | ⟨4, _⟩ => leftTab c
    | ⟨5, _⟩ => rightTab c
    | ⟨6, _⟩ => cwTab c
    | ⟨7, _⟩ => ccwTab c
    | ⟨8, _⟩ => result (insOf m) c
  Φ t := if t.val = 0 then Φ₀ m c else Φ₁ c
  q _ := fullShare
  owed t := if t.val = 0 then owesAll c else 0

abbrev pdats : (p : Fin 1) → (c : Dev nD) → Pipeline.Dat τ (Elt F) ℕ ℕ UU ℕ (cfgs p) c := fun _ => dat0 m

theorem before_0 (c : Dev nD) (d) : (dat0 m c).before 0 t0_0 d = (insOf m).x c := by
  unfold Pipeline.Dat.before; rw [if_pos (fetch0_0 _)]
  exact (show _ = ((cfg0.win 0).blk t0_0).view.read (Elt F) (V9 m c main_arg0) from rfl).trans ((read_0 _).trans (V9_arg0 m c))
theorem before_1 (c : Dev nD) (d) : (dat0 m c).before 1 t0_0 d = (insOf m).w c := by
  unfold Pipeline.Dat.before; rw [if_pos (fetch0_1 _)]
  exact (show _ = ((cfg0.win 1).blk t0_0).view.read (Elt F) (V9 m c main_arg1) from rfl).trans ((read_1 _).trans (V9_arg1 m c))
theorem before_2 (c : Dev nD) (d) : (dat0 m c).before 2 t0_0 d = (insOf m).sx c := by
  unfold Pipeline.Dat.before; rw [if_pos (fetch0_2 _)]
  exact (show _ = ((cfg0.win 2).blk t0_0).view.read (Elt F) (V9 m c main_arg2) from rfl).trans ((read_2 _).trans (V9_arg2 m c))
theorem before_3 (c : Dev nD) (d) : (dat0 m c).before 3 t0_0 d = (insOf m).sw c := by
  unfold Pipeline.Dat.before; rw [if_pos (fetch0_3 _)]
  exact (show _ = ((cfg0.win 3).blk t0_0).view.read (Elt F) (V9 m c main_arg3) from rfl).trans ((read_3 _).trans (V9_arg3 m c))
theorem before_4 (c : Dev nD) (d) : (dat0 m c).before 4 t0_0 d = leftTab c := by
  unfold Pipeline.Dat.before; rw [if_pos (fetch0_4 _)]
  exact (show _ = ((cfg0.win 4).blk t0_0).view.read (Elt F) (V9 m c main_v17) from rfl).trans ((read_4 _).trans (V9_left m c))
theorem before_5 (c : Dev nD) (d) : (dat0 m c).before 5 t0_0 d = rightTab c := by
  unfold Pipeline.Dat.before; rw [if_pos (fetch0_5 _)]
  exact (show _ = ((cfg0.win 5).blk t0_0).view.read (Elt F) (V9 m c main_v25) from rfl).trans ((read_5 _).trans (V9_right m c))
theorem arr_6 (c : Dev nD) : (dat0 m c).A 6 = cwTab c := by dsimp only [dat0]; exact V9_cw m c
theorem before_6 (c : Dev nD) (d) : (dat0 m c).before 6 t0_0 d = cwTab c := by
  unfold Pipeline.Dat.before; rw [if_pos (fetch0_6 _)]
  show ((cfg0.win 6).blk t0_0).view.read (Elt F) ((dat0 m c).A 6) = _
  rw [arr_6]; exact read_6 _
theorem arr_7 (c : Dev nD) : (dat0 m c).A 7 = ccwTab c := by dsimp only [dat0]; exact V9_ccw m c
theorem before_7 (c : Dev nD) (d) : (dat0 m c).before 7 t0_0 d = ccwTab c := by
  unfold Pipeline.Dat.before; rw [if_pos (fetch0_7 _)]
  show ((cfg0.win 7).blk t0_0).view.read (Elt F) ((dat0 m c).A 7) = _
  rw [arr_7]; exact read_7 _

/-! ## The body -/

/-- The body with the cells opened before it and closed after it. -/
theorem whole_body (c : Dev nD) (t : Fin cfg0.N) {Q : PUnit → sProp 𝕄} :
    iprop(Φ₀ m c ∗ heads (insOf m) c t ∗ tabs (insOf m) c t
        ∗ (∃ Y, owns (c : Thread nD τ) (st0_8 t) fullShare Y) ∗ owing c (owesAll c))
      ⊢ iprop(((Φ₁ c ∗ heads (insOf m) c t ∗ tabs (insOf m) c t
          ∗ owns (c : Thread nD τ) (st0_8 t) fullShare (result (insOf m) c) ∗ owing c 0) -∗ Q ⟨⟩)
        -∗ run c (bodyP t) Q) := by
  have hc : ∀ K κ, ctx (insOf m) K κ ⊢ (cells (insOf m) K : sProp 𝕄) := fun K κ => by
    unfold ctx; iintro ⟨H, -⟩; iexact H
  unfold Φ₀ Φ₁ Xk
  iintro ⟨⟨⟨%K, %κ, #Hc, Hs, Hb, Hg⟩, Hl, Hp⟩, Hh, Ht, Ho, HO⟩ HQ
  unfold run
  imod (device_start (insOf m) K κ c) $$ [Hs Hg Hl] with ⟨HA, Hr⟩
  · isplitr; · iexact Hc
    isplitl [Hs]; · iexact Hs
    isplitl [Hg] <;> iassumption
  iapply wp_fupd
  iapply (body_run (insOf m) K κ c t) $$ [Hr Hb Hh Ht HA Ho HO]
  · isplitr; · iexact Hc
    isplitl [Hr]; · iexact Hr
    isplitl [Hb]; · iexact Hb
    isplitl [Hh]; · iexact Hh
    isplitl [Ht]; · iexact Ht
    isplitl [HA]; · iexact HA
    isplitl [Ho] <;> iassumption
  iintro ⟨Hat, Hh, Ht, HA, Ho, HO⟩
  ihave #Hcc := (hc K κ) $$ Hc
  imod (device_end (insOf m) K c) $$ [HA] with ⟨Hos, Hl⟩
  · isplitr; · iexact Hcc
    iexact HA
  imod (close_bar (insOf m) K c) $$ [Hat] with Hv
  · isplitr; · iexact Hcc
    iexact Hat
  imodintro
  iapply HQ
  isplitl [Hv Hos Hl Hp]
  · isplitl [Hv]; · iexact Hv
    isplitl [Hos]; · iexact Hos
    isplitl [Hl] <;> iassumption
  isplitl [Hh]; · iexact Hh
  isplitl [Ht]; · iexact Ht
  isplitl [Ho] <;> iassumption

theorem owesAt_intro (c : Dev nD) (t : Fin (cfg0.N + 1)) (O : CellTallies nD τ sig ℕ) (h : (dat0 m c).owed t = O) :
    owing c O ⊢ ((dat0 m c).owesAt 0 t : sProp 𝕄) := by
  unfold owing Pipeline.Dat.owesAt Pipeline.owesWithin Pipeline.Dat.bound
  rw [h, show (dat0 m c).recorded t = Set.univ from rfl]
  iintro ⟨%W, HO⟩
  iexists W
  isplitr; · ipureintro; exact fun _ _ => Or.inl trivial
  iexact HO

theorem owesAt_elim (c : Dev nD) (t : Fin (cfg0.N + 1)) (O : CellTallies nD τ sig ℕ) (h : (dat0 m c).owed t = O) :
    ((dat0 m c).owesAt 0 t : sProp 𝕄) ⊢ owing c O := by
  unfold owing Pipeline.Dat.owesAt Pipeline.owesWithin
  rw [h]
  iintro ⟨%W, -, HO⟩
  iexists W
  iexact HO

theorem body_obligation (c : Dev nD) : BodyObligation (dat0 m c) (defs₀ (F := F)) 𝒱₀ 0 Set.univ := fun t => by
  obtain rfl := fin_N0 t
  rw [bigSep_W0, bigSep_W0]
  rw [show (dat0 m c).Φ t0_0.castSucc = Φ₀ m c from rfl, show (dat0 m c).Φ t0_0.succ = Φ₁ c from rfl]
  rw [show (defs₀ (F := F)) .tc cfg0.body (cfg0.bodyArgs t0_0 (cfg0.slots t0_0)) = bodyP t0_0 from bodyAt0_eq t0_0]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before_0, before_1, before_2, before_3, before_4, before_5, before_6, before_7]
  ihave HO := (owesAt_elim m c t0_0.castSucc (owesAll c) rfl) $$ HO
  iapply (whole_body m c t0_0) $$ [HΦ HO H0 H1 H2 H3 H4 H5 H6 H7 H8]
  · unfold heads tabs
    isplitl [HΦ]; · iexact HΦ
    isplitl [H1 H2 H3 H4 H5]
    · isplitl [H1]; · iexact H1
      isplitl [H2]; · iexact H2
      isplitl [H3]; · iexact H3
      isplitl [H4] <;> iassumption
    isplitl [H0 H6 H7]
    · isplitl [H0]; · iexact H0
      isplitl [H6] <;> iassumption
    isplitl [H8]; · iexists _; iexact H8
    iexact HO
  unfold heads tabs
  iintro ⟨HΦ, ⟨H1, H2, H3, H4, H5⟩, ⟨H0, H6, H7⟩, H8, HO⟩
  isplitl [HΦ]; · iexact HΦ
  isplitl [HO]; · iapply (owesAt_intro m c t0_0.succ 0 rfl); iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The arrays after the region -/

/-- The buffers after the region. -/
def V9' (c : Dev nD) : Valuation τ sig (Elt F) := Function.update (V9 m c) main_v49 (result (insOf m) c)

theorem flushed_eq (c : Dev nD) (t : Fin cfg0.N) :
    (dat0 m c).flushed 8 t = ((cfg0.win 8).blk t).view.read (Elt F) (result (insOf m) c) := by
  obtain rfl := fin_N0 t
  refine Eq.trans ?_ (read_8 (result (insOf m) c)).symm
  have ha : (dat0 m c).after 8 t0_0 = result (insOf m) c := by dsimp only [dat0]
  unfold Pipeline.Dat.flushed
  rw [ha]
  rfl

theorem after_8 (c : Dev nD) : (dat0 m c).arrAt 8 cfg0.N = result (insOf m) c :=
  (dat0 m c).arrAt_eq_of_cover 8 (result (insOf m) c) (fun t _ => flushed_eq m c t)
    (fun i => ⟨t0_0, flush0_8 _, mem_blk_8 i⟩)

theorem arr_before (c : Dev nD) (w : Fin cfg0.W) :
    (dat0 m c).arrAt w 0 = V9 m c (Proc.devRef .tc (Pipeline.arrRef spec0 w)) := rfl

theorem arr_after (c : Dev nD) (w : Fin cfg0.W) :
    (dat0 m c).arrAt w cfg0.N = V9' m c (Proc.devRef .tc (Pipeline.arrRef spec0 w)) := by
  have hin : ∀ w : Fin cfg0.W, (cfg0.win w).isOut = false →
      (Proc.devRef .tc (Pipeline.arrRef spec0 w) : DevRef τ sig) ≠ main_v49 →
      (dat0 m c).arrAt w cfg0.N = V9' m c (Proc.devRef .tc (Pipeline.arrRef spec0 w)) := fun w h hne => by
    refine ((dat0 m c).arrAt_in w h _).trans ?_
    unfold V9'
    rw [Function.update_of_ne hne]
    rfl
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ => exact hin 7 rfl (by decide)
  | ⟨8, _⟩ =>
    refine (after_8 m c).trans ?_
    unfold V9'
    show _ = Function.update (V9 m c) (main_v49 : DevRef τ sig) (result (insOf m) c) (main_v49 : DevRef τ sig)
    rw [Function.update_self]

/-! ## The region record -/

/-- The other buffers the host reaches. -/
def others : Finset (DevRef τ sig) := Pipeline.ucRefs τ sig \ Pipeline.arrRefs (τ := τ) spec0

theorem others_kept (c : Dev nD) : ∀ b ∈ others \ (∅ : Finset (DevRef τ sig)), V9' m c b = V9 m c b := fun b hb => by
  unfold V9'
  refine Function.update_of_ne (fun h => ?_) _ _
  have hb := (Finset.mem_sdiff.mp (Finset.mem_sdiff.mp hb).1).2
  refine hb (h ▸ ?_)
  have : (main_v49 : DevRef τ sig) ∈ Pipeline.arrRefs (τ := τ) spec0 := by decide
  exact this

theorem region_open (c : Dev nD) :
    iprop(Tk m c ∗ Pipeline.ownSems0 ownSem c ∗ levAts L lv) ⊢ (|={Set.univ}=> Xk m c : sProp 𝕄) := by
  unfold Tk Xk
  iintro ⟨⟨%K, %κ, #HK, #Hκ, Ho, Hb, Hg⟩, Hs, #HL⟩
  have e : (Pipeline.ownSems0 ownSem c : sProp 𝕄)
      ⊢ bigSep Finset.univ (fun x : Fin 4 × Fin 5 => semVal (siteCell (c, x)) 0) := Entails.of_eq rfl
  ihave Hs := e $$ Hs
  imod (open_sites (insOf m) K c) $$ [Ho Hs] with Hst
  · isplitr; · iexact HK
    isplitl [Ho] <;> iassumption
  imodintro
  iexists K; iexists κ
  unfold ctx
  isplitr
  · isplitr; · iexact HK
    isplitr; · iexact Hκ
    iexact HL
  isplitl [Hst]; · iexact Hst
  isplitl [Hb] <;> iassumption

theorem held_none (c : Dev nD) (W : Valuation τ sig (Elt F)) :
    (StableHlo.held (c : Thread nD τ) (∅ : Finset (DevRef τ sig)) W : sProp 𝕄) = BI.emp := by
  unfold StableHlo.held
  exact BI.bigSep_empty

theorem region_in (c : Dev nD) :
    iprop(Pipeline.scopedRest (sig := sig) (Val := Elt F) (Ix := ℕ) (Name := ℕ) (U := UU) (Lvl := ℕ) (τ := τ) spec0 c ∗ (∃ r, prngReg c r)
      ∗ StableHlo.held (c : Thread nD τ) (∅ : Finset (DevRef τ sig)) (V9 m c) ∗ Xk m c) ⊢ (Φ₀ m c : sProp 𝕄) := by
  rw [scoped_slots]
  unfold Φ₀
  iintro ⟨Hl, Hp, -, HX⟩
  isplitl [HX]; · iexact HX
  isplitl [Hl] <;> iassumption

theorem region_out (c : Dev nD) :
    (Φ₁ c : sProp 𝕄) ⊢ iprop(Pipeline.scopedRest (sig := sig) (Val := Elt F) (Ix := ℕ) (Name := ℕ) (U := UU) (Lvl := ℕ) (τ := τ) spec0 c
      ∗ (∃ r, prngReg c r) ∗ StableHlo.held (c : Thread nD τ) (∅ : Finset (DevRef τ sig)) (V9' m c)
      ∗ Pipeline.ownSems0 ownSem c ∗ semVal (barCell c) 0) := by
  rw [scoped_slots, held_none]
  unfold Φ₁
  iintro ⟨Hb, Hos, Hl, Hp⟩
  isplitl [Hl]; · iexact Hl
  isplitl [Hp]; · iexact Hp
  isplitr; · iempintro
  isplitl [Hos] <;> iassumption

theorem owed_first (c : Dev nD) : (dat0 m c).owed 0 = 0 + owesAll c := (zero_add _).symm
theorem owed_final (c : Dev nD) : (dat0 m c).owed (Fin.last _) = 0 := rfl

theorem owesAll_above (c : Dev nD) : Above 0 (owesAll c) := by
  intro g i h
  unfold owesAll at h
  rcases Nat.eq_zero_or_pos (allOwe c 0 1 g i) with h0 | h0
  · have hb : ∀ d : Dev nD, 0 < (tallyAt (barCell d) 0 1 : CellTallies nD τ sig ℕ) g i → i ∈ L g ∧ 0 < lv g i := fun d hd => by
      obtain ⟨rfl, rfl⟩ := Pipeline.tallyAt_pos hd
      refine ⟨mem_L d _ (by omega), ?_⟩
      show 0 < lv (barCell d) 0
      unfold lv; rw [kind_bar]; exact Nat.one_pos
    have h' : 0 < (tallyAt (barCell (rightOf c)) 0 1 : CellTallies nD τ sig ℕ) g i
        ∨ 0 < (tallyAt (barCell (leftOf c)) 0 1 : CellTallies nD τ sig ℕ) g i := by
      have : allOwe c 0 1 g i + (tallyAt (barCell (rightOf c)) 0 1 : CellTallies nD τ sig ℕ) g i
        + (tallyAt (barCell (leftOf c)) 0 1 : CellTallies nD τ sig ℕ) g i = owesAll c g i := rfl
      unfold owesAll at this
      omega
    rcases h' with h' | h'
    · exact hb _ h'
    · exact hb _ h'
  · have := above_allOwe c g i h0
    exact ⟨this.1, by omega⟩

theorem window_kind : ∀ w s, kindOf (.dma ((spec0 w).sem s) : SemLoc sig) = .other := by decide +kernel

theorem window_level (c : Dev nD) (w) (s) : lv ((c : Thread nD τ), .dma ((spec0 w).sem s)) 0 = 0 := by
  unfold lv; rw [window_kind]

theorem owed_above (c : Dev nD) (t : Fin (cfg0.N + 1)) (g i) (h : 0 < (dat0 m c).owed t g i) : i ∈ L g ∧ 0 < lv g i := by
  by_cases ht : t.val = 0
  · rw [show (dat0 m c).owed t = owesAll c from if_pos ht] at h
    exact owesAll_above c g i h
  · rw [show (dat0 m c).owed t = 0 from if_neg ht] at h
    exact absurd h (Nat.lt_irrefl 0)

set_option backward.isDefEq.respectTransparency.types false in
def reg0 : Pipeline.RegionSeg (Name := ℕ) (U := UU) (pcfgs (F := F)) adm (pdats m) (0 : ℕ) defs₀ 𝒱₀ L lv 0 :=
  Pipeline.RegionSeg.ofTalk (pcfgs (F := F)) adm (pdats m) (0 : ℕ) defs₀ 𝒱₀ L lv 0 ownSem (by decide : Pipeline.OwnSemFacts spec0 ownSem)
    ∅ others (Finset.empty_subset _) launch0.toP rfl (fun c => (body_obligation m c).loose)
    (fun _ => 0) owesAll (owed_first m) (owed_final m) (fun _ => rfl) (fun c => (dat0 m c).share_full fun _ => rfl)
    (V9 m) (V9' m) (others_kept m)
    (Tk m) (fun c => semVal (barCell c) 0) (Xk m) (fun c => semVal (barCell c) 0)
    (region_open m) (region_in m) (region_out m)
    (fun c => by iintro H; imodintro; iexact H)
    (fun _ => 0)
    ⟨fun c w s => mem_L c _ (by omega), fun c w s => le_of_eq (window_level c w s), fun c t g i h => owed_above m c t g i h⟩
    (fun _ => iprop(emp))
    (arr_before m) (arr_after m)

/-- What the launch keeps for the region, beside the arrays. -/
def rest0 (c : Dev nD) : sProp 𝕄 := iprop((∃ r, prngReg c r) ∗ Tk m c ∗ owing c (owesAll c))
/-- What the region leaves, beside the arrays. -/
def rest1 (c : Dev nD) : sProp 𝕄 := iprop(semVal (barCell c) 0 ∗ owing c 0)

theorem arr_sub : Pipeline.arrRefs (τ := τ) spec0 ⊆ Pipeline.ucRefs τ sig := by decide +kernel

theorem region_pre (c : Dev nD) :
    iprop(StableHlo.held (c : Thread nD τ) (Pipeline.ucRefs τ sig) (V9 m c) ∗ rest0 m c) ⊢ (reg0 m).pre c := by
  show _ ⊢ iprop(StableHlo.held (c : Thread nD τ) (Pipeline.arrRefs (τ := τ) spec0) (V9 m c) ∗ (∃ r, prngReg c r)
    ∗ (StableHlo.held (c : Thread nD τ) others (V9 m c) ∗ emp) ∗ Tk m c ∗ ∃ Wd, owes (c : Thread nD τ) (0 + owesAll c) Wd)
  rw [zero_add, StableHlo.held_sub_split (c : Thread nD τ) arr_sub (V9 m c)]
  unfold rest0 owing others
  iintro ⟨⟨Ha, Ho⟩, Hp, HT, HO⟩
  isplitl [Ha]; · iexact Ha
  isplitl [Hp]; · iexact Hp
  isplitl [Ho]
  · isplitl [Ho]; · iexact Ho
    iempintro
  isplitl [HT] <;> iassumption

theorem region_post (c : Dev nD) :
    (reg0 m).post c ⊢ iprop(StableHlo.held (c : Thread nD τ) (Pipeline.ucRefs τ sig) (V9' m c) ∗ rest1 c) := by
  show iprop(StableHlo.held (c : Thread nD τ) (Pipeline.arrRefs (τ := τ) spec0) (V9' m c) ∗ (∃ r, prngReg c r)
    ∗ (StableHlo.held (c : Thread nD τ) others (V9' m c) ∗ emp) ∗ semVal (barCell c) 0
      ∗ ∃ Wd, owes (c : Thread nD τ) (0 : CellTallies nD τ sig ℕ) Wd) ⊢ _
  rw [StableHlo.held_sub_split (c : Thread nD τ) arr_sub (V9' m c)]
  unfold rest1 owing others
  iintro ⟨Ha, -, ⟨Ho, -⟩, Hb, HO⟩
  isplitl [Ha Ho]; · isplitl [Ha] <;> iassumption
  isplitl [Hb] <;> iassumption

end Cert.Proof
end
-- ==== Proof.Deal.lean ====
/-
  What the launch makes — the cells, their tokens, the slots' counts, the promised units — dealt to the devices.
-/
module

public import proofs.«01_k».proof.Proof.Region

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => M₀ F

/-! ## The cells -/

theorem site_inj : Function.Injective ownSem := by decide +kernel
theorem site_bar : ∀ x, ownSem x ≠ .reg barSem := by decide +kernel

theorem cell_dev {c d : Dev nD} {a b : SemLoc sig} (h : (((c : Thread nD τ), a) : GSem nD τ sig) = ((d : Thread nD τ), b)) :
    c = d ∧ a = b := ⟨congrArg (fun g : GSem nD τ sig => g.1.1) h, congrArg Prod.snd h⟩

def barEmb : Dev nD ↪ GSem nD τ sig := ⟨fun c => barCell c, fun _ _ h => (cell_dev h).1⟩
def siteEmb : Dev nD × Fin 4 × Fin 5 ↪ GSem nD τ sig :=
  ⟨siteCell, fun x y h => Prod.ext (cell_dev h).1 (site_inj (cell_dev h).2)⟩

/-- The barrier cells. -/
def barCells : Finset (GSem nD τ sig) := Finset.univ.map barEmb
/-- The lanes' cells. -/
def siteCells : Finset (GSem nD τ sig) := Finset.univ.map siteEmb

theorem cells_apart : Disjoint barCells siteCells := by
  rw [Finset.disjoint_left]
  rintro g h₁ h₂
  obtain ⟨c, -, rfl⟩ := Finset.mem_map.mp h₁
  obtain ⟨x, -, h⟩ := Finset.mem_map.mp h₂
  exact site_bar x.2 (cell_dev h).2

/-! ## The tokens -/

theorem kind_of_eq {c d : Dev nD} {a b : SemLoc sig} (h : (((c : Thread nD τ), a) : GSem nD τ sig) = ((d : Thread nD τ), b)) :
    kindOf a = kindOf b := congrArg kindOf (cell_dev h).2

theorem par_div_inj {k k' : ℕ} (hp : par k = par k') (hd : k / 2 = k' / 2) : k = k' := by
  rw [← two_mul_par k, ← two_mul_par k', hp, hd]

abbrev Tok : Type := GSem nD τ sig × ℕ × ℕ

def barTok : Dev nD × ℕ ↪ Tok := ⟨fun x => (barCell x.1, 0, x.2), fun x y h =>
  Prod.ext (cell_dev (congrArg Prod.fst h)).1 (congrArg (fun t : Tok => t.2.2) h)⟩
def grantTok : (Fin 4 × Dev nD) × ℕ ↪ Tok := ⟨fun x => (creditCell x.1.1 x.1.2, 0, x.2), fun x y h => by
  have hk := kind_of_eq (congrArg Prod.fst h)
  rw [kind_credit, kind_credit] at hk
  exact Prod.ext (Prod.ext (by injection hk) (cell_dev (congrArg Prod.fst h)).1) (congrArg (fun t : Tok => t.2.2) h)⟩
def sendTok : (Fin 4 × Dev nD) × ℕ ↪ Tok := ⟨fun x => (sendCell x.1.1 (par x.2) x.1.2, x.2 / 2, 0), fun x y h => by
  have hk := kind_of_eq (congrArg Prod.fst h)
  rw [kind_send, kind_send] at hk
  injection hk with hl hp
  exact Prod.ext (Prod.ext hl (cell_dev (congrArg Prod.fst h)).1) (par_div_inj hp (congrArg (fun t : Tok => t.2.1) h))⟩
def recvTok : (Fin 4 × Dev nD) × ℕ ↪ Tok := ⟨fun x => (recvCell x.1.1 (par x.2) x.1.2, x.2 / 2, 0), fun x y h => by
  have hk := kind_of_eq (congrArg Prod.fst h)
  rw [kind_recv, kind_recv] at hk
  injection hk with hl hp
  exact Prod.ext (Prod.ext hl (cell_dev (congrArg Prod.fst h)).1) (par_div_inj hp (congrArg (fun t : Tok => t.2.1) h))⟩

def barToks : Finset Tok := (Finset.univ ×ˢ Finset.range 2).map barTok
def grantToks : Finset Tok := ((Finset.univ ×ˢ Finset.univ) ×ˢ Finset.Ico 0 29).map grantTok
def sendToks : Finset Tok := ((Finset.univ ×ˢ Finset.univ) ×ˢ Finset.Ico 0 31).map sendTok
def recvToks : Finset Tok := ((Finset.univ ×ˢ Finset.univ) ×ˢ Finset.Ico 0 31).map recvTok

/-- Every addition's token. -/
def toks : Finset Tok := barToks ∪ (grantToks ∪ (sendToks ∪ recvToks))

theorem apart_of_kind {A B : Type} {s : Finset A} {t : Finset B} (f : A ↪ Tok) (g : B ↪ Tok)
    (h : ∀ a b, kindOf (f a).1.2 ≠ kindOf (g b).1.2) : Disjoint (s.map f) (t.map g) := by
  rw [Finset.disjoint_left]
  rintro x h₁ h₂
  obtain ⟨a, -, rfl⟩ := Finset.mem_map.mp h₁
  obtain ⟨b, -, e⟩ := Finset.mem_map.mp h₂
  exact h a b (by rw [e])

theorem kind_barTok (x) : kindOf (barTok x).1.2 = .bar := kind_bar
theorem kind_grantTok (x) : kindOf (grantTok x).1.2 = .credit x.1.1 := kind_credit _
theorem kind_sendTok (x) : kindOf (sendTok x).1.2 = .send x.1.1 (par x.2) := kind_send _ _
theorem kind_recvTok (x) : kindOf (recvTok x).1.2 = .recv x.1.1 (par x.2) := kind_recv _ _

theorem toks_apart₁ : Disjoint barToks (grantToks ∪ (sendToks ∪ recvToks)) := by
  refine Finset.disjoint_union_right.mpr ⟨?_, Finset.disjoint_union_right.mpr ⟨?_, ?_⟩⟩
  · exact apart_of_kind _ _ fun a b h => by rw [kind_barTok, kind_grantTok] at h; cases h
  · exact apart_of_kind _ _ fun a b h => by rw [kind_barTok, kind_sendTok] at h; cases h
  · exact apart_of_kind _ _ fun a b h => by rw [kind_barTok, kind_recvTok] at h; cases h
theorem toks_apart₂ : Disjoint grantToks (sendToks ∪ recvToks) := by
  refine Finset.disjoint_union_right.mpr ⟨?_, ?_⟩
  · exact apart_of_kind _ _ fun a b h => by rw [kind_grantTok, kind_sendTok] at h; cases h
  · exact apart_of_kind _ _ fun a b h => by rw [kind_grantTok, kind_recvTok] at h; cases h
theorem toks_apart₃ : Disjoint sendToks recvToks :=
  apart_of_kind _ _ fun a b h => by rw [kind_sendTok, kind_recvTok] at h; cases h

/-! ## Dealing -/

def downEquiv (l : Fin 4) : Dev nD ≃ Dev nD := ⟨down l, up l, up_down l, down_up l⟩
def upEquiv (l : Fin 4) : Dev nD ≃ Dev nD := ⟨up l, down l, down_up l, up_down l⟩
def leftEquiv : Dev nD ≃ Dev nD := ⟨leftOf, rightOf, right_left, left_right⟩
def rightEquiv : Dev nD ≃ Dev nD := ⟨rightOf, leftOf, left_right, right_left⟩

/-- What every device holds on every lane, by device. -/
theorem by_device (Φ : Fin 4 → Dev nD → sProp 𝕄) :
    (bigSep Finset.univ fun l => bigSep Finset.univ fun c => Φ l c) = bigSep Finset.univ fun c => bigSep Finset.univ fun l => Φ l c :=
  bigSep_univ_comm Φ

theorem triples (s : Finset ℕ) (Φ : (Fin 4 × Dev nD) × ℕ → sProp 𝕄) :
    bigSep ((Finset.univ ×ˢ Finset.univ) ×ˢ s) Φ
      = bigSep Finset.univ fun l => bigSep Finset.univ fun c => bigSep s fun k => Φ ((l, c), k) := by
  rw [pairs, pairs]

/-- The barrier's tokens, each with the device that will use it. -/
theorem bar_dealt : bigSep barToks (fun x => (dutyTok ER x.1 x.2.1 x.2.2 : sProp 𝕄))
    = bigSep Finset.univ fun c : Dev nD => iprop(dutyTok ER (barCell (leftOf c)) 0 1 ∗ dutyTok ER (barCell (rightOf c)) 0 0) := by
  unfold barToks
  rw [bigSep_map, pairs, bigSep_sep', bigSep_univ_equiv rightEquiv.symm (fun c : Dev nD => (dutyTok ER (barCell (rightOf c)) 0 0 : sProp 𝕄)),
    bigSep_univ_equiv leftEquiv.symm (fun c : Dev nD => (dutyTok ER (barCell (leftOf c)) 0 1 : sProp 𝕄)), ← bigSep_sep']
  refine bigSep_congr fun c _ => ?_
  rw [show (Finset.range 2) = {1, 0} from by decide, bigSep_insert (by decide), bigSep_singleton]
  show iprop(dutyTok ER (barCell c) 0 1 ∗ dutyTok ER (barCell c) 0 0) = iprop(dutyTok ER (barCell (leftOf (rightOf c))) 0 1 ∗ dutyTok ER (barCell (rightOf (leftOf c))) 0 0)
  rw [left_right, right_left]

theorem grant_dealt : bigSep grantToks (fun x => (dutyTok ER x.1 x.2.1 x.2.2 : sProp 𝕄))
    = bigSep Finset.univ fun c : Dev nD => bigSep Finset.univ fun l : Fin 4 => bigSep (Finset.Ico 0 29) (creditTok l c) := by
  unfold grantToks
  rw [bigSep_map, triples, ← by_device]
  refine bigSep_congr fun l _ => ?_
  rw [bigSep_univ_equiv (upEquiv l)]
  rfl
theorem recv_dealt : bigSep recvToks (fun x => (dutyTok ER x.1 x.2.1 x.2.2 : sProp 𝕄))
    = bigSep Finset.univ fun c : Dev nD => bigSep Finset.univ fun l : Fin 4 => bigSep (Finset.Ico 0 31)
        fun k => dutyTok ER (recvCell l (par k) (down l c)) (k / 2) 0 := by
  unfold recvToks
  rw [bigSep_map, triples, ← by_device]
  refine bigSep_congr fun l _ => ?_
  rw [bigSep_univ_equiv (downEquiv l)]
  rfl
theorem send_dealt : bigSep sendToks (fun x => (dutyTok ER x.1 x.2.1 x.2.2 : sProp 𝕄))
    = bigSep Finset.univ fun c : Dev nD => bigSep Finset.univ fun l : Fin 4 => bigSep (Finset.Ico 0 31)
        fun k => dutyTok ER (sendCell l (par k) c) (k / 2) 0 := by
  unfold sendToks
  rw [bigSep_map, triples, ← by_device]
  rfl

/-- The writes of a slot, by the round they are made in. -/
def writeEmb : (Fin 4 × Dev nD) × ℕ ↪ Key × ℕ := ⟨fun x => ((x.1.2, x.1.1, par x.2), x.2 / 2), fun x y h => by
  have h1 := congrArg (fun t : Key × ℕ => t.1.1) h
  have h2 := congrArg (fun t : Key × ℕ => t.1.2.1) h
  have h3 := congrArg (fun t : Key × ℕ => t.1.2.2) h
  exact Prod.ext (Prod.ext h2 h1) (par_div_inj h3 (congrArg Prod.snd h))⟩

theorem write_dealt : bigSep ((Finset.univ : Finset Key) ×ˢ Finset.range 16) (fun x => (Release.writeTok ES x.1 (x.2 + 1) : sProp 𝕄))
    ⊢ bigSep Finset.univ fun c : Dev nD => bigSep Finset.univ fun l : Fin 4 => bigSep (Finset.Ico 0 31)
        fun k => Release.writeTok ES (down l c, l, par k) (k / 2 + 1) := by
  have hs : ((Finset.univ ×ˢ Finset.univ) ×ˢ Finset.Ico 0 31).map writeEmb ⊆ (Finset.univ : Finset Key) ×ˢ Finset.range 16 := by
    intro x hx
    obtain ⟨y, hy, rfl⟩ := Finset.mem_map.mp hx
    refine Finset.mem_product.mpr ⟨Finset.mem_univ _, Finset.mem_range.mpr ?_⟩
    have := (Finset.mem_Ico.mp (Finset.mem_product.mp hy).2).2
    show y.2 / 2 < 16
    omega
  refine BIBase.Entails.trans (bigSep_subset hs) (Entails.of_eq ?_)
  rw [bigSep_map, triples, ← by_device]
  refine bigSep_congr fun l _ => ?_
  rw [bigSep_univ_equiv (downEquiv l)]
  rfl

theorem readers_dealt : bigSep (Finset.univ : Finset Key) (fun k => (Release.readerAt ES k 0 : sProp 𝕄))
    = bigSep Finset.univ fun c : Dev nD => bigSep Finset.univ fun l : Fin 4 =>
        iprop(Release.readerAt ES (c, l, 0) 0 ∗ Release.readerAt ES (c, l, 1) 0) := by
  rw [bigSep_univ_prod]
  refine bigSep_congr fun c _ => ?_
  rw [bigSep_univ_prod]
  exact bigSep_congr fun l _ => BI.bigSep_fin_two (M := 𝕄) fun p => (Release.readerAt ES (c, l, p) 0 : sProp 𝕄)

/-- What the launch deals a lane beside the promised units. -/
def lanePart (l : Fin 4) (c : Dev nD) : sProp 𝕄 :=
  iprop((Release.readerAt ES (c, l, 0) 0 ∗ Release.readerAt ES (c, l, 1) 0)
    ∗ bigSep (Finset.Ico 0 31) (copyTok l c) ∗ bigSep (Finset.Ico 0 29) (creditTok l c))

/-- The promised units of a lane. -/
def laneCred (l : Fin 4) (c : Dev nD) : sProp 𝕄 :=
  iprop(bigSep (Finset.Ico 0 31) (recvCred l c) ∗ bigSep (Finset.Ico 1 30) (grantCred l c))

theorem lane_made (l : Fin 4) (c : Dev nD) : iprop(lanePart l c ∗ laneCred l c) ⊢ (laneGhost l c : sProp 𝕄) := by
  unfold lanePart laneCred laneGhost
  iintro ⟨⟨⟨H0, H1⟩, Hc, Hg⟩, Hr, Hd⟩
  isplitl [H0]; · iexact H0
  isplitl [H1]; · iexact H1
  isplitl [Hr]; · iexact Hr
  isplitl [Hd]; · iexact Hd
  isplitl [Hc] <;> iassumption

/-- Slots and tokens, dealt to the lanes. -/
theorem lanes_dealt :
    iprop(bigSep (Finset.univ : Finset Key) (fun k => (Release.readerAt ES k 0 : sProp 𝕄))
        ∗ bigSep ((Finset.univ : Finset Key) ×ˢ Finset.range 16) (fun x => (Release.writeTok ES x.1 (x.2 + 1) : sProp 𝕄))
        ∗ bigSep toks (fun x => (dutyTok ER x.1 x.2.1 x.2.2 : sProp 𝕄)))
      ⊢ bigSep Finset.univ fun c : Dev nD => iprop((dutyTok ER (barCell (leftOf c)) 0 1 ∗ dutyTok ER (barCell (rightOf c)) 0 0)
          ∗ bigSep Finset.univ fun l : Fin 4 => lanePart l c) := by
  have hc : ∀ l c, iprop(bigSep (Finset.Ico 0 31) (fun k => (Release.writeTok ES (down l c, l, par k) (k / 2 + 1) : sProp 𝕄))
      ∗ bigSep (Finset.Ico 0 31) (fun k => dutyTok ER (recvCell l (par k) (down l c)) (k / 2) 0)
      ∗ bigSep (Finset.Ico 0 31) (fun k => dutyTok ER (sendCell l (par k) c) (k / 2) 0)) ⊢ bigSep (Finset.Ico 0 31) (copyTok l c) := fun l c => by
    rw [← bigSep_sep', ← bigSep_sep']
    exact Entails.of_eq rfl
  have hl : ∀ l c, iprop((Release.readerAt ES (c, l, 0) 0 ∗ Release.readerAt ES (c, l, 1) 0)
      ∗ bigSep (Finset.Ico 0 31) (fun k => (Release.writeTok ES (down l c, l, par k) (k / 2 + 1) : sProp 𝕄))
      ∗ bigSep (Finset.Ico 0 31) (fun k => dutyTok ER (recvCell l (par k) (down l c)) (k / 2) 0)
      ∗ bigSep (Finset.Ico 0 31) (fun k => dutyTok ER (sendCell l (par k) c) (k / 2) 0)
      ∗ bigSep (Finset.Ico 0 29) (creditTok l c)) ⊢ lanePart l c := fun l c => by
    unfold lanePart
    iintro ⟨H0, H1, H2, H3, H4⟩
    isplitl [H0]; · iexact H0
    isplitl [H1 H2 H3]
    · iapply (hc l c)
      isplitl [H1]; · iexact H1
      isplitl [H2] <;> iassumption
    iexact H4
  have hd : ∀ c, iprop(bigSep Finset.univ (fun l : Fin 4 => iprop(Release.readerAt ES (c, l, 0) 0 ∗ Release.readerAt ES (c, l, 1) 0))
      ∗ bigSep Finset.univ (fun l : Fin 4 => bigSep (Finset.Ico 0 31) (fun k => (Release.writeTok ES (down l c, l, par k) (k / 2 + 1) : sProp 𝕄)))
      ∗ bigSep Finset.univ (fun l : Fin 4 => bigSep (Finset.Ico 0 31) (fun k => dutyTok ER (recvCell l (par k) (down l c)) (k / 2) 0))
      ∗ bigSep Finset.univ (fun l : Fin 4 => bigSep (Finset.Ico 0 31) (fun k => dutyTok ER (sendCell l (par k) c) (k / 2) 0))
      ∗ bigSep Finset.univ (fun l : Fin 4 => bigSep (Finset.Ico 0 29) (creditTok l c))) ⊢ bigSep Finset.univ (fun l : Fin 4 => lanePart l c) := fun c => by
    rw [← bigSep_sep', ← bigSep_sep', ← bigSep_sep', ← bigSep_sep']
    exact bigSep_mono fun l _ => hl l c
  have ht : bigSep toks (fun x => (dutyTok ER x.1 x.2.1 x.2.2 : sProp 𝕄))
      ⊢ iprop((bigSep Finset.univ fun c : Dev nD => iprop(dutyTok ER (barCell (leftOf c)) 0 1 ∗ dutyTok ER (barCell (rightOf c)) 0 0))
        ∗ (bigSep Finset.univ fun c : Dev nD => bigSep Finset.univ fun l : Fin 4 => bigSep (Finset.Ico 0 29) (creditTok l c))
        ∗ (bigSep Finset.univ fun c : Dev nD => bigSep Finset.univ fun l : Fin 4 => bigSep (Finset.Ico 0 31) fun k => dutyTok ER (sendCell l (par k) c) (k / 2) 0)
        ∗ bigSep Finset.univ fun c : Dev nD => bigSep Finset.univ fun l : Fin 4 => bigSep (Finset.Ico 0 31)
            fun k => dutyTok ER (recvCell l (par k) (down l c)) (k / 2) 0) := by
    unfold toks
    rw [bigSep_union toks_apart₁, bigSep_union toks_apart₂, bigSep_union toks_apart₃, bar_dealt, grant_dealt, send_dealt, recv_dealt]
    exact Entails.of_eq rfl
  refine (show _ ⊢ iprop((bigSep Finset.univ fun c : Dev nD => iprop(dutyTok ER (barCell (leftOf c)) 0 1 ∗ dutyTok ER (barCell (rightOf c)) 0 0))
    ∗ (bigSep Finset.univ fun c : Dev nD => bigSep Finset.univ (fun l : Fin 4 => iprop(Release.readerAt ES (c, l, 0) 0 ∗ Release.readerAt ES (c, l, 1) 0)))
    ∗ (bigSep Finset.univ fun c : Dev nD => bigSep Finset.univ (fun l : Fin 4 => bigSep (Finset.Ico 0 31) (fun k => (Release.writeTok ES (down l c, l, par k) (k / 2 + 1) : sProp 𝕄))))
    ∗ (bigSep Finset.univ fun c : Dev nD => bigSep Finset.univ (fun l : Fin 4 => bigSep (Finset.Ico 0 31) (fun k => dutyTok ER (recvCell l (par k) (down l c)) (k / 2) 0)))
    ∗ (bigSep Finset.univ fun c : Dev nD => bigSep Finset.univ (fun l : Fin 4 => bigSep (Finset.Ico 0 31) (fun k => dutyTok ER (sendCell l (par k) c) (k / 2) 0)))
    ∗ (bigSep Finset.univ fun c : Dev nD => bigSep Finset.univ (fun l : Fin 4 => bigSep (Finset.Ico 0 29) (creditTok l c)))) from ?_).trans ?_
  · iintro ⟨Hr, Hw, Ht⟩
    ihave Ht := ht $$ Ht
    icases Ht with ⟨Hb, Hg, Hs, Hv⟩
    ihave Hr := (Entails.of_eq (readers_dealt (F := F))) $$ Hr
    ihave Hw := (write_dealt (F := F)) $$ Hw
    isplitl [Hb]; · iexact Hb
    isplitl [Hr]; · iexact Hr
    isplitl [Hw]; · iexact Hw
    isplitl [Hv]; · iexact Hv
    isplitl [Hs] <;> iassumption
  · rw [← bigSep_sep', ← bigSep_sep', ← bigSep_sep', ← bigSep_sep', ← bigSep_sep']
    exact bigSep_mono fun c _ => sep_mono_right (hd c)

/-! ## The promised units -/

theorem lane_cred (l : Fin 4) (c : Dev nD) : (Pipeline.launchCred (fun d => laneOwes l d 0 1) c : sProp 𝕄) ⊢ laneCred l c := by
  unfold laneOwes laneCred
  rw [Pipeline.launchCred_add, Pipeline.launchCred_sum, Pipeline.launchCred_sum]
  refine BIClass.sep_mono (bigSep_mono fun k _ => ?_) (bigSep_mono fun j _ => ?_)
  · exact Pipeline.launchCred_tallyAt (.dma (rsem l (par k))) (down l) (up l) (down_up l) (up_down l) k N c
  · exact Pipeline.launchCred_tallyAt (.reg (creditSem l)) (up l) (down l) (up_down l) (down_up l) j 1 c

theorem all_cred (c : Dev nD) : (Pipeline.launchCred owesAll c : sProp 𝕄)
    ⊢ iprop(bigSep Finset.univ (fun l => laneCred l c) ∗ cred (tallyAt (barCell c) 0 2)) := by
  have hr := Pipeline.launchCred_tallyAt (Val := Elt F) (Name := ℕ) (U := UU) (Lvl := ℕ) (τ := τ) (.reg barSem) rightOf leftOf right_left left_right (0 : ℕ) 1 c
  have hl := Pipeline.launchCred_tallyAt (Val := Elt F) (Name := ℕ) (U := UU) (Lvl := ℕ) (τ := τ) (.reg barSem) leftOf rightOf left_right right_left (0 : ℕ) 1 c
  show (Pipeline.launchCred (fun d => allOwe d 0 1 + tallyAt (barCell (rightOf d)) 0 1 + tallyAt (barCell (leftOf d)) 0 1) c : sProp 𝕄) ⊢ _
  unfold allOwe
  rw [Pipeline.launchCred_add, Pipeline.launchCred_add, Pipeline.launchCred_sum]
  iintro ⟨⟨Ha, Hr⟩, Hl⟩
  ihave Hr := hr $$ Hr
  ihave Hl := hl $$ Hl
  isplitl [Ha]
  · have h : (bigSep Finset.univ fun l : Fin 4 => (Pipeline.launchCred (fun d => laneOwes l d 0 1) c : sProp 𝕄)) ⊢ bigSep Finset.univ (fun l => laneCred l c) :=
      bigSep_mono fun l _ => lane_cred l c
    iapply h $$ Ha
  · rw [show (tallyAt (barCell c) 0 2 : CellTallies nD τ sig ℕ) = tallyAt (barCell c) 0 1 + tallyAt (barCell c) 0 1 from (tallyAt_add (barCell c) 0 1 1).symm]
    iapply (cred_add _ _).2
    isplitl [Hr] <;> iassumption

end Cert.Proof
end
-- ==== Proof.Launch.lean ====
/- The run: the launch funds the protocol, @main is its host stretches and the region, and the end is read off. -/
module

public import proofs.«01_k».proof.Proof.Deal

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => M₀ F

variable (m : (l : Loc nD τ sig) → Buf (Elt F) l) (ρ : Dev nD → PrngReg)

/-- The protocol's launch element: the cells with their tokens, and the slots. -/
def u₂ : U₂ := (launchOf barCells siteCells toks, Release.initSlots Finset.univ 16)

/-- The launch element. -/
def u₀ : UU :=
  (initOf (Pipeline.cells (Pipeline.pin (pcfgs (F := F)) adm) cellOf_inj) (Pipeline.launchToks (Pipeline.pin (pcfgs (F := F)) adm) cellOf_inj), u₂)

/-- A resource kept whole by the first device until it is dealt. -/
def parked (X : sProp 𝕄) (c : Dev nD) : sProp 𝕄 := if c = 0 then X else iprop(emp)

theorem parked_all (X : sProp 𝕄) : bigSep Finset.univ (parked X) = X := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- The protocol's element, whole. -/
def whole : sProp 𝕄 := iprop(BI.own (ER (launchOf barCells siteCells toks)) ∗ BI.own (ES (Release.initSlots (Finset.univ : Finset Key) 16)))

theorem unscoped_bar : ∀ sm : SemLoc sig, sm.isScoped .tc = false → sm = .reg barSem := by decide +kernel

theorem unscoped_sems (c : Dev nD) : (unscopedSems0 c : sProp 𝕄) = semVal (barCell c) 0 := by
  unfold unscopedSems0
  rw [show (Finset.univ.filter fun sm : SemLoc sig => ¬ sm.isScoped .tc) = {SemLoc.reg barSem} from by decide +kernel, BI.bigSep_singleton]

/-- What a device has of its own at launch. -/
def own0 (c : Dev nD) : sProp 𝕄 :=
  iprop((∃ r, prngReg c r) ∗ owing c (owesAll c) ∗ bigSep Finset.univ (fun l => laneCred l c) ∗ cred (tallyAt (barCell c) 0 2))
/-- What it is dealt. -/
def dealt (c : Dev nD) : sProp 𝕄 :=
  iprop(atPos ER (barCell c) 0 ∅ 0 ∗ bigSep Finset.univ (fun x : Fin 4 × Fin 5 => openTok ER (siteCell (c, x)))
    ∗ (dutyTok ER (barCell (leftOf c)) 0 1 ∗ dutyTok ER (barCell (rightOf c)) 0 0) ∗ bigSep Finset.univ fun l : Fin 4 => lanePart l c)
/-- What all may consult. -/
def records (K : GSem nD τ sig → ℕ) (κ : Key → ℕ) : sProp 𝕄 :=
  iprop(cells (insOf m) K ∗ slotInvs κ ∗ bigSep Finset.univ fun c : Dev nD => reached ER (barCell c) 0)

instance records_persistent (K : GSem nD τ sig → ℕ) (κ : Key → ℕ) : BI.Persistent (records m K κ) := by unfold records; infer_instance

theorem reached_bar (c : Dev nD) : (bigSep Finset.univ fun c : Dev nD => (reached ER (barCell c) 0 : sProp 𝕄)) ⊢ reached ER (barCell c) 0 :=
  bigSep_elim (Φ := fun c : Dev nD => (reached ER (barCell c) 0 : sProp 𝕄)) (Finset.mem_univ c)

theorem rest0_made (K : GSem nD τ sig → ℕ) (κ : Key → ℕ) (c : Dev nD) :
    iprop(records m K κ ∗ (own0 c ∗ dealt c)) ⊢ (rest0 m c : sProp 𝕄) := by
  have hl : iprop(bigSep Finset.univ (fun l : Fin 4 => lanePart l c) ∗ bigSep Finset.univ (fun l => laneCred l c))
      ⊢ (bigSep Finset.univ (fun l => laneGhost l c) : sProp 𝕄) := by
    rw [← bigSep_sep']
    exact bigSep_mono fun l _ => lane_made l c
  unfold records own0 dealt rest0 Tk barSt
  iintro ⟨⟨#HK, #Hκ, #Hr⟩, ⟨Hp, HO, Hc, Hb⟩, Hat, Hop, ⟨H1, H0⟩, Hl⟩
  isplitl [Hp]; · iexact Hp
  isplitr [HO]
  · iexists K; iexists κ
    isplitr; · iexact HK
    isplitr; · iexact Hκ
    isplitl [Hop]; · iexact Hop
    isplitl [H1 H0 Hat Hb]
    · isplitl [H1]; · iexact H1
      isplitr; · iapply (reached_bar (leftOf c)); iexact Hr
      isplitl [H0]; · iexact H0
      isplitr; · iapply (reached_bar (rightOf c)); iexact Hr
      isplitl [Hat]; · iexact Hat
      iexact Hb
    iapply hl
    isplitl [Hl] <;> iassumption
  iexact HO

theorem cells_made (K : GSem nD τ sig → ℕ) :
    (bigSep (barCells ∪ siteCells) fun g => (cellInv ER (rd (insOf m)) (K g) g : sProp 𝕄)) ⊢ cells (insOf m) K := by
  unfold cells
  rw [bigSep_union cells_apart]
  unfold barCells siteCells
  rw [bigSep_map, bigSep_map]
  exact Entails.of_eq rfl

/-- The launch's global step. -/
theorem init :
    iprop((bigSep Finset.univ fun c : Dev nD => iprop(unscopedSems0 c ∗ owes (c : Thread nD τ) (owesAll c) ∅
          ∗ Pipeline.launchCred owesAll c ∗ prngReg c (ρ c) ∗ parked whole c)) ∗ levAts L lv)
      ⊢ (|={Set.univ}=> bigSep Finset.univ (rest0 m) : sProp 𝕄) := by
  have hcore : ∀ c : Dev nD, iprop(unscopedSems0 c ∗ owes (c : Thread nD τ) (owesAll c) ∅
        ∗ Pipeline.launchCred owesAll c ∗ prngReg c (ρ c) ∗ parked whole c)
      ⊢ (iprop(own0 c ∗ (semVal (barCell c) 0 ∗ parked whole c)) : sProp 𝕄) := fun c => by
    rw [unscoped_sems]
    unfold own0 owing
    iintro ⟨Hv, HO, Hcr, Hp, HG⟩
    ihave Hc := (all_cred (F := F) c) $$ Hcr
    icases Hc with ⟨H1, HN⟩
    isplitl [H1 HN HO Hp]
    · isplitl [Hp]; · iexists (ρ c); iexact Hp
      isplitl [HO]; · iexists ∅; iexact HO
      isplitl [H1] <;> iassumption
    isplitl [Hv] <;> iassumption
  have hall : (bigSep Finset.univ fun c : Dev nD => iprop(unscopedSems0 c ∗ owes (c : Thread nD τ) (owesAll c) ∅
        ∗ Pipeline.launchCred owesAll c ∗ prngReg c (ρ c) ∗ parked whole c))
      ⊢ (iprop(bigSep Finset.univ own0 ∗ bigSep Finset.univ (fun c : Dev nD => semVal (barCell c) 0) ∗ whole) : sProp 𝕄) := by
    have h : (bigSep Finset.univ fun c : Dev nD => iprop(own0 c ∗ (semVal (barCell c) 0 ∗ parked whole c)) : sProp 𝕄)
        = iprop(bigSep Finset.univ own0 ∗ bigSep Finset.univ (fun c : Dev nD => semVal (barCell c) 0) ∗ whole) := by
      rw [bigSep_sep', bigSep_sep', parked_all]
    rw [← h]
    exact bigSep_mono fun c _ => hcore c
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hop : bigSep siteCells (fun g => (openTok ER g : sProp 𝕄))
      ⊢ bigSep Finset.univ (fun c : Dev nD => bigSep Finset.univ (fun x : Fin 4 × Fin 5 => (openTok ER (siteCell (c, x)) : sProp 𝕄))) :=
    Entails.of_eq (by
      unfold siteCells
      rw [bigSep_map, bigSep_univ_prod]
      rfl)
  iintro ⟨H, -⟩
  ihave H := hall $$ H
  icases H with ⟨Ho, Hv, Hw⟩
  ihave Hv := hv $$ Hv
  unfold whole
  icases Hw with ⟨Hu, Hs⟩
  imod (Rounds.fund_launch ER (rd (insOf m)) cells_apart (fun g _ h => h) toks) $$ [Hv Hu] with ⟨%K, -, Hinv, Hr, Hat, Hopen, Htok⟩
  · isplitl [Hv] <;> iassumption
  imod (Release.slots_init ES (Finset.univ : Finset Key) 16 (fun k : Key => (rAny k.2.1 k.2.2 k.1 : sProp 𝕄))) $$ [Hs] with ⟨%κ, -, Hsi, Hrd, Hwr⟩
  · iexact Hs
  imodintro
  ihave #HK := (cells_made m K) $$ Hinv
  ihave #Hre := hre $$ Hr
  ihave Hat := hat $$ Hat
  ihave Hopen := hop $$ Hopen
  have hsi : (bigSep (Finset.univ : Finset Key) fun k => Release.slotInv ES (κ k) k (rAny k.2.1 k.2.2 k.1)) ⊢ (slotInvs κ : sProp 𝕄) :=
    Entails.of_eq rfl
  ihave #Hκ := hsi $$ Hsi
  ihave Hl := (lanes_dealt (F := F)) $$ [Hrd Hwr Htok]
  · isplitl [Hrd]; · iexact Hrd
    isplitl [Hwr] <;> iassumption
  have hfin : iprop(records m K κ ∗ bigSep Finset.univ (fun c => iprop(own0 c ∗ dealt c))) ⊢ (bigSep Finset.univ (rest0 m) : sProp 𝕄) :=
    bigSep_with_persistent (R := records m K κ) (Φ := fun c => iprop(own0 c ∗ dealt c)) fun c _ => rest0_made m K κ c
  have hd : iprop(bigSep Finset.univ own0 ∗ bigSep Finset.univ (fun c : Dev nD => (atPos ER (barCell c) 0 ∅ 0 : sProp 𝕄))
      ∗ bigSep Finset.univ (fun c : Dev nD => bigSep Finset.univ (fun x : Fin 4 × Fin 5 => (openTok ER (siteCell (c, x)) : sProp 𝕄)))
      ∗ bigSep Finset.univ (fun c : Dev nD => iprop((dutyTok ER (barCell (leftOf c)) 0 1 ∗ dutyTok ER (barCell (rightOf c)) 0 0)
          ∗ bigSep Finset.univ fun l : Fin 4 => lanePart l c)))
      ⊢ bigSep Finset.univ (fun c => iprop(own0 c ∗ dealt c)) := by
    rw [← bigSep_sep', ← bigSep_sep', ← bigSep_sep']
    exact Entails.of_eq rfl
  iapply hfin
  isplitr
  · unfold records
    isplitr; · iexact HK
    isplitr; · iexact Hκ
    iexact Hre
  iapply hd
  isplitl [Ho]; · iexact Ho
  isplitl [Hat]; · iexact Hat
  isplitl [Hopen] <;> iassumption

/-! ## The run -/

/-- What rides beside the buffers before and after the region. -/
def beside (i : Fin 2) (c : Dev nD) : sProp 𝕄 := if i = 0 then rest0 m c else rest1 c

theorem V9'_main (c : Dev nD) : V9' m c main_v49 = result (insOf m) c := by
  unfold V9'; exact Function.update_self _ _ _
theorem V9'_arg0 (c : Dev nD) : V9' m c main_arg0 = m ((c : Thread nD τ).loc main_arg0) := by
  unfold V9'; rw [Function.update_of_ne (by decide)]; exact V9_arg0 m c
theorem V9'_arg1 (c : Dev nD) : V9' m c main_arg1 = m ((c : Thread nD τ).loc main_arg1) := by
  unfold V9'; rw [Function.update_of_ne (by decide)]; exact V9_arg1 m c
theorem V9'_arg2 (c : Dev nD) : V9' m c main_arg2 = m ((c : Thread nD τ).loc main_arg2) := by
  unfold V9'; rw [Function.update_of_ne (by decide)]; exact V9_arg2 m c
theorem V9'_arg3 (c : Dev nD) : V9' m c main_arg3 = m ((c : Thread nD τ).loc main_arg3) := by
  unfold V9'; rw [Function.update_of_ne (by decide)]; exact V9_arg3 m c

/-- What a final state holds on device `c`. -/
def Ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3))
  ∧ s.mem ((c : Thread nD τ).loc main_v49) = result (insOf m) c

theorem ends_read (c : Dev nD) (s' : Phys nD τ sig (Elt F)) :
    iprop((StableHlo.held (c : Thread nD τ) (Pipeline.ucRefs τ sig) (V9' m c) ∗ semVal (barCell c) 0) ∗ SI s')
      ⊢ (|={Set.univ}=> iprop(⌜Ends m c s'.mem ∧ s'.mem.sem (barCell c) = 0⌝ ∗ SI s') : sProp 𝕄) := by
  unfold StableHlo.held
  iintro ⟨⟨Hh, Hb0⟩, HSI⟩
  icombine HSI Hb0 gives %hb
  ihave Hr := (pointsTo_read_all (Pipeline.ucRefs τ sig) (fun b => ((c : Thread nD τ).1, b)) (V9' m c) s') $$ [Hh HSI]
  · isplitl [Hh] <;> iassumption
  icases Hr with ⟨%h, HSI⟩
  imodintro
  isplitr
  · ipureintro
    exact ⟨⟨⟨(h (Proc.devRef .tc main_arg0) (Finset.mem_filter.mpr ⟨StableHlo.devRef_mem_tcRefs main_arg0, by decide⟩)).trans (V9'_arg0 m c),
      (h (Proc.devRef .tc main_arg1) (Finset.mem_filter.mpr ⟨StableHlo.devRef_mem_tcRefs main_arg1, by decide⟩)).trans (V9'_arg1 m c),
      (h (Proc.devRef .tc main_arg2) (Finset.mem_filter.mpr ⟨StableHlo.devRef_mem_tcRefs main_arg2, by decide⟩)).trans (V9'_arg2 m c),
      (h (Proc.devRef .tc main_arg3) (Finset.mem_filter.mpr ⟨StableHlo.devRef_mem_tcRefs main_arg3, by decide⟩)).trans (V9'_arg3 m c)⟩,
      (h (Proc.devRef .tc main_v49) (Finset.mem_filter.mpr ⟨StableHlo.devRef_mem_tcRefs main_v49, by decide⟩)).trans (V9'_main m c)⟩,
      by simpa using hb⟩
  · iexact HSI

set_option backward.isDefEq.respectTransparency.types false in
set_option maxRecDepth 1160 in
/-- From any memory with the counters at zero every run of @main ends, the arguments as they were, the result in place and
    every counter at zero. -/
theorem run_main : θ_run defs (onTc (τ := τ) (main (F := F))) ⟨m, fun _ => 0, ρ⟩
    (fun r => (∀ c : Dev nD, Ends m c r.2) ∧ r.2.sem = fun _ => 0) := by
  refine Pipeline.θ_run_regions_kit_dev_sems (pcfgs (F := F)) adm (pdats m) (0 : ℕ) cellOf_inj EP defs₀ 𝒱₀ L lv m ρ main
    (segs m 𝒱₀ L lv (beside m) (0 : ℕ) (pdats m) (reg0 m))
    (fun c Q => by
      rewrite [main_chain c, Pipeline.Seg.run_eq_chain,
        show (segs m 𝒱₀ L lv (beside m) (0 : ℕ) (pdats m) (reg0 m) c).map Pipeline.Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) owesAll L_of_ne
    (parked whole) (u₀ (F := F)) ?_
    (T₀ := fun c => iprop(StableHlo.held (c : Thread nD τ) (Pipeline.ucRefs τ sig) (V0 m c) ∗ rest0 m c))
    (Tₙ := fun c => iprop(StableHlo.held (c : Thread nD τ) (Pipeline.ucRefs τ sig) (V9' m c) ∗ semVal (barCell c) 0))
    (hch := fun c => ⟨.rfl, .rfl, .rfl, .rfl, .rfl, .rfl, .rfl, .rfl, .rfl, region_pre m c, (region_post m c).trans ?_⟩)
    (hinit := ?_) (QY := fun c s => Ends m c s ∧ s.sem (barCell c) = 0)
    (hfin := fun c s' => ends_read m c s') (hQ := fun s h hs => ⟨fun c => (h c).1, ?_⟩)
  · unfold u₀ u₂
    iintro Hu
    ihave H := (ownU_pair _ _) $$ Hu
    icases H with ⟨HP, HX⟩
    imodintro
    isplitl [HP]; · iexact HP
    rw [parked_all]
    unfold whole
    iapply (own_pair_emb (embR : Emb U₂ 𝕄) _ _) $$ HX
  · unfold rest1 owing
    iintro ⟨Hh, Hb, HO⟩
    isplitr [HO]
    · isplitl [Hh] <;> iassumption
    iexact HO
  · have hsplit : (bigSep Finset.univ fun c : Dev nD => iprop(unscopedBufs c (fun b => m ((c.tc : Thread nD τ).loc b)) ∗ unscopedSems0 c
          ∗ owes (c.tc : Thread nD τ) (owesAll c) ∅ ∗ Pipeline.launchCred owesAll c ∗ prngReg c (ρ c) ∗ parked whole c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (owesAll c) ∅ ∗ Pipeline.launchCred owesAll c ∗ prngReg c (ρ c) ∗ parked whole c))
            : sProp 𝕄) := by
      rw [← bigSep_sep']
      exact bigSep_mono fun c _ => by rw [← Pipeline.unscopedBufs_held (Ix := ℕ) (Name := ℕ) (U := UU) (Lvl := ℕ) c (V0 m c)]; exact BI.Entails.refl _
    iintro ⟨H, Hla⟩
    ihave H' := hsplit $$ H
    icases H' with ⟨Hh, Hr⟩
    imod (init m ρ) $$ [Hr Hla] with HE
    · isplitl [Hr]; · iexact Hr
      iexact Hla
    imodintro
    rw [bigSep_sep']
    isplitl [Hh]; · iexact Hh
    iexact HE
  · exact sem_eq_zero hs fun c sm hsm => by
      obtain rfl := unscoped_bar sm hsm
      exact (h c).2

end Cert.Proof
end
-- ==== Proof.Frames.lean ====
/- The frames: each program runs, leaves its arguments as they were, and ends with every semaphore at zero. -/
module

public import proofs.«01_k».proof.Proof.Launch
public import proofs.«01_k».proof.Defs
public import proofs.«01_k».proof.Proof.Gen.Kernel
public import proofs.«01_k».proof.Proof.Gen.ReferenceIdeal.Frame

@[expose] public section

set_option maxHeartbeats 4000000

noncomputable section

namespace Cert.Proof

open Idealize.ShloMosaic Idealize.ShloMosaic.TcCoe Idealize.SL.Sem
open Cert.KernelIdeal

/-- The kernel over the extended reals. -/
theorem frame_kernelIdeal : Cert.quiescent_KernelIdeal (hKernelIdeal := Cert.KernelIdeal.Gen.facts) := fun m ρ _ =>
  (θ_run Cert.KernelIdeal.defs _ _).mono (fun _ h => ⟨fun c => (h.1 c).1, h.2⟩) (run_main (F := Ideal) m ρ)

/-! The kernel over bits is the same program, read with another type of floats; the two printed texts agree. -/

theorem bodies_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.Kernel.defs (F := Bits) = Cert.KernelIdeal.defs (F := Bits) := congrArg (Pipeline.defs _) bodies_eq

theorem main_part0_eq : Cert.Kernel.main_part0 (F := Bits) = Cert.KernelIdeal.main_part0 (F := Bits) := rfl

theorem main_eq : Cert.Kernel.main (F := Bits) = Cert.KernelIdeal.main (F := Bits) := rfl

/-- The run of a program that is the kernel, by equations. -/
theorem run_of (D : Defs nD τ sig (Elt Bits) (Pipeline.Sig Λ₀ (Fin 1) fun p => (pcfgs (F := Bits) p).Adm))
    (M : Dev nD → Prog (TpuEff nD τ sig (Elt Bits) (Pipeline.Sig Λ₀ (Fin 1) fun p => (pcfgs (F := Bits) p).Adm) .tc) PUnit)
    (hD : D = Cert.KernelIdeal.defs (F := Bits)) (hM : M = Cert.KernelIdeal.main (F := Bits))
    (m : (ℓ : Loc nD τ sig) → Buf (Elt Bits) ℓ) (ρ : Dev nD → PrngReg) :
    θ_run D (onTc (τ := τ) M) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [hD, hM]
  exact (θ_run Cert.KernelIdeal.defs _ _).mono (fun _ h => ⟨fun c => (h.1 c).1, h.2⟩) (run_main (F := Bits) m ρ)

/-- The kernel over bits. -/
theorem frame_kernel : Cert.quiescent_Kernel (hKernel := Cert.Kernel.Gen.facts) := fun m ρ _ =>
  run_of (Cert.Kernel.defs (F := Bits)) (Cert.Kernel.main (F := Bits)) defs_eq main_eq m ρ

/-- The reference. -/
theorem frame_reference : Cert.quiescent_ReferenceIdeal (hReferenceIdeal := Cert.ReferenceIdeal.Gen.facts) := fun m ρ _ =>
  Cert.ReferenceIdeal.Gen.frame (F := Ideal) m ρ

end Cert.Proof

end
-- ==== Proof.Value.lean ====
/- What the ring computes over the extended reals: each device ends with the whole product's rows, scaled. -/
module

public import proofs.«01_k».proof.Proof.BodyRun
public import Idealize.ShloMosaic.Lib.MatmulPlain
public import Idealize.ShloMosaic.Lib.ValueLayout
public import Idealize.ShloMosaic.PureOps.Ideal.Laws

@[expose] public section

noncomputable section

namespace Cert.Proof

open Idealize.ShloMosaic Idealize.ShloMosaic.ValueIdx
open Cert.KernelIdeal Cert.KernelIdeal.Gen
open scoped BigOperators

/-! ## One part -/

/-- Row `r` of chunk `j`, among all rows. -/
def rowOf (j : Fin 32) (r : Fin 128) : Fin 4096 := ⟨j.val * 128 + r.val, by omega⟩
/-- Column `n` of lane `l`, among all columns. -/
def colOf (l : Fin 4) (n : Fin 512) : Fin 2048 := ⟨l.val * 512 + n.val, by omega⟩

/-- What device `d` contributes to row `r` of chunk `j` at column `n`: the products over its own 128 places. -/
def share (I : Ins Ideal) (d : Dev nD) (j : Fin 32) (r : Fin 128) (n : Fin 2048) : EReal :=
  ∑ k : Fin 128, I.x d (ix2 (rowOf j r) k) * I.w d (ix2 k n)

theorem off1_rows : ∀ j : Fin 32, k0_off1 (word j) 0 = j.val * 128 := by decide +kernel
theorem off1_cols : ∀ j : Fin 32, k0_off1 (word j) 1 = 0 := by decide +kernel

theorem chunk_apply (x : Vec Ideal S4096x128 .fp8e5m2) (j : Fin 32) (r k : Fin 128) :
    chunk x j (ix2 r k) = x (ix2 (rowOf j r) k) := by
  unfold chunk
  refine congrArg x ?_
  funext a; apply Fin.ext
  match a with
  | ⟨0, _⟩ => show k0_off1 (word j) 0 + 1 * r.val = j.val * 128 + r.val; rw [off1_rows]; omega
  | ⟨1, _⟩ => show k0_off1 (word j) 1 + 1 * k.val = k.val; rw [off1_cols]; omega

theorem leftHalf_apply (w : Vec Ideal S128x2048 .fp8e5m2) (k : Fin 128) (n : Fin 1024) (q : Fin 2048) (h : q.val = n.val) :
    leftHalf w (ix2 k n) = w (ix2 k q) := by
  unfold leftHalf
  refine congrArg w ?_
  funext a; apply Fin.ext
  match a with
  | ⟨0, _⟩ => show 0 + 1 * k.val = k.val; omega
  | ⟨1, _⟩ => show 0 + 1 * n.val = q.val; omega

theorem rightHalf_apply (w : Vec Ideal S128x2048 .fp8e5m2) (k : Fin 128) (n : Fin 1024) (q : Fin 2048) (h : q.val = 1024 + n.val) :
    rightHalf w (ix2 k n) = w (ix2 k q) := by
  unfold rightHalf
  refine congrArg w ?_
  funext a; apply Fin.ext
  match a with
  | ⟨0, _⟩ => show 0 + 1 * k.val = k.val; omega
  | ⟨1, _⟩ => show 1024 + 1 * n.val = q.val; omega

theorem prod_apply (x : Vec Ideal S128x128 .fp8e5m2) (w : Vec Ideal S128x1024 .fp8e5m2) (r : Fin 128) (n : Fin 1024) :
    prod x w (ix2 r n) = ∑ k : Fin 128, x (ix2 r k) * w (ix2 k n) := by
  unfold prod k0_pay14 k0_pay1
  simp only [shapeCast_self]
  show FloatOps.matmul (DotDims.plain 128 128 1024) none (extf (F := Ideal) (s := S128x128) (φ := .fp8e5m2) .bf16 x bitsLt_fp8e5m2_bf16)
    (extf (F := Ideal) (s := S128x1024) (φ := .fp8e5m2) .bf16 w bitsLt_fp8e5m2_bf16)
    (constant S128x1024 .f32 0x00000000#32) (ix2 r n) = _
  rw [Ideal.matmul_plain_apply]
  show Ideal.ofBits .f32 0x00000000#32 + _ = _
  rw [Ideal.ofBits_zero_f32, zero_add]
  rfl

/-- The chunk of rows lane `l` of `c` takes in round `s`. -/
def chunkOf (l : Fin 4) (c : Dev nD) (s : Fin 32) : Fin 32 := if l.val < 2 then cwChunk c s else ccwChunk c s

theorem part_apply (I : Ins Ideal) (l : Fin 4) (c : Dev nD) (s : ℕ) (r : Fin 128) (n : Fin 512) :
    I.part l c s (ix2 r n) = share I c (chunkOf l c (Fin.ofNat 32 s)) r (colOf l n) := by
  unfold Ins.part share
  match l with
  | 0 =>
    show extractStridedSlice S128x512 ![0, 0] (prod _ _) slices_S128x1024_o0_0_S128x512 (ix2 r n) = _
    refine (slice2_axis1_apply 0 (prod _ _) slices_S128x1024_o0_0_S128x512 r n ⟨n.val, by omega⟩ (Nat.zero_add _).symm).trans ?_
    rw [prod_apply]
    refine Finset.sum_congr rfl fun k _ => ?_
    rw [chunk_apply, leftHalf_apply _ _ _ (colOf 0 n) (by show 0 * 512 + n.val = n.val; omega)]; rfl
  | 1 =>
    show extractStridedSlice S128x512 ![0, 512] (prod _ _) slices_S128x1024_o0_512_S128x512 (ix2 r n) = _
    refine (slice2_axis1_apply 512 (prod _ _) slices_S128x1024_o0_512_S128x512 r n ⟨512 + n.val, by omega⟩ rfl).trans ?_
    rw [prod_apply]
    refine Finset.sum_congr rfl fun k _ => ?_
    rw [chunk_apply, leftHalf_apply _ _ _ (colOf 1 n) (by show 1 * 512 + n.val = 512 + n.val; omega)]; rfl
  | 2 =>
    show extractStridedSlice S128x512 ![0, 0] (prod _ _) slices_S128x1024_o0_0_S128x512 (ix2 r n) = _
    refine (slice2_axis1_apply 0 (prod _ _) slices_S128x1024_o0_0_S128x512 r n ⟨n.val, by omega⟩ (Nat.zero_add _).symm).trans ?_
    rw [prod_apply]
    refine Finset.sum_congr rfl fun k _ => ?_
    rw [chunk_apply, rightHalf_apply _ _ _ (colOf 2 n) (by show 2 * 512 + n.val = 1024 + n.val; omega)]; rfl
  | 3 =>
    show extractStridedSlice S128x512 ![0, 512] (prod _ _) slices_S128x1024_o0_512_S128x512 (ix2 r n) = _
    refine (slice2_axis1_apply 512 (prod _ _) slices_S128x1024_o0_512_S128x512 r n ⟨512 + n.val, by omega⟩ rfl).trans ?_
    rw [prod_apply]
    refine Finset.sum_congr rfl fun k _ => ?_
    rw [chunk_apply, rightHalf_apply _ _ _ (colOf 3 n) (by show 3 * 512 + n.val = 1024 + (512 + n.val); omega)]; rfl

/-! ## Around the ring -/

/-- The device `t` places upstream of `c` on lane `l`. -/
def back (l : Fin 4) (c : Dev nD) (t : Fin 32) : Dev nD := if l.val < 2 then ring (place c - t) else ring (place c + t)

theorem ofNat_succ (s : ℕ) : Fin.ofNat 32 (s + 1) = Fin.ofNat 32 s + 1 := by
  apply Fin.ext; simp [Fin.ofNat, Fin.val_add]

theorem place_ring : ∀ k, place (ring k) = k := by decide +kernel
theorem ring_place : ∀ c, ring (place c) = c := by decide +kernel

/-- The ring, as a pairing of places and devices. -/
def ringE : Fin 32 ≃ Fin 32 := ⟨ring, place, place_ring, ring_place⟩

theorem back_zero : ∀ l c, back l c 0 = c := by decide +kernel
theorem back_up : ∀ l c t, back l (up l c) t = back l c (t + 1) := by decide +kernel
theorem chunk_up : ∀ l c s, chunkOf l (up l c) s = chunkOf l c (s + 1) := by decide +kernel
theorem chunk_last : ∀ l c, chunkOf l c 31 = c := by decide +kernel

theorem sum_back (l : Fin 4) (c : Dev nD) (f : Dev nD → EReal) : ∑ t : Fin 32, f (back l c t) = ∑ d : Dev nD, f d := by
  unfold back
  by_cases h : l.val < 2
  · simp only [if_pos h]
    exact (Equiv.sum_comp ((Equiv.subLeft (place c)).trans ringE) f)
  · simp only [if_neg h]
    exact (Equiv.sum_comp ((Equiv.addLeft (place c)).trans ringE) f)

theorem firstVal_apply (p : FVec Ideal S128x512 .f32) (r : Fin 128) (n : Fin 512) :
    firstVal p (ix3 (0 : Fin 1) r n) = p (ix2 r n) := by
  unfold firstVal
  exact (shapeCast_ab_1ab_apply _ _ 0 r n)

theorem nextVal_apply (p : FVec Ideal S128x512 .f32) (v : FVec Ideal S1x128x512 .bf16) (r : Fin 128) (n : Fin 512) :
    nextVal p v (ix3 (0 : Fin 1) r n) = p (ix2 r n) + v (ix3 (0 : Fin 1) r n) := by
  unfold nextVal
  refine (shapeCast_ab_1ab_apply _ _ 0 r n).trans ?_
  show p (ix2 r n) + shapeCast S128x512 v shapeCasts_S1x128x512_S128x512 (ix2 r n) = _
  rw [shapeCast_1ab_ab_apply]

theorem lastVal_apply (g : EReal) (p : FVec Ideal S128x512 .f32) (v : FVec Ideal S1x128x512 .bf16) (r : Fin 128) (n : Fin 512) :
    lastVal g p v (ix2 r n) = (p (ix2 r n) + v (ix3 (0 : Fin 1) r n)) * g := by
  unfold lastVal k0_pay375
  show (p (ix2 r n) + shapeCast S128x512 v _ (ix2 r n)) * g = _
  rw [shapeCast_1ab_ab_apply]

/-- What lane `l` of `c` sends in round `s` is the sum of what the devices from `c` back `s` places contribute to the
    chunk it is passing on. -/
theorem val_apply (I : Ins Ideal) (l : Fin 4) (r : Fin 128) (n : Fin 512) : ∀ (s : ℕ) (c : Dev nD),
    I.val l s c (ix3 (0 : Fin 1) r n)
      = ∑ t ∈ Finset.range (s + 1), share I (back l c (Fin.ofNat 32 t)) (chunkOf l c (Fin.ofNat 32 s)) r (colOf l n)
  | 0, c => by
    show firstVal (I.part l c 0) _ = _
    rw [firstVal_apply, part_apply, Finset.sum_range_one]
    rw [show back l c (Fin.ofNat 32 0) = c from back_zero l c]
  | s + 1, c => by
    show nextVal (I.part l c (s + 1)) (I.val l s (up l c)) _ = _
    rw [nextVal_apply, part_apply, val_apply I l r n s (up l c), Finset.sum_range_succ' _ (s + 1), add_comm,
      show back l c (Fin.ofNat 32 0) = c from back_zero l c]
    congr 1
    refine Finset.sum_congr rfl fun t _ => ?_
    rw [back_up, chunk_up, ← ofNat_succ, ← ofNat_succ]

/-- What device `c` stores: the whole sum over the devices, scaled. -/
theorem out_apply (I : Ins Ideal) (l : Fin 4) (c : Dev nD) (r : Fin 128) (n : Fin 512) :
    I.out l c (ix2 r n) = (∑ d : Dev nD, share I d c r (colOf l n)) * I.scale c := by
  unfold Ins.out
  rw [lastVal_apply, ← nextVal_apply]
  have h := val_apply I l r n 31 c
  rw [show Fin.ofNat 32 31 = (31 : Fin 32) from rfl, chunk_last] at h
  refine congrArg (· * I.scale c) (h.trans ?_)
  rw [← sum_back l c (fun d => share I d c r (colOf l n)), ← Fin.sum_univ_eq_sum_range (fun t => share I (back l c (Fin.ofNat 32 t)) c r (colOf l n)) 32]
  refine Finset.sum_congr rfl fun t _ => ?_
  rw [show Fin.ofNat 32 t.val = t from Fin.ext (Nat.mod_eq_of_lt t.isLt)]

/-- Device `c`'s result at row `r` and column `n`. -/
theorem result_apply (I : Ins Ideal) (c : Dev nD) (r : Fin 128) (n : Fin 2048) :
    result I c (ix2 r n) = (∑ d : Dev nD, share I d c r n) * I.scale c := by
  have hl : n.val / 512 < 4 := by omega
  have hn : n.val % 512 < 512 := Nat.mod_lt _ (by omega)
  have hc : colOf (Fin.ofNat 4 (n.val / 512)) ⟨n.val % 512, hn⟩ = n := by
    apply Fin.ext
    show (n.val / 512) % 4 * 512 + n.val % 512 = n.val
    omega
  have h := out_apply I (Fin.ofNat 4 (n.val / 512)) c r ⟨n.val % 512, hn⟩
  rw [hc] at h
  rw [← h]
  unfold result
  exact congrArg _ (by funext a; match a with | ⟨0, _⟩ => rfl | ⟨1, _⟩ => rfl)

end Cert.Proof

end
-- ==== Proof.Whole.lean ====
/- The value: over the extended reals each device ends with its rows of the scaled product of the whole matrices. -/
module

public import proofs.«01_k».proof.Proof.Value
public import proofs.«01_k».proof.Proof.Gen.ReferenceIdeal.Value
public import Idealize.ShloMosaic.Lib.Layout

@[expose] public section

noncomputable section

namespace Cert.Proof

open Idealize.ShloMosaic Idealize.ShloMosaic.ValueIdx
open Cert.KernelIdeal
open scoped BigOperators

/-! ## The reference at an index -/

/-- The one product of the two scales. -/
def scaleOf (sx sw : (⟨1, ![1]⟩ : Shape).Idx → EReal) : EReal := sx (ix1 (0 : Fin 1)) * sw (ix1 (0 : Fin 1))

/-- Every index of a one-element vector is the first. -/
theorem only_index (i : (⟨1, ![1]⟩ : Shape).Idx) : i = ix1 (0 : Fin 1) := by
  funext a
  match a with
  | ⟨0, _⟩ => exact Fin.ext (Nat.lt_one_iff.1 (i 0).isLt)

/-- The scaled product of the whole matrices, at row `p` and column `n`. -/
theorem whole_apply (X : Vec Ideal Cert.ReferenceIdeal.S4096x4096 .fp8e5m2) (W : Vec Ideal Cert.ReferenceIdeal.S4096x2048 .fp8e5m2)
    (sx sw : Vec Ideal Cert.ReferenceIdeal.S1 .f32) (p : Fin 4096) (n : Fin 2048) :
    Cert.ReferenceIdeal.Value.G4 X W sx sw (ix2 p n)
      = (∑ K : Fin 4096, X (ix2 p K) * W (ix2 K n)) * scaleOf sx sw := by
  unfold Cert.ReferenceIdeal.Value.G4 Cert.ReferenceIdeal.Gen.k0_pay1
  show FloatOps.matmul (DotDims.plain 4096 4096 2048) none
      (extf (F := Ideal) (s := Cert.ReferenceIdeal.S4096x4096) (φ := .fp8e5m2) .f32 X Cert.ReferenceIdeal.Gen.facts.bitsLt_fp8e5m2_f32)
      (extf (F := Ideal) (s := Cert.ReferenceIdeal.S4096x2048) (φ := .fp8e5m2) .f32 W Cert.ReferenceIdeal.Gen.facts.bitsLt_fp8e5m2_f32)
      (constant Cert.ReferenceIdeal.S4096x2048 .f32 0x00000000#32) (ix2 p n) * (sx _ * sw _) = _
  rw [Ideal.matmul_plain_apply, only_index (Shape.reshapeEquiv _ _)]
  show (Ideal.ofBits .f32 0x00000000#32 + _) * _ = _
  rw [Ideal.ofBits_zero_f32, zero_add]
  rfl

/-! ## The whole sum, device by device -/

/-- A sum over all places is the sum over the devices of the sums over their own places. -/
theorem sum_places (f : Fin 4096 → EReal) : ∑ K : Fin 4096, f K = ∑ d : Fin 32, ∑ k : Fin 128, f (rowOf d k) := by
  rw [← Fintype.sum_prod_type' (fun d k => f (rowOf d k))]
  refine (Equiv.sum_comp (finProdFinEquiv (m := 32) (n := 128)) f).symm.trans ?_
  refine Finset.sum_congr rfl fun q _ => congrArg f (Fin.ext ?_)
  show q.2.val + 128 * q.1.val = q.1.val * 128 + q.2.val
  omega

theorem block_cols {α : Type} (X : (⟨2, ![4096, 4096]⟩ : Shape).Idx → α) (d : Fin 32) (p : Fin 4096) (k : Fin 128) :
    Layout.block ⟨2, ![4096, 128]⟩ ⟨2, ![4096, 4096]⟩ 1 32 d X (by decide) (ix2 p k) = X (ix2 p (rowOf d k)) := by
  refine congrArg X (funext fun a => Fin.ext ?_)
  match a with
  | ⟨0, _⟩ => rfl
  | ⟨1, _⟩ => rfl

theorem block_rows {α : Type} (W : (⟨2, ![4096, 2048]⟩ : Shape).Idx → α) (d : Fin 32) (k : Fin 128) (n : Fin 2048) :
    Layout.block ⟨2, ![128, 2048]⟩ ⟨2, ![4096, 2048]⟩ 0 32 d W (by decide) (ix2 k n) = W (ix2 (rowOf d k) n) := by
  refine congrArg W (funext fun a => Fin.ext ?_)
  match a with
  | ⟨0, _⟩ => rfl
  | ⟨1, _⟩ => rfl

theorem scale_eq (I : Ins Ideal) (c : Dev nD) : I.scale c = scaleOf (I.sx c) (I.sw c) := by
  show I.sx c _ * I.sw c _ = _
  rw [only_index (fun a => _)]
  rfl

/-- Where each device holds its columns of `X`, its rows of `W` and the two scales, device `c` ends with rows
    `128 c … 128 c + 127` of the scaled product. -/
theorem result_block (I : Ins Ideal) (X : Vec Ideal Cert.ReferenceIdeal.S4096x4096 .fp8e5m2)
    (W : Vec Ideal Cert.ReferenceIdeal.S4096x2048 .fp8e5m2) (sx sw : Vec Ideal Cert.ReferenceIdeal.S1 .f32)
    (hx : ∀ d, I.x d = Layout.block ⟨2, ![4096, 128]⟩ ⟨2, ![4096, 4096]⟩ 1 32 d X)
    (hw : ∀ d, I.w d = Layout.block ⟨2, ![128, 2048]⟩ ⟨2, ![4096, 2048]⟩ 0 32 d W)
    (hsx : ∀ d, I.sx d = sx) (hsw : ∀ d, I.sw d = sw) (c : Dev nD) :
    result I c = Layout.block ⟨2, ![128, 2048]⟩ ⟨2, ![4096, 2048]⟩ 0 32 c (Cert.ReferenceIdeal.Value.G4 X W sx sw) := by
  refine funext fun i => ?_
  obtain ⟨r, n, rfl⟩ : ∃ (r : Fin 128) (n : Fin 2048), i = ix2 r n := ⟨i 0, i 1, eq_ix2 i⟩
  rw [result_apply]
  refine Eq.trans ?_ (block_rows (Cert.ReferenceIdeal.Value.G4 X W sx sw) c r n).symm
  rw [whole_apply, scale_eq, hsx, hsw, sum_places]
  refine congrArg (· * scaleOf sx sw) (Finset.sum_congr rfl fun d _ => ?_)
  unfold share
  refine Finset.sum_congr rfl fun k _ => ?_
  rw [hx, hw, block_cols, block_rows]

end Cert.Proof

end
-- ==== Proof.Algebraic.lean ====
/- The kernel on its devices and the reference on one end with the same values, device by device. -/
module

public import proofs.«01_k».proof.Defs
public import proofs.«01_k».proof.Proof.Launch
public import proofs.«01_k».proof.Proof.Whole

@[expose] public section

noncomputable section

namespace Cert.Proof

open Idealize.ShloMosaic Idealize.ShloMosaic.TcCoe Idealize.SL.Sem

theorem algebraic : Cert.algebraic_KernelIdeal_ReferenceIdeal (hKernelIdeal := Cert.KernelIdeal.Gen.facts)
    (hReferenceIdeal := Cert.ReferenceIdeal.Gen.facts) := fun m g m' g' _ h =>
  ⟨Cert.ReferenceIdeal.Value.G4 (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono
      (fun _ e c => ⟨(e.1 c).2.trans (result_block (insOf m) _ _ _ _ (fun d => (h d).1) (fun d => (h d).2.1)
          (fun d => (h d).2.2.1) (fun d => (h d).2.2.2) c), (e.1 c).1⟩)
      (run_main (F := Ideal) m g),
    (θ_run Cert.ReferenceIdeal.defs _ _).mono (fun _ e => e 0) (Cert.ReferenceIdeal.Value.run (F := Ideal) m' g')⟩

end Cert.Proof

end
-- ==== Proof.lean ====
/- The certificate: the kernel ends quiescent with its arguments kept, over bits and over the extended reals, as does the
   reference; and over the extended reals each device of the kernel ends with its rows of what the reference computes. -/
module

public import proofs.«01_k».proof.Defs
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
